-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def preserves_Kernel_KernelIdeal : Prop :=
  IdealRules.named_const.Statement Cert.KernelIdeal.κ "g0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "g1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "g2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "g3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v69_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v69_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v87_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_v55) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v43) = v0 c
          ∧ r.2.mem ((c.tc : Thread Cert.Reference6Ideal.nD Cert.Reference6Ideal.τ).loc Cert.Reference6Ideal.main_v48) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v46) = v0 c
          ∧ r.2.mem ((c.tc : Thread Cert.Reference8Ideal.nD Cert.Reference8Ideal.τ).loc Cert.Reference8Ideal.main_v52) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v31_0)) (v1 : (c : Dev Cert.Kernel9Ideal.nD) → Buf (Elt Ideal) ((c.tc : Thread Cert.Kernel9Ideal.nD Cert.Kernel9Ideal.τ).loc Cert.Kernel9Ideal.main_v31_1)) (v2 : (c : Dev Cert.Kernel9Ideal.nD) → Buf (Elt Ideal) ((c.tc : Thread Cert.Kernel9Ideal.nD Cert.Kernel9Ideal.τ).loc Cert.Kernel9Ideal.main_v31_2)) (v3 : (c : Dev Cert.Kernel9Ideal.nD) → Buf (Elt Ideal) ((c.tc : Thread Cert.Kernel9Ideal.nD Cert.Kernel9Ideal.τ).loc Cert.Kernel9Ideal.main_v31_3)) (v4 : (c : Dev Cert.Kernel9Ideal.nD) → Buf (Elt Ideal) ((c.tc : Thread Cert.Kernel9Ideal.nD Cert.Kernel9Ideal.τ).loc Cert.Kernel9Ideal.main_v31_6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v31_0) = v0 c
          ∧ r.2.mem ((c.tc : Thread Cert.Kernel9Ideal.nD Cert.Kernel9Ideal.τ).loc Cert.Kernel9Ideal.main_v31_1) = v1 c
          ∧ r.2.mem ((c.tc : Thread Cert.Kernel9Ideal.nD Cert.Kernel9Ideal.τ).loc Cert.Kernel9Ideal.main_v31_2) = v2 c
          ∧ r.2.mem ((c.tc : Thread Cert.Kernel9Ideal.nD Cert.Kernel9Ideal.τ).loc Cert.Kernel9Ideal.main_v31_3) = v3 c
          ∧ r.2.mem ((c.tc : Thread Cert.Kernel9Ideal.nD Cert.Kernel9Ideal.τ).loc Cert.Kernel9Ideal.main_v31_6) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v126) = v0 c
          ∧ r.2.mem ((c.tc : Thread Cert.Reference9Ideal.nD Cert.Reference9Ideal.τ).loc Cert.Reference9Ideal.main_v127) = v1 c
          ∧ r.2.mem ((c.tc : Thread Cert.Reference9Ideal.nD Cert.Reference9Ideal.τ).loc Cert.Reference9Ideal.main_v128) = v2 c
          ∧ r.2.mem ((c.tc : Thread Cert.Reference9Ideal.nD Cert.Reference9Ideal.τ).loc Cert.Reference9Ideal.main_v121) = v3 c
          ∧ r.2.mem ((c.tc : Thread Cert.Reference9Ideal.nD Cert.Reference9Ideal.τ).loc Cert.Reference9Ideal.main_v129) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_qkv.lean ====
abbrev S16384x13312 : Shape := ⟨2, ![16384, 13312]⟩
abbrev S1x1024 : Shape := ⟨2, ![1, 1024]⟩
abbrev S16384x2048 : Shape := ⟨2, ![16384, 2048]⟩
abbrev S_ : Shape := ⟨0, ![]⟩

class Facts : Prop where
  slices_S16384x13312_S16384x2048_0_0 : S16384x13312.Slices ![0, 0] S16384x2048
  bitsLt_bf16_f32 : FTy.bits .bf16 < FTy.bits .f32
  bcast_S_S16384x2048 : S_.BroadcastsInDim S16384x2048 (![] : Fin 0 → Fin S16384x2048.rank)

variable [Facts]

def fn {F : FTy → Type} [FloatOps F] (main_arg0 : FVec F S16384x13312 .bf16) (main_arg1 : FVec F S1x1024 .f32) : IVec S16384x2048 1 :=
  let main_v0 : FVec F S16384x2048 .bf16 := (extractStridedSlice S16384x2048 ![0, 0] · slices_S16384x13312_S16384x2048_0_0) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  main_v4
-- ==== Kernel.lean ====
abbrev S16384x13312 : Shape := ⟨2, ![16384, 13312]⟩
abbrev S1x1024 : Shape := ⟨2, ![1, 1024]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x256x128 : Shape := ⟨3, ![4, 256, 128]⟩
abbrev S2048 : Shape := ⟨1, ![2048]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S16384x1024 : Shape := ⟨2, ![16384, 1024]⟩
abbrev S8x4x128x256 : Shape := ⟨4, ![8, 4, 128, 256]⟩
abbrev S256x512 : Shape := ⟨2, ![256, 512]⟩
abbrev S256x1024 : Shape := ⟨2, ![256, 1024]⟩
abbrev S256x128 : Shape := ⟨2, ![256, 128]⟩
abbrev S1x4x128x256 : Shape := ⟨4, ![1, 4, 128, 256]⟩
abbrev S4x128x256 : Shape := ⟨3, ![4, 128, 256]⟩
abbrev S1x128x256 : Shape := ⟨3, ![1, 128, 256]⟩
abbrev S128x256 : Shape := ⟨2, ![128, 256]⟩
abbrev S1x256x128 : Shape := ⟨3, ![1, 256, 128]⟩

abbrev nBuf : Space → Nat
  | .hbm => 87
  | .vmem => 25
  | .smem => 0
  | _ => 0

abbrev bufTy : (tb : Table) → Fin (tcTables nBuf tb) → BufTy
  | .hbm, ⟨0, _⟩ => ⟨S16384x13312, .bf16⟩
  | .hbm, ⟨1, _⟩ => ⟨S1x1024, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S256, .i32⟩
  | .hbm, ⟨12, _⟩ => ⟨S256x1, .i32⟩
  | .hbm, ⟨13, _⟩ => ⟨S1x256, .i32⟩
  | .hbm, ⟨14, _⟩ => ⟨S256x256, .i32⟩
  | .hbm, ⟨15, _⟩ => ⟨S256x256, .i32⟩
  | .hbm, ⟨16, _⟩ => ⟨S256x256, .i32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .i1⟩
  | .hbm, ⟨21, _⟩ => ⟨S4x1x1, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S1x256x256, .f32⟩
  | .hbm, ⟨26, _⟩ => ⟨S4x256x256, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S_, .f32⟩
  | .hbm, ⟨32, _⟩ => ⟨S4x256x256, .i1⟩
  | .hbm, ⟨33, _⟩ => ⟨S4x256x256, .f32⟩
  | .hbm, ⟨34, _⟩ => ⟨S4x256x256, .f32⟩
  | .hbm, ⟨35, _⟩ => ⟨S4x1, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S1x256, .f32⟩
  | .hbm, ⟨41, _⟩ => ⟨S4x256, .f32⟩
  | .hbm, ⟨42, _⟩ => ⟨S4x256, .f32⟩
  | .hbm, ⟨43, _⟩ => ⟨S4x256, .f32⟩
  | .hbm, ⟨44, _⟩ => ⟨S4x256, .f32⟩
  | .hbm, ⟨45, _⟩ => ⟨S4x1, .f32⟩
  | .hbm, ⟨46, _⟩ => ⟨S256, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S1x256, .f32⟩
  | .hbm, ⟨51, _⟩ => ⟨S4x256, .f32⟩
  | .hbm, ⟨52, _⟩ => ⟨S4x256, .f32⟩
  | .hbm, ⟨53, _⟩ => ⟨S4x256, .f32⟩
  | .hbm, ⟨54, _⟩ => ⟨S4x256, .f32⟩
  | .hbm, ⟨55, _⟩ => ⟨S4x256x1, .f32⟩
  | .hbm, ⟨56, _⟩ => ⟨S4x256x128, .f32⟩
  | .hbm, ⟨57, _⟩ => ⟨S4x256x1, .f32⟩
  | .hbm, ⟨58, _⟩ => ⟨S4x256x128, .f32⟩
  | .hbm, ⟨59, _⟩ => ⟨S2048, .i32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S2048, .f32⟩
  | .hbm, ⟨69, _⟩ => ⟨S2048x1, .f32⟩
  | .hbm, ⟨70, _⟩ => ⟨S1x64, .f32⟩
  | .hbm, ⟨71, _⟩ => ⟨S2048x64, .f32⟩
  | .hbm, ⟨72, _⟩ => ⟨S2048x64, .f32⟩
  | .hbm, ⟨73, _⟩ => ⟨S2048x64, .f32⟩
  | .hbm, ⟨74, _⟩ => ⟨S2048x64, .f32⟩
  | .hbm, ⟨75, _⟩ => ⟨S2048x64, .f32⟩
  | .hbm, ⟨76, _⟩ => ⟨S2048x128, .f32⟩
  | .hbm, ⟨77, _⟩ => ⟨S2048x64, .f32⟩
  | .hbm, ⟨78, _⟩ => ⟨S2048x128, .f32⟩
  | .hbm, ⟨79, _⟩ => ⟨S_, .f32⟩
  | .hbm, ⟨80, _⟩ => ⟨S2048x128, .f32⟩
  | .hbm, ⟨81, _⟩ => ⟨S2048x128, .f32⟩
  | .hbm, ⟨82, _⟩ => ⟨S_, .f32⟩
  | .hbm, ⟨83, _⟩ => ⟨S2048x128, .f32⟩
  | .hbm, ⟨84, _⟩ => ⟨S2048x128, .f32⟩
  | .hbm, ⟨85, _⟩ => ⟨S16384x1024, .bf16⟩
  | .hbm, ⟨86, _⟩ => ⟨S8x4x128x256, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S4x256x256, .f32⟩
  | .local _ .vmem, ⟨17, _⟩ => ⟨S4x256x128, .f32⟩
  | .local _ .vmem, ⟨18, _⟩ => ⟨S4x256x128, .f32⟩
  | .local _ .vmem, ⟨19, _⟩ => ⟨S1x1024, .f32⟩
  | .local _ .vmem, ⟨20, _⟩ => ⟨S256x1024, .bf16⟩
  | .local _ .vmem, ⟨21, _⟩ => ⟨S256x1024, .bf16⟩
  | .local _ .vmem, ⟨22, _⟩ => ⟨S1x4x128x256, .f32⟩
  | .local _ .vmem, ⟨23, _⟩ => ⟨S1x4x128x256, .f32⟩
  | .local _ .vmem, ⟨24, _⟩ => ⟨S4x128x256, .f32⟩
  | _, _ => ⟨S16384x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_8 : Ref sig .tc := ⟨.hbm, 79, rfl⟩
abbrev main_v65 : Ref sig .tc := ⟨.hbm, 80, rfl⟩
abbrev main_v66 : Ref sig .tc := ⟨.hbm, 81, rfl⟩
abbrev main_cst_9 : Ref sig .tc := ⟨.hbm, 82, rfl⟩
abbrev main_v67 : Ref sig .tc := ⟨.hbm, 83, rfl⟩
abbrev main_v68 : Ref sig .tc := ⟨.hbm, 84, rfl⟩
abbrev main_v69_0 : Ref sig .tc := ⟨.hbm, 85, rfl⟩
abbrev main_v69_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v303 : BitVec 1 := Scalar.cmpi .eq arg1 c7_i32
  let v304 : BitVec 32 := Scalar.extui v303
  let c0_i32_166 : BitVec 32 := 0#32
  let v305 : BitVec 1 := Scalar.cmpi .ne v304 c0_i32_166
  v305

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "g0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "g1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "g2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "g3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | _ => none
-- ==== ReferenceIdeal.lean ====
abbrev S16384x13312 : Shape := ⟨2, ![16384, 13312]⟩
abbrev S1x1024 : Shape := ⟨2, ![1, 1024]⟩
abbrev S16384x512 : Shape := ⟨2, ![16384, 512]⟩
abbrev S8x2048x512 : Shape := ⟨3, ![8, 2048, 512]⟩
abbrev S16384x1024 : Shape := ⟨2, ![16384, 1024]⟩
abbrev S8x2048x1024 : Shape := ⟨3, ![8, 2048, 1024]⟩
abbrev S2048 : Shape := ⟨1, ![2048]⟩
abbrev S8x2048x4x128 : Shape := ⟨4, ![8, 2048, 4, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S8x2048x4x64 : Shape := ⟨4, ![8, 2048, 4, 64]⟩
abbrev S8x2048x4x256 : Shape := ⟨4, ![8, 2048, 4, 256]⟩
abbrev S4 : Shape := ⟨1, ![4]⟩
abbrev S1x4x1x1 : Shape := ⟨4, ![1, 4, 1, 1]⟩
abbrev S8x4x128x256 : Shape := ⟨4, ![8, 4, 128, 256]⟩
abbrev S2048x8x4x128 : Shape := ⟨4, ![2048, 8, 4, 128]⟩
abbrev S2048x8x4x256 : Shape := ⟨4, ![2048, 8, 4, 256]⟩
abbrev S1x8x4x128 : Shape := ⟨4, ![1, 8, 4, 128]⟩
abbrev S8x4x128 : Shape := ⟨3, ![8, 4, 128]⟩
abbrev S1x8x4x256 : Shape := ⟨4, ![1, 8, 4, 256]⟩
abbrev S8x4x256 : Shape := ⟨3, ![8, 4, 256]⟩
abbrev S8x4x128x1 : Shape := ⟨4, ![8, 4, 128, 1]⟩
abbrev S8x4x1x256 : Shape := ⟨4, ![8, 4, 1, 256]⟩
abbrev S4x256 : Shape := ⟨2, ![4, 256]⟩
abbrev S8x2048x4 : Shape := ⟨3, ![8, 2048, 4]⟩
abbrev S8x2048x4x1 : Shape := ⟨4, ![8, 2048, 4, 1]⟩
abbrev S1x1x4x256 : Shape := ⟨4, ![1, 1, 4, 256]⟩

abbrev nBuf : Space → Nat
  | .hbm => 181
  | .vmem => 0
  | .smem => 0
  | _ => 0

abbrev hbmTy0_0 (i : Nat) : BufTy := match i % 128 with
  | 0 => ⟨S16384x13312, .bf16⟩
  | 1 => ⟨S1x1024, .f32⟩
  | 2 => ⟨S16384x512, .bf16⟩
  | 3 => ⟨S16384x512, .f32⟩
  | 4 => ⟨S8x2048x512, .f32⟩
  | 5 => ⟨S16384x512, .bf16⟩
  | 6 => ⟨S16384x512, .f32⟩
  | 7 => ⟨S8x2048x512, .f32⟩
  | 8 => ⟨S16384x1024, .bf16⟩
  | 9 => ⟨S16384x1024, .f32⟩
  | 10 => ⟨S8x2048x1024, .f32⟩
  | 11 => ⟨S2048, .i32⟩
  | 12 => ⟨S8x2048x4x128, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S2048, .f32⟩
  | 22 => ⟨S2048x1, .f32⟩
  | 23 => ⟨S1x64, .f32⟩
  | 24 => ⟨S2048x64, .f32⟩
  | 25 => ⟨S2048x64, .f32⟩
  | 26 => ⟨S2048x64, .f32⟩
  | 27 => ⟨S2048x64, .f32⟩
  | 28 => ⟨S1x2048x1x64, .f32⟩
  | 29 => ⟨S2048x64, .f32⟩
  | 30 => ⟨S1x2048x1x64, .f32⟩
  | 31 => ⟨S8x2048x4x64, .f32⟩
  | 32 => ⟨S8x2048x4x64, .f32⟩
  | 33 => ⟨S8x2048x4x64, .f32⟩
  | 34 => ⟨S8x2048x4x64, .f32⟩
  | 35 => ⟨S8x2048x4x64, .f32⟩
  | 36 => ⟨S8x2048x4x64, .f32⟩
  | 37 => ⟨S8x2048x4x64, .f32⟩
  | 38 => ⟨S8x2048x4x64, .f32⟩
  | 39 => ⟨S8x2048x4x64, .f32⟩
  | 40 => ⟨S8x2048x4x64, .f32⟩
  | 41 => ⟨S8x2048x4x64, .f32⟩
  | 42 => ⟨S8x2048x4x64, .f32⟩
  | 43 => ⟨S8x2048x4x128, .f32⟩
  | 44 => ⟨S8x2048x4x128, .f32⟩
  | 45 => ⟨S64, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S2048, .f32⟩
  | 54 => ⟨S2048x1, .f32⟩
  | 55 => ⟨S1x64, .f32⟩
  | 56 => ⟨S2048x64, .f32⟩
  | 57 => ⟨S2048x64, .f32⟩
  | 58 => ⟨S2048x64, .f32⟩
  | 59 => ⟨S2048x64, .f32⟩
  | 60 => ⟨S1x2048x1x64, .f32⟩
  | 61 => ⟨S2048x64, .f32⟩
  | 62 => ⟨S1x2048x1x64, .f32⟩
  | 63 => ⟨S8x2048x4x64, .f32⟩
  | 64 => ⟨S8x2048x4x64, .f32⟩
  | 65 => ⟨S8x2048x4x64, .f32⟩
  | 66 => ⟨S8x2048x4x64, .f32⟩
  | 67 => ⟨S8x2048x4x64, .f32⟩
  | 68 => ⟨S8x2048x4x64, .f32⟩
  | 69 => ⟨S8x2048x4x64, .f32⟩
  | 70 => ⟨S8x2048x4x64, .f32⟩
  | 71 => ⟨S8x2048x4x64, .f32⟩
  | 72 => ⟨S8x2048x4x64, .f32⟩
  | 73 => ⟨S8x2048x4x64, .f32⟩
  | 74 => ⟨S8x2048x4x64, .f32⟩
  | 75 => ⟨S8x2048x4x128, .f32⟩
  | 76 => ⟨S_, .f32⟩
  | 77 => ⟨S8x2048x4x128, .f32⟩
  | 78 => ⟨S8x2048x4x128, .f32⟩
  | 79 => ⟨S8x2048x4x256, .f32⟩
  | 80 => ⟨S4, .f32⟩
  | 81 => ⟨S_, .f32⟩
  | 82 => ⟨S4, .f32⟩
  | 83 => ⟨S4, .f32⟩
  | 84 => ⟨S_, .f32⟩
  | 85 => ⟨S4, .f32⟩
  | 86 => ⟨S4, .f32⟩
  | 87 => ⟨S4, .f32⟩
  | 88 => ⟨S4, .f32⟩
  | 89 => ⟨S4, .f32⟩
  | 90 => ⟨S1x4x1x1, .f32⟩
  | 91 => ⟨S_, .f32⟩
  | 92 => ⟨S8x4x128x256, .f32⟩
  | 93 => ⟨S2048x8x4x128, .f32⟩
  | 94 => ⟨S2048x8x4x128, .f32⟩
  | 95 => ⟨S2048x8x4x256, .f32⟩
  | 96 => ⟨S_, .f32⟩
  | 97 => ⟨S2048x8x4x256, .f32⟩
  | 98 => ⟨S_, .i32⟩
  | 99 => ⟨S2048x8x4x128, .f32⟩
  | 100 => ⟨S2048x8x4x128, .f32⟩
  | 101 => ⟨S2048x8x4x256, .f32⟩
  | 102 => ⟨S1x4x1x1, .f32⟩
  | 103 => ⟨S_, .i32⟩
  | 104 => ⟨S8x4x128x256, .f32⟩
  | 105 => ⟨S2048x8x4x256, .f32⟩
  | 106 => ⟨S_, .i32⟩
  | 107 => ⟨S_, .i1⟩
  | 108 => ⟨S_, .i32⟩
  | 109 => ⟨S_, .i32⟩
  | 110 => ⟨S_, .i32⟩
  | 111 => ⟨S1x8x4x128, .f32⟩
  | 112 => ⟨S8x4x128, .f32⟩
  | 113 => ⟨S_, .i32⟩
  | 114 => ⟨S_, .i32⟩
  | 115 => ⟨S_, .i32⟩
  | 116 => ⟨S1x8x4x128, .f32⟩
  | 117 => ⟨S8x4x128, .f32⟩
  | 118 => ⟨S_, .i32⟩
  | 119 => ⟨S_, .i32⟩
  | 120 => ⟨S_, .i32⟩
  | 121 => ⟨S1x8x4x256, .f32⟩
  | 122 => ⟨S8x4x256, .f32⟩
  | 123 => ⟨S8x4x128x256, .f32⟩
  | 124 => ⟨S8x4x128x256, .f32⟩
  | 125 => ⟨S8x4x128x1, .f32⟩
  | 126 => ⟨S8x4x1x256, .f32⟩
  | 127 => ⟨S8x4x128x256, .f32⟩
  | _ => ⟨S16384x13312, .bf16⟩

abbrev hbmTy0_1 (i : Nat) : BufTy := match i % 128 with
  | 0 => ⟨S8x4x128x256, .f32⟩
  | 1 => ⟨S8x4x128x256, .f32⟩
  | 2 => ⟨S8x4x128x256, .f32⟩
  | 3 => ⟨S8x4x256, .f32⟩
  | 4 => ⟨S1x8x4x256, .f32⟩
  | 5 => ⟨S_, .i32⟩
  | 6 => ⟨S_, .i32⟩
  | 7 => ⟨S_, .i32⟩
  | 8 => ⟨S2048x8x4x256, .f32⟩
  | 9 => ⟨S_, .i32⟩
  | 10 => ⟨S_, .i32⟩
  | 11 => ⟨S8x2048x4x256, .f32⟩
  | 12 => ⟨S4x256, .f32⟩
  | 13 => ⟨S_, .f32⟩
  | 14 => ⟨S8x2048x4, .f32⟩
  | 15 => ⟨S8x2048x4x1, .f32⟩
  | 16 => ⟨S_, .f32⟩
  | 17 => ⟨S8x2048x4x1, .f32⟩
  | 18 => ⟨S8x2048x4x1, .f32⟩
  | 19 => ⟨S8x2048x4x256, .f32⟩
  | 20 => ⟨S8x2048x4x256, .f32⟩
  | 21 => ⟨S8x2048x4x256, .f32⟩
  | 22 => ⟨S_, .f32⟩
  | 23 => ⟨S8x2048x4, .f32⟩
  | 24 => ⟨S8x2048x4x1, .f32⟩
  | 25 => ⟨S_, .f32⟩
  | 26 => ⟨S8x2048x4x1, .f32⟩
  | 27 => ⟨S8x2048x4x1, .f32⟩
  | 28 => ⟨S_, .f32⟩
  | 29 => ⟨S8x2048x4x1, .f32⟩
  | 30 => ⟨S8x2048x4x1, .f32⟩
  | 31 => ⟨S8x2048x4x1, .f32⟩
  | 32 => ⟨S8x2048x4x256, .f32⟩
  | 33 => ⟨S8x2048x4x256, .f32⟩
  | 34 => ⟨S1x1x4x256, .f32⟩
  | 35 => ⟨S8x2048x4x256, .f32⟩
  | 36 => ⟨S8x2048x4x256, .f32⟩
  | 37 => ⟨S8x2048x1024, .f32⟩
  | 38 => ⟨S16384x1024, .bf16⟩
  | 39 => ⟨S16384x1024, .f32⟩
  | 40 => ⟨S8x2048x1024, .f32⟩
  | 41 => ⟨S8x2048x1024, .f32⟩
  | 42 => ⟨S8x2048x1024, .f32⟩
  | 43 => ⟨S_, .f32⟩
  | 44 => ⟨S8x2048x1024, .f32⟩
  | 45 => ⟨S8x2048x1024, .f32⟩
  | 46 => ⟨S_, .f32⟩
  | 47 => ⟨S8x2048x1024, .f32⟩
  | 48 => ⟨S8x2048x1024, .f32⟩
  | 49 => ⟨S8x2048x1024, .f32⟩
  | 50 => ⟨S8x2048x1024, .f32⟩
  | 51 => ⟨S8x2048x1024, .bf16⟩
  | 52 => ⟨S16384x1024, .bf16⟩
  | _ => ⟨S16384x13312, .bf16⟩

abbrev hbmTy (i : Nat) : BufTy := match i / 128 with
  | 0 => hbmTy0_0 i
  | 1 => hbmTy0_1 i
  | _ => ⟨S16384x13312, .bf16⟩

abbrev bufTy : (tb : Table) → Fin (tcTables nBuf tb) → BufTy
  | .hbm, ⟨i, _⟩ => hbmTy i
  | _, _ => ⟨S16384x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_cst_3 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_cst_4 : Ref sig .tc := ⟨.hbm, 81, rfl⟩
abbrev main_v74 : Ref sig .tc := ⟨.hbm, 82, rfl⟩
abbrev main_v75 : Ref sig .tc := ⟨.hbm, 83, rfl⟩
abbrev main_cst_5 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_cst_6 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_7 : Ref sig .tc := ⟨.hbm, 96, rfl⟩
abbrev main_v86 : Ref sig .tc := ⟨.hbm, 97, rfl⟩
abbrev main_c : Ref sig .tc := ⟨.hbm, 98, rfl⟩
abbrev main_v87_0 : Ref sig .tc := ⟨.hbm, 99, rfl⟩
abbrev main_v87_1 : Ref sig .tc := ⟨.hbm, 100, rfl⟩
abbrev main_v87_2 : Ref sig .tc := ⟨.hbm, 101, rfl⟩
abbrev main_v87_3 : Ref sig .tc := ⟨.hbm, 102, rfl⟩
abbrev main_v87_4 : Ref sig .tc := ⟨.hbm, 103, rfl⟩
abbrev main_v87_5 : Ref sig .tc := ⟨.hbm, 104, rfl⟩
abbrev main_v87_6 : Ref sig .tc := ⟨.hbm, 105, rfl⟩
abbrev main_while0c_c_19 : Ref sig .tc := ⟨.hbm, 106, rfl⟩
abbrev main_while0c_v117 : Ref sig .tc := ⟨.hbm, 107, rfl⟩
abbrev main_while0b_call0_c : Ref sig .tc := ⟨.hbm, 108, rfl⟩
abbrev main_while0b_call0_c_0 : Ref sig .tc := ⟨.hbm, 109, rfl⟩
abbrev main_while0b_call0_c_1 : Ref sig .tc := ⟨.hbm, 110, rfl⟩
abbrev main_while0b_call0_v0 : Ref sig .tc := ⟨.hbm, 111, rfl⟩
abbrev main_while0b_v117 : Ref sig .tc := ⟨.hbm, 112, rfl⟩
abbrev main_while0b_call1_c : Ref sig .tc := ⟨.hbm, 113, rfl⟩
abbrev main_while0b_call1_c_0 : Ref sig .tc := ⟨.hbm, 114, rfl⟩
abbrev main_while0b_call1_c_1 : Ref sig .tc := ⟨.hbm, 115, rfl⟩
abbrev main_while0b_call1_v0 : Ref sig .tc := ⟨.hbm, 116, rfl⟩
abbrev main_while0b_v118 : Ref sig .tc := ⟨.hbm, 117, rfl⟩
abbrev main_while0b_call2_c : Ref sig .tc := ⟨.hbm, 118, rfl⟩
abbrev main_while0b_call2_c_0 : Ref sig .tc := ⟨.hbm, 119, rfl⟩
abbrev main_while0b_call2_c_1 : Ref sig .tc := ⟨.hbm, 120, rfl⟩
abbrev main_while0b_call2_v0 : Ref sig .tc := ⟨.hbm, 121, rfl⟩
abbrev main_while0b_v119 : Ref sig .tc := ⟨.hbm, 122, rfl⟩
abbrev main_while0b_v120 : Ref sig .tc := ⟨.hbm, 123, rfl⟩
abbrev main_while0b_v121 : Ref sig .tc := ⟨.hbm, 124, rfl⟩
abbrev main_while0b_v122 : Ref sig .tc := ⟨.hbm, 125, rfl⟩
abbrev main_while0b_v123 : Ref sig .tc := ⟨.hbm, 126, rfl⟩
abbrev main_while0b_v124 : Ref sig .tc := ⟨.hbm, 127, rfl⟩
abbrev main_while0b_v125 : Ref sig .tc := ⟨.hbm, 128, rfl⟩
abbrev main_while0b_v126 : Ref sig .tc := ⟨.hbm, 129, rfl⟩
abbrev main_while0b_v127 : Ref sig .tc := ⟨.hbm, 130, rfl⟩
abbrev main_while0b_v128 : Ref sig .tc := ⟨.hbm, 131, rfl⟩
abbrev main_while0b_call3_v0 : Ref sig .tc := ⟨.hbm, 132, rfl⟩
abbrev main_while0b_call3_c : Ref sig .tc := ⟨.hbm, 133, rfl⟩
abbrev main_while0b_call3_c_0 : Ref sig .tc := ⟨.hbm, 134, rfl⟩
abbrev main_while0b_call3_c_1 : Ref sig .tc := ⟨.hbm, 135, rfl⟩
abbrev main_while0b_v129 : Ref sig .tc := ⟨.hbm, 136, rfl⟩
abbrev main_while0b_c_19 : Ref sig .tc := ⟨.hbm, 137, rfl⟩
abbrev main_while0b_v130 : Ref sig .tc := ⟨.hbm, 138, rfl⟩
abbrev main_v88 : Ref sig .tc := ⟨.hbm, 139, rfl⟩
abbrev main_v89 : Ref sig .tc := ⟨.hbm, 140, rfl⟩
abbrev main_cst_8 : Ref sig .tc := ⟨.hbm, 141, rfl⟩
abbrev main_v90 : Ref sig .tc := ⟨.hbm, 142, rfl⟩
abbrev main_v91 : Ref sig .tc := ⟨.hbm, 143, rfl⟩
abbrev main_cst_9 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_cst_10 : Ref sig .tc := ⟨.hbm, 150, rfl⟩
abbrev main_v97 : Ref sig .tc := ⟨.hbm, 151, rfl⟩
abbrev main_v98 : Ref sig .tc := ⟨.hbm, 152, rfl⟩
abbrev main_cst_11 : Ref sig .tc := ⟨.hbm, 153, rfl⟩
abbrev main_v99 : Ref sig .tc := ⟨.hbm, 154, rfl⟩
abbrev main_v100 : Ref sig .tc := ⟨.hbm, 155, rfl⟩
abbrev main_cst_12 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_call4_v0 : Ref sig .tc := ⟨.hbm, 169, rfl⟩
abbrev main_call4_v1 : Ref sig .tc := ⟨.hbm, 170, rfl⟩
abbrev main_call4_cst : Ref sig .tc := ⟨.hbm, 171, rfl⟩
abbrev main_call4_v2 : Ref sig .tc := ⟨.hbm, 172, rfl⟩
abbrev main_call4_v3 : Ref sig .tc := ⟨.hbm, 173, rfl⟩
abbrev main_call4_cst_0 : Ref sig .tc := ⟨.hbm, 174, rfl⟩
abbrev main_call4_v4 : Ref sig .tc := ⟨.hbm, 175, rfl⟩
abbrev main_call4_v5 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S16384x1024 : Shape := ⟨2, ![16384, 1024]⟩
abbrev S2x1024x13328 : Shape := ⟨3, ![2, 1024, 13328]⟩
abbrev S2x13328x1024 : Shape := ⟨3, ![2, 13328, 1024]⟩
abbrev S16384x13312 : Shape := ⟨2, ![16384, 13312]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2x1024x13328, .f32⟩
  | .hbm, ⟨2, _⟩ => ⟨S2x13328x1024, .f32⟩
  | .hbm, ⟨3, _⟩ => ⟨S16384x13312, .bf16⟩
  | .local _ .vmem, ⟨0, _⟩ => ⟨S4096x1024, .bf16⟩
  | .local _ .vmem, ⟨1, _⟩ => ⟨S4096x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S4096x1024, .bf16⟩
  | .local _ .vmem, ⟨5, _⟩ => ⟨S4096x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c10_i32 : BitVec 32 := 10#32
  let v1 : BitVec 1 := Scalar.cmpi .sge arg1 c10_i32
  let c2_i32 : BitVec 32 := 2#32
  let c0_i32 : BitVec 32 := 0#32
  let v2 : BitVec 32 := Scalar.select v1 c2_i32 c0_i32
  let v3 : BitVec 32 := Scalar.addi v0 v2
  let c8_i32 : BitVec 32 := 8#32
  let v4 : BitVec 32 := Scalar.muli v3 c8_i32
  let c0_i32_0 : BitVec 32 := 0#32
  let c0_i32_1 : BitVec 32 := 0#32
  let c0_i32_2 : BitVec 32 := 0#32
  ![c0_i32_0.toNat, v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x1024 : Shape := ⟨2, ![16384, 1024]⟩
abbrev S2x1024x13328 : Shape := ⟨3, ![2, 1024, 13328]⟩
abbrev S1x1024x13328 : Shape := ⟨3, ![1, 1024, 13328]⟩
abbrev S1024x13328 : Shape := ⟨2, ![1024, 13328]⟩
abbrev S16384x13328 : Shape := ⟨2, ![16384, 13328]⟩
abbrev S16384x10240 : Shape := ⟨2, ![16384, 10240]⟩
abbrev S16384x3072 : Shape := ⟨2, ![16384, 3072]⟩
abbrev S16384x13312 : Shape := ⟨2, ![16384, 13312]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2x1024x13328, .f32⟩
  | .hbm, ⟨2, _⟩ => ⟨S16384x1024, .f32⟩
  | .hbm, ⟨3, _⟩ => ⟨S1x1024x13328, .f32⟩
  | .hbm, ⟨4, _⟩ => ⟨S1024x13328, .f32⟩
  | .hbm, ⟨5, _⟩ => ⟨S16384x13328, .f32⟩
  | .hbm, ⟨6, _⟩ => ⟨S16384x10240, .f32⟩
  | .hbm, ⟨7, _⟩ => ⟨S16384x3072, .f32⟩
  | .hbm, ⟨8, _⟩ => ⟨S16384x13312, .f32⟩
  | .hbm, ⟨9, _⟩ => ⟨S16384x13312, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024, .f32⟩
  | .hbm, ⟨3, _⟩ => ⟨S2x1024x4096, .f32⟩
  | .hbm, ⟨4, _⟩ => ⟨S2x4096x1024, .f32⟩
  | .hbm, ⟨5, _⟩ => ⟨S1x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16384x1024 : Shape := ⟨2, ![16384, 1024]⟩
abbrev S1024 : Shape := ⟨1, ![1024]⟩
abbrev S2x1024x4096 : Shape := ⟨3, ![2, 1024, 4096]⟩
abbrev S2x4096x1024 : Shape := ⟨3, ![2, 4096, 1024]⟩
abbrev S1x1024x4096 : Shape := ⟨3, ![1, 1024, 4096]⟩
abbrev S1024x4096 : Shape := ⟨2, ![1024, 4096]⟩
abbrev S16384x4096 : Shape := ⟨2, ![16384, 4096]⟩
abbrev S_ : Shape := ⟨0, ![]⟩
abbrev S1x4096x1024 : Shape := ⟨3, ![1, 4096, 1024]⟩
abbrev S4096x1024 : Shape := ⟨2, ![4096, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024, .f32⟩
  | .hbm, ⟨3, _⟩ => ⟨S2x1024x4096, .f32⟩
  | .hbm, ⟨4, _⟩ => ⟨S2x4096x1024, .f32⟩
  | .hbm, ⟨5, _⟩ => ⟨S16384x1024, .f32⟩
  | .hbm, ⟨6, _⟩ => ⟨S1x1024x4096, .f32⟩
  | .hbm, ⟨7, _⟩ => ⟨S1024x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S1x4096x1024, .f32⟩
  | .hbm, ⟨14, _⟩ => ⟨S4096x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel4.lean ====
abbrev S16384x1024 : Shape := ⟨2, ![16384, 1024]⟩
abbrev S16384x13312 : Shape := ⟨2, ![16384, 13312]⟩
abbrev S3x1024x1024 : Shape := ⟨3, ![3, 1024, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1x1024x1024 : Shape := ⟨3, ![1, 1024, 1024]⟩
abbrev S512 : Shape := ⟨1, ![512]⟩
abbrev S512x1 : Shape := ⟨2, ![512, 1]⟩

abbrev nBuf : Space → Nat
  | .hbm => 15
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x13312, .bf16⟩
  | .hbm, ⟨5, _⟩ => ⟨S3x1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S3x1024x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S3x1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_6 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x1024 : Shape := ⟨2, ![16384, 1024]⟩
abbrev S16384x13312 : Shape := ⟨2, ![16384, 13312]⟩
abbrev S3x1024x1024 : Shape := ⟨3, ![3, 1024, 1024]⟩
abbrev S1024x1024 : Shape := ⟨2, ![1024, 1024]⟩
abbrev S1024 : Shape := ⟨1, ![1024]⟩
abbrev S16384x1x1024 : Shape := ⟨3, ![16384, 1, 1024]⟩
abbrev S16384x3x1024 : Shape := ⟨3, ![16384, 3, 1024]⟩
abbrev S3x1024x16384 : Shape := ⟨3, ![3, 1024, 16384]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x13312, .bf16⟩
  | .hbm, ⟨5, _⟩ => ⟨S3x1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S16384x1x1024, .bf16⟩
  | .hbm, ⟨10, _⟩ => ⟨S16384x1x1024, .bf16⟩
  | .hbm, ⟨11, _⟩ => ⟨S16384x1x1024, .bf16⟩
  | .hbm, ⟨12, _⟩ => ⟨S16384x3x1024, .bf16⟩
  | .hbm, ⟨13, _⟩ => ⟨S16384x3x1024, .f32⟩
  | .hbm, ⟨14, _⟩ => ⟨S3x1024x16384, .f32⟩
  | .hbm, ⟨15, _⟩ => ⟨S16384x3x1024, .f32⟩
  | .hbm, ⟨16, _⟩ => ⟨S16384x3072, .bf16⟩
  | .hbm, ⟨17, _⟩ => ⟨S16384x3072, .f32⟩
  | .hbm, ⟨18, _⟩ => ⟨S16384x3x1024, .f32⟩
  | .hbm, ⟨19, _⟩ => ⟨S16384x3x1024, .f32⟩
  | .hbm, ⟨20, _⟩ => ⟨S16384x3x1024, .f32⟩
  | .hbm, ⟨21, _⟩ => ⟨S_, .f32⟩
  | .hbm, ⟨22, _⟩ => ⟨S16384x3x1024, .f32⟩
  | .hbm, ⟨23, _⟩ => ⟨S16384x3x1024, .f32⟩
  | .hbm, ⟨24, _⟩ => ⟨S_, .f32⟩
  | .hbm, ⟨25, _⟩ => ⟨S16384x3x1024, .f32⟩
  | .hbm, ⟨26, _⟩ => ⟨S16384x3x1024, .f32⟩
  | .hbm, ⟨27, _⟩ => ⟨S16384x3x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel5.lean ====
abbrev S2x128x4x128x256 : Shape := ⟨5, ![2, 128, 4, 128, 256]⟩
abbrev S128x1024 : Shape := ⟨2, ![128, 1024]⟩
abbrev S128x13312 : Shape := ⟨2, ![128, 13312]⟩
abbrev S1x1024 : Shape := ⟨2, ![1, 1024]⟩
abbrev S16x8x1024 : Shape := ⟨3, ![16, 8, 1024]⟩
abbrev S16x1024x8 : Shape := ⟨3, ![16, 1024, 8]⟩
abbrev S1x8x4x128x256 : Shape := ⟨5, ![1, 8, 4, 128, 256]⟩
abbrev S1x1024x8 : Shape := ⟨3, ![1, 1024, 8]⟩
abbrev S8x1024 : Shape := ⟨2, ![8, 1024]⟩
abbrev S1x128x1 : Shape := ⟨3, ![1, 128, 1]⟩
abbrev S128x1 : Shape := ⟨2, ![128, 1]⟩
abbrev S1x1x1x128x256 : Shape := ⟨5, ![1, 1, 1, 128, 256]⟩
abbrev S128x256 : Shape := ⟨2, ![128, 256]⟩
abbrev S1x256 : Shape := ⟨2, ![1, 256]⟩
abbrev S256 : Shape := ⟨1, ![256]⟩
abbrev S8x256 : Shape := ⟨2, ![8, 256]⟩
abbrev S8 : Shape := ⟨1, ![8]⟩
abbrev S8x1 : Shape := ⟨2, ![8, 1]⟩

abbrev nBuf : Space → Nat
  | .hbm => 9
  | .vmem => 14
  | .smem => 0
  | _ => 0

abbrev bufTy : (tb : Table) → Fin (tcTables nBuf tb) → BufTy
  | .hbm, ⟨0, _⟩ => ⟨S2x128x4x128x256, .f32⟩
  | .hbm, ⟨1, _⟩ => ⟨S2x128x4x128x256, .f32⟩
  | .hbm, ⟨2, _⟩ => ⟨S128x1024, .f32⟩
  | .hbm, ⟨3, _⟩ => ⟨S128x13312, .f32⟩
  | .hbm, ⟨4, _⟩ => ⟨S1x1024, .f32⟩
  | .hbm, ⟨5, _⟩ => ⟨S16x8x1024, .f32⟩
  | .hbm, ⟨6, _⟩ => ⟨S16x1024x8, .f32⟩
  | .hbm, ⟨7, _⟩ => ⟨S128x1024, .f32⟩
  | .hbm, ⟨8, _⟩ => ⟨S2x128x4x128x256, .f32⟩
  | .local _ .vmem, ⟨0, _⟩ => ⟨S1x8x4x128x256, .f32⟩
  | .local _ .vmem, ⟨1, _⟩ => ⟨S1x8x4x128x256, .f32⟩
  | .local _ .vmem, ⟨2, _⟩ => ⟨S1x1024x8, .f32⟩
  | .local _ .vmem, ⟨3, _⟩ => ⟨S1x1024x8, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S8x1024, .f32⟩
  | .local _ .vmem, ⟨10, _⟩ => ⟨S8x1024, .f32⟩
  | .local _ .vmem, ⟨11, _⟩ => ⟨S1x8x4x128x256, .f32⟩
  | .local _ .vmem, ⟨12, _⟩ => ⟨S1x8x4x128x256, .f32⟩
  | .local _ .vmem, ⟨13, _⟩ => ⟨S8x1024, .f32⟩
  | _, _ => ⟨S2x128x4x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

abbrev stage0_0 : Fin 2 → Memref sig .tc .vmem S1x8x4x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S2x128x4x128x256 : Shape := ⟨5, ![2, 128, 4, 128, 256]⟩
abbrev S128x1024 : Shape := ⟨2, ![128, 1024]⟩
abbrev S128x13312 : Shape := ⟨2, ![128, 13312]⟩
abbrev S1x1024 : Shape := ⟨2, ![1, 1024]⟩
abbrev S128x512 : Shape := ⟨2, ![128, 512]⟩
abbrev S128x4x128 : Shape := ⟨3, ![128, 4, 128]⟩
abbrev S128x4x256 : Shape := ⟨3, ![128, 4, 256]⟩
abbrev S4 : Shape := ⟨1, ![4]⟩
abbrev S_ : Shape := ⟨0, ![]⟩
abbrev S1x4x1x1 : Shape := ⟨4, ![1, 4, 1, 1]⟩
abbrev S1x128x4x128x256 : Shape := ⟨5, ![1, 128, 4, 128, 256]⟩
abbrev S128x4x128x256 : Shape := ⟨4, ![128, 4, 128, 256]⟩
abbrev S128x4x128x1 : Shape := ⟨4, ![128, 4, 128, 1]⟩
abbrev S128x4x1x256 : Shape := ⟨4, ![128, 4, 1, 256]⟩
abbrev S128x1x4x256 : Shape := ⟨4, ![128, 1, 4, 256]⟩
abbrev S4x256 : Shape := ⟨2, ![4, 256]⟩
abbrev S128x1x4 : Shape := ⟨3, ![128, 1, 4]⟩
abbrev S128x1x4x1 : Shape := ⟨4, ![128, 1, 4, 1]⟩
abbrev S1x1x4x256 : Shape := ⟨4, ![1, 1, 4, 256]⟩

abbrev nBuf : Space → Nat
  | .hbm => 76
  | .vmem => 0
  | .smem => 0
  | _ => 0

abbrev bufTy : (tb : Table) → Fin (tcTables nBuf tb) → BufTy
  | .hbm, ⟨0, _⟩ => ⟨S2x128x4x128x256, .f32⟩
  | .hbm, ⟨1, _⟩ => ⟨S2x128x4x128x256, .f32⟩
  | .hbm, ⟨2, _⟩ => ⟨S128x1024, .f32⟩
  | .hbm, ⟨3, _⟩ => ⟨S128x13312, .f32⟩
  | .hbm, ⟨4, _⟩ => ⟨S1x1024, .f32⟩
  | .hbm, ⟨5, _⟩ => ⟨S128x512, .f32⟩
  | .hbm, ⟨6, _⟩ => ⟨S128x4x128, .f32⟩
  | .hbm, ⟨7, _⟩ => ⟨S128x512, .f32⟩
  | .hbm, ⟨8, _⟩ => ⟨S128x4x128, .f32⟩
  | .hbm, ⟨9, _⟩ => ⟨S128x1024, .f32⟩
  | .hbm, ⟨10, _⟩ => ⟨S128x4x256, .f32⟩
  | .hbm, ⟨11, _⟩ => ⟨S128x1024, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S1x4x1x1, .f32⟩
  | .hbm, ⟨23, _⟩ => ⟨S1x128x4x128x256, .f32⟩
  | .hbm, ⟨24, _⟩ => ⟨S128x4x128x256, .f32⟩
  | .hbm, ⟨25, _⟩ => ⟨S128x4x128x256, .f32⟩
  | .hbm, ⟨26, _⟩ => ⟨S128x4x128x256, .f32⟩
  | .hbm, ⟨27, _⟩ => ⟨S128x4x128x1, .f32⟩
  | .hbm, ⟨28, _⟩ => ⟨S128x4x1x256, .f32⟩
  | .hbm, ⟨29, _⟩ => ⟨S128x4x128x256, .f32⟩
  | .hbm, ⟨30, _⟩ => ⟨S128x4x128x256, .f32⟩
  | .hbm, ⟨31, _⟩ => ⟨S128x4x128x256, .f32⟩
  | .hbm, ⟨32, _⟩ => ⟨S128x4x128x256, .f32⟩
  | .hbm, ⟨33, _⟩ => ⟨S128x4x256, .f32⟩
  | .hbm, ⟨34, _⟩ => ⟨S128x1x4x256, .f32⟩
  | .hbm, ⟨35, _⟩ => ⟨S4x256, .f32⟩
  | .hbm, ⟨36, _⟩ => ⟨S_, .f32⟩
  | .hbm, ⟨37, _⟩ => ⟨S128x1x4, .f32⟩
  | .hbm, ⟨38, _⟩ => ⟨S128x1x4x1, .f32⟩
  | .hbm, ⟨39, _⟩ => ⟨S_, .f32⟩
  | .hbm, ⟨40, _⟩ => ⟨S128x1x4x1, .f32⟩
  | .hbm, ⟨41, _⟩ => ⟨S128x1x4x1, .f32⟩
  | .hbm, ⟨42, _⟩ => ⟨S128x1x4x256, .f32⟩
  | .hbm, ⟨43, _⟩ => ⟨S128x1x4x256, .f32⟩
  | .hbm, ⟨44, _⟩ => ⟨S128x1x4x256, .f32⟩
  | .hbm, ⟨45, _⟩ => ⟨S_, .f32⟩
  | .hbm, ⟨46, _⟩ => ⟨S128x1x4, .f32⟩
  | .hbm, ⟨47, _⟩ => ⟨S128x1x4x1, .f32⟩
  | .hbm, ⟨48, _⟩ => ⟨S_, .f32⟩
  | .hbm, ⟨49, _⟩ => ⟨S128x1x4x1, .f32⟩
  | .hbm, ⟨50, _⟩ => ⟨S128x1x4x1, .f32⟩
  | .hbm, ⟨51, _⟩ => ⟨S_, .f32⟩
  | .hbm, ⟨52, _⟩ => ⟨S128x1x4x1, .f32⟩
  | .hbm, ⟨53, _⟩ => ⟨S128x1x4x1, .f32⟩
  | .hbm, ⟨54, _⟩ => ⟨S128x1x4x1, .f32⟩
  | .hbm, ⟨55, _⟩ => ⟨S128x1x4x256, .f32⟩
  | .hbm, ⟨56, _⟩ => ⟨S128x1x4x256, .f32⟩
  | .hbm, ⟨57, _⟩ => ⟨S1x1x4x256, .f32⟩
  | .hbm, ⟨58, _⟩ => ⟨S128x1x4x256, .f32⟩
  | .hbm, ⟨59, _⟩ => ⟨S128x1x4x256, .f32⟩
  | .hbm, ⟨60, _⟩ => ⟨S128x1024, .f32⟩
  | .hbm, ⟨61, _⟩ => ⟨S128x1024, .f32⟩
  | .hbm, ⟨62, _⟩ => ⟨S128x1024, .f32⟩
  | .hbm, ⟨63, _⟩ => ⟨S_, .f32⟩
  | .hbm, ⟨64, _⟩ => ⟨S128x1024, .f32⟩
  | .hbm, ⟨65, _⟩ => ⟨S128x1024, .f32⟩
  | .hbm, ⟨66, _⟩ => ⟨S_, .f32⟩
  | .hbm, ⟨67, _⟩ => ⟨S128x1024, .f32⟩
  | .hbm, ⟨68, _⟩ => ⟨S128x1024, .f32⟩
  | .hbm, ⟨69, _⟩ => ⟨S128x1024, .f32⟩
  | .hbm, ⟨70, _⟩ => ⟨S128x1024, .f32⟩
  | .hbm, ⟨71, _⟩ => ⟨S1x128x4x128x256, .f32⟩
  | .hbm, ⟨72, _⟩ => ⟨S128x4x128x256, .f32⟩
  | .hbm, ⟨73, _⟩ => ⟨S1x128x4x128x256, .f32⟩
  | .hbm, ⟨74, _⟩ => ⟨S1x128x4x128x256, .f32⟩
  | .hbm, ⟨75, _⟩ => ⟨S2x128x4x128x256, .f32⟩
  | _, _ => ⟨S2x128x4x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Kernel6.lean ====
abbrev S2x128x8x128x128 : Shape := ⟨5, ![2, 128, 8, 128, 128]⟩
abbrev S128x2048 : Shape := ⟨2, ![128, 2048]⟩
abbrev S128x13312 : Shape := ⟨2, ![128, 13312]⟩
abbrev S1x1024 : Shape := ⟨2, ![1, 1024]⟩
abbrev S16x8x2048 : Shape := ⟨3, ![16, 8, 2048]⟩
abbrev S16x2048x8 : Shape := ⟨3, ![16, 2048, 8]⟩
abbrev S128x1024 : Shape := ⟨2, ![128, 1024]⟩
abbrev S1x8x8x128x128 : Shape := ⟨5, ![1, 8, 8, 128, 128]⟩
abbrev S1x2048x8 : Shape := ⟨3, ![1, 2048, 8]⟩
abbrev S8x1024 : Shape := ⟨2, ![8, 1024]⟩
abbrev S1x128x1 : Shape := ⟨3, ![1, 128, 1]⟩
abbrev S128x1 : Shape := ⟨2, ![128, 1]⟩
abbrev S1x1x1x128x128 : Shape := ⟨5, ![1, 1, 1, 128, 128]⟩
abbrev S128x128 : Shape := ⟨2, ![128, 128]⟩
abbrev S1x128 : Shape := ⟨2, ![1, 128]⟩
abbrev S128 : Shape := ⟨1, ![128]⟩
abbrev S8x128 : Shape := ⟨2, ![8, 128]⟩
abbrev S8 : Shape := ⟨1, ![8]⟩
abbrev S8x1 : Shape := ⟨2, ![8, 1]⟩

abbrev nBuf : Space → Nat
  | .hbm => 9
  | .vmem => 14
  | .smem => 0
  | _ => 0

abbrev bufTy : (tb : Table) → Fin (tcTables nBuf tb) → BufTy
  | .hbm, ⟨0, _⟩ => ⟨S2x128x8x128x128, .f32⟩
  | .hbm, ⟨1, _⟩ => ⟨S2x128x8x128x128, .f32⟩
  | .hbm, ⟨2, _⟩ => ⟨S128x2048, .f32⟩
  | .hbm, ⟨3, _⟩ => ⟨S128x13312, .f32⟩
  | .hbm, ⟨4, _⟩ => ⟨S1x1024, .f32⟩
  | .hbm, ⟨5, _⟩ => ⟨S16x8x2048, .f32⟩
  | .hbm, ⟨6, _⟩ => ⟨S16x2048x8, .f32⟩
  | .hbm, ⟨7, _⟩ => ⟨S128x1024, .f32⟩
  | .hbm, ⟨8, _⟩ => ⟨S2x128x8x128x128, .f32⟩
  | .local _ .vmem, ⟨0, _⟩ => ⟨S1x8x8x128x128, .f32⟩
  | .local _ .vmem, ⟨1, _⟩ => ⟨S1x8x8x128x128, .f32⟩
  | .local _ .vmem, ⟨2, _⟩ => ⟨S1x2048x8, .f32⟩
  | .local _ .vmem, ⟨3, _⟩ => ⟨S1x2048x8, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S8x1024, .f32⟩
  | .local _ .vmem, ⟨10, _⟩ => ⟨S8x1024, .f32⟩
  | .local _ .vmem, ⟨11, _⟩ => ⟨S1x8x8x128x128, .f32⟩
  | .local _ .vmem, ⟨12, _⟩ => ⟨S1x8x8x128x128, .f32⟩
  | .local _ .vmem, ⟨13, _⟩ => ⟨S8x1024, .f32⟩
  | _, _ => ⟨S2x128x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

abbrev stage0_0 : Fin 2 → Memref sig .tc .vmem S1x8x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S2x128x8x128x128 : Shape := ⟨5, ![2, 128, 8, 128, 128]⟩
abbrev S128x2048 : Shape := ⟨2, ![128, 2048]⟩
abbrev S128x13312 : Shape := ⟨2, ![128, 13312]⟩
abbrev S1x1024 : Shape := ⟨2, ![1, 1024]⟩
abbrev S128x1024 : Shape := ⟨2, ![128, 1024]⟩
abbrev S128x8x128 : Shape := ⟨3, ![128, 8, 128]⟩
abbrev S128x8x128x1 : Shape := ⟨4, ![128, 8, 128, 1]⟩
abbrev S1x128x8x128x128 : Shape := ⟨5, ![1, 128, 8, 128, 128]⟩
abbrev S128x8x128x128 : Shape := ⟨4, ![128, 8, 128, 128]⟩
abbrev S_ : Shape := ⟨0, ![]⟩
abbrev S128x8x1x128 : Shape := ⟨4, ![128, 8, 1, 128]⟩
abbrev S128x1x8x128 : Shape := ⟨4, ![128, 1, 8, 128]⟩
abbrev S8x128 : Shape := ⟨2, ![8, 128]⟩
abbrev S128x1x8 : Shape := ⟨3, ![128, 1, 8]⟩
abbrev S128x1x8x1 : Shape := ⟨4, ![128, 1, 8, 1]⟩
abbrev S1x1x8x128 : Shape := ⟨4, ![1, 1, 8, 128]⟩

abbrev nBuf : Space → Nat
  | .hbm => 60
  | .vmem => 0
  | .smem => 0
  | _ => 0

abbrev bufTy : (tb : Table) → Fin (tcTables nBuf tb) → BufTy
  | .hbm, ⟨0, _⟩ => ⟨S2x128x8x128x128, .f32⟩
  | .hbm, ⟨1, _⟩ => ⟨S2x128x8x128x128, .f32⟩
  | .hbm, ⟨2, _⟩ => ⟨S128x2048, .f32⟩
  | .hbm, ⟨3, _⟩ => ⟨S128x13312, .f32⟩
  | .hbm, ⟨4, _⟩ => ⟨S1x1024, .f32⟩
  | .hbm, ⟨5, _⟩ => ⟨S128x1024, .f32⟩
  | .hbm, ⟨6, _⟩ => ⟨S128x8x128, .f32⟩
  | .hbm, ⟨7, _⟩ => ⟨S128x1024, .f32⟩
  | .hbm, ⟨8, _⟩ => ⟨S128x8x128, .f32⟩
  | .hbm, ⟨9, _⟩ => ⟨S128x1024, .f32⟩
  | .hbm, ⟨10, _⟩ => ⟨S128x8x128, .f32⟩
  | .hbm, ⟨11, _⟩ => ⟨S128x1024, .f32⟩
  | .hbm, ⟨12, _⟩ => ⟨S128x8x128x1, .f32⟩
  | .hbm, ⟨13, _⟩ => ⟨S1x128x8x128x128, .f32⟩
  | .hbm, ⟨14, _⟩ => ⟨S128x8x128x128, .f32⟩
  | .hbm, ⟨15, _⟩ => ⟨S128x8x128x128, .f32⟩
  | .hbm, ⟨16, _⟩ => ⟨S128x8x128x128, .f32⟩
  | .hbm, ⟨17, _⟩ => ⟨S_, .f32⟩
  | .hbm, ⟨18, _⟩ => ⟨S128x8x128, .f32⟩
  | .hbm, ⟨19, _⟩ => ⟨S128x8x128, .f32⟩
  | .hbm, ⟨20, _⟩ => ⟨S128x8x128x1, .f32⟩
  | .hbm, ⟨21, _⟩ => ⟨S128x8x1x128, .f32⟩
  | .hbm, ⟨22, _⟩ => ⟨S128x8x128x128, .f32⟩
  | .hbm, ⟨23, _⟩ => ⟨S128x8x128x128, .f32⟩
  | .hbm, ⟨24, _⟩ => ⟨S128x8x128x128, .f32⟩
  | .hbm, ⟨25, _⟩ => ⟨S128x8x128x128, .f32⟩
  | .hbm, ⟨26, _⟩ => ⟨S128x8x128, .f32⟩
  | .hbm, ⟨27, _⟩ => ⟨S128x1x8x128, .f32⟩
  | .hbm, ⟨28, _⟩ => ⟨S8x128, .f32⟩
  | .hbm, ⟨29, _⟩ => ⟨S128x1x8x128, .f32⟩
  | .hbm, ⟨30, _⟩ => ⟨S_, .f32⟩
  | .hbm, ⟨31, _⟩ => ⟨S128x1x8, .f32⟩
  | .hbm, ⟨32, _⟩ => ⟨S128x1x8x1, .f32⟩
  | .hbm, ⟨33, _⟩ => ⟨S_, .f32⟩
  | .hbm, ⟨34, _⟩ => ⟨S128x1x8x1, .f32⟩
  | .hbm, ⟨35, _⟩ => ⟨S128x1x8x1, .f32⟩
  | .hbm, ⟨36, _⟩ => ⟨S_, .f32⟩
  | .hbm, ⟨37, _⟩ => ⟨S128x1x8x1, .f32⟩
  | .hbm, ⟨38, _⟩ => ⟨S128x1x8x1, .f32⟩
  | .hbm, ⟨39, _⟩ => ⟨S128x1x8x1, .f32⟩
  | .hbm, ⟨40, _⟩ => ⟨S128x1x8x128, .f32⟩
  | .hbm, ⟨41, _⟩ => ⟨S128x1x8x128, .f32⟩
  | .hbm, ⟨42, _⟩ => ⟨S1x1x8x128, .f32⟩
  | .hbm, ⟨43, _⟩ => ⟨S128x1x8x128, .f32⟩
  | .hbm, ⟨44, _⟩ => ⟨S128x1x8x128, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | .hbm, ⟨51, _⟩ => ⟨S_, .f32⟩
  | .hbm, ⟨52, _⟩ => ⟨S128x1024, .f32⟩
  | .hbm, ⟨53, _⟩ => ⟨S128x1024, .f32⟩
  | .hbm, ⟨54, _⟩ => ⟨S128x1024, .f32⟩
  | .hbm, ⟨55, _⟩ => ⟨S1x128x8x128x128, .f32⟩
  | .hbm, ⟨56, _⟩ => ⟨S128x8x128x128, .f32⟩
  | .hbm, ⟨57, _⟩ => ⟨S1x128x8x128x128, .f32⟩
  | .hbm, ⟨58, _⟩ => ⟨S1x128x8x128x128, .f32⟩
  | .hbm, ⟨59, _⟩ => ⟨S2x128x8x128x128, .f32⟩
  | _, _ => ⟨S2x128x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== Kernel7.lean ====
abbrev S128x1024 : Shape := ⟨2, ![128, 1024]⟩
abbrev S1024 : Shape := ⟨1, ![1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1x1024x1024 : Shape := ⟨3, ![1, 1024, 1024]⟩
abbrev S1024x1024 : Shape := ⟨2, ![1024, 1024]⟩
abbrev S128 : Shape := ⟨1, ![128]⟩
abbrev S128x1 : Shape := ⟨2, ![128, 1]⟩

abbrev nBuf : Space → Nat
  | .hbm => 7
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S1024, .f32⟩
  | .hbm, ⟨3, _⟩ => ⟨S2x1024x4096, .f32⟩
  | .hbm, ⟨4, _⟩ => ⟨S2x4096x1024, .f32⟩
  | .hbm, ⟨5, _⟩ => ⟨S1x1024, .f32⟩
  | .hbm, ⟨6, _⟩ => ⟨S128x1024, .f32⟩
  | .local _ .vmem, ⟨0, _⟩ => ⟨S128x1024, .f32⟩
  | .local _ .vmem, ⟨1, _⟩ => ⟨S128x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024, .f32⟩
  | .local _ .vmem, ⟨7, _⟩ => ⟨S128x1024, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference7Ideal.lean ====
abbrev S128x1024 : Shape := ⟨2, ![128, 1024]⟩
abbrev S1024 : Shape := ⟨1, ![1024]⟩
abbrev S2x1024x4096 : Shape := ⟨3, ![2, 1024, 4096]⟩
abbrev S2x4096x1024 : Shape := ⟨3, ![2, 4096, 1024]⟩
abbrev S1x1024x4096 : Shape := ⟨3, ![1, 1024, 4096]⟩
abbrev S1024x4096 : Shape := ⟨2, ![1024, 4096]⟩
abbrev S128x4096 : Shape := ⟨2, ![128, 4096]⟩
abbrev S_ : Shape := ⟨0, ![]⟩
abbrev S1x4096x1024 : Shape := ⟨3, ![1, 4096, 1024]⟩
abbrev S4096x1024 : Shape := ⟨2, ![4096, 1024]⟩
abbrev S128 : Shape := ⟨1, ![128]⟩
abbrev S128x1 : Shape := ⟨2, ![128, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S1024, .f32⟩
  | .hbm, ⟨3, _⟩ => ⟨S2x1024x4096, .f32⟩
  | .hbm, ⟨4, _⟩ => ⟨S2x4096x1024, .f32⟩
  | .hbm, ⟨5, _⟩ => ⟨S128x1024, .f32⟩
  | .hbm, ⟨6, _⟩ => ⟨S1x1024x4096, .f32⟩
  | .hbm, ⟨7, _⟩ => ⟨S1024x4096, .f32⟩
  | .hbm, ⟨8, _⟩ => ⟨S128x4096, .f32⟩
  | .hbm, ⟨9, _⟩ => ⟨S_, .f32⟩
  | .hbm, ⟨10, _⟩ => ⟨S128x4096, .f32⟩
  | .hbm, ⟨11, _⟩ => ⟨S128x4096, .f32⟩
  | .hbm, ⟨12, _⟩ => ⟨S128x4096, .f32⟩
  | .hbm, ⟨13, _⟩ => ⟨S1x4096x1024, .f32⟩
  | .hbm, ⟨14, _⟩ => ⟨S4096x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128, .f32⟩
  | .hbm, ⟨19, _⟩ => ⟨S128x1, .f32⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S_, .f32⟩
  | .hbm, ⟨24, _⟩ => ⟨S128x1, .f32⟩
  | .hbm, ⟨25, _⟩ => ⟨S128x1, .f32⟩
  | .hbm, ⟨26, _⟩ => ⟨S128x1, .f32⟩
  | .hbm, ⟨27, _⟩ => ⟨S128x1024, .f32⟩
  | .hbm, ⟨28, _⟩ => ⟨S128x1024, .f32⟩
  | .hbm, ⟨29, _⟩ => ⟨S1x1024, .f32⟩
  | .hbm, ⟨30, _⟩ => ⟨S128x1024, .f32⟩
  | .hbm, ⟨31, _⟩ => ⟨S128x1024, .f32⟩
  | .hbm, ⟨32, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel8.lean ====
abbrev S2x128x16x128x64 : Shape := ⟨5, ![2, 128, 16, 128, 64]⟩
abbrev S128x1024 : Shape := ⟨2, ![128, 1024]⟩
abbrev S128x13312 : Shape := ⟨2, ![128, 13312]⟩
abbrev S16 : Shape := ⟨1, ![16]⟩
abbrev S1024 : Shape := ⟨1, ![1024]⟩
abbrev S16x64 : Shape := ⟨2, ![16, 64]⟩
abbrev S1x1024 : Shape := ⟨2, ![1, 1024]⟩
abbrev S2x128x16x64x128 : Shape := ⟨5, ![2, 128, 16, 64, 128]⟩
abbrev S16x8x1024 : Shape := ⟨3, ![16, 8, 1024]⟩
abbrev S16x1024x8 : Shape := ⟨3, ![16, 1024, 8]⟩
abbrev S1x8x16x64x128 : Shape := ⟨5, ![1, 8, 16, 64, 128]⟩
abbrev S8x512 : Shape := ⟨2, ![8, 512]⟩
abbrev S1x1024x8 : Shape := ⟨3, ![1, 1024, 8]⟩
abbrev S8x1024 : Shape := ⟨2, ![8, 1024]⟩
abbrev S8x128 : Shape := ⟨2, ![8, 128]⟩
abbrev S1x128 : Shape := ⟨2, ![1, 128]⟩
abbrev S1x1 : Shape := ⟨2, ![1, 1]⟩
abbrev S1x1x1x64x128 : Shape := ⟨5, ![1, 1, 1, 64, 128]⟩
abbrev S64x128 : Shape := ⟨2, ![64, 128]⟩
abbrev S1x64x1 : Shape := ⟨3, ![1, 64, 1]⟩
abbrev S64x1 : Shape := ⟨2, ![64, 1]⟩
abbrev S256x128 : Shape := ⟨2, ![256, 128]⟩
abbrev S8x256 : Shape := ⟨2, ![8, 256]⟩
abbrev S1x256 : Shape := ⟨2, ![1, 256]⟩
abbrev S8 : Shape := ⟨1, ![8]⟩
abbrev S8x1 : Shape := ⟨2, ![8, 1]⟩

abbrev nBuf : Space → Nat
  | .hbm => 19
  | .vmem => 21
  | .smem => 0
  | _ => 0

abbrev bufTy : (tb : Table) → Fin (tcTables nBuf tb) → BufTy
  | .hbm, ⟨0, _⟩ => ⟨S2x128x16x128x64, .f32⟩
  | .hbm, ⟨1, _⟩ => ⟨S2x128x16x128x64, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x13312, .f32⟩
  | .hbm, ⟨7, _⟩ => ⟨S16, .f32⟩
  | .hbm, ⟨8, _⟩ => ⟨S1024, .f32⟩
  | .hbm, ⟨9, _⟩ => ⟨S16x64, .f32⟩
  | .hbm, ⟨10, _⟩ => ⟨S1024, .f32⟩
  | .hbm, ⟨11, _⟩ => ⟨S1x1024, .f32⟩
  | .hbm, ⟨12, _⟩ => ⟨S2x128x16x64x128, .f32⟩
  | .hbm, ⟨13, _⟩ => ⟨S2x128x16x64x128, .f32⟩
  | .hbm, ⟨14, _⟩ => ⟨S1x1024, .f32⟩
  | .hbm, ⟨15, _⟩ => ⟨S16x8x1024, .f32⟩
  | .hbm, ⟨16, _⟩ => ⟨S16x1024x8, .f32⟩
  | .hbm, ⟨17, _⟩ => ⟨S128x1024, .f32⟩
  | .hbm, ⟨18, _⟩ => ⟨S2x128x16x64x128, .f32⟩
  | .local _ .vmem, ⟨0, _⟩ => ⟨S1x8x16x64x128, .f32⟩
  | .local _ .vmem, ⟨1, _⟩ => ⟨S1x8x16x64x128, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S1x1024x8, .f32⟩
  | .local _ .vmem, ⟨7, _⟩ => ⟨S1x1024x8, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S1x1024, .f32⟩
  | .local _ .vmem, ⟨15, _⟩ => ⟨S1x1024, .f32⟩
  | .local _ .vmem, ⟨16, _⟩ => ⟨S8x1024, .f32⟩
  | .local _ .vmem, ⟨17, _⟩ => ⟨S8x1024, .f32⟩
  | .local _ .vmem, ⟨18, _⟩ => ⟨S1x8x16x64x128, .f32⟩
  | .local _ .vmem, ⟨19, _⟩ => ⟨S1x8x16x64x128, .f32⟩
  | .local _ .vmem, ⟨20, _⟩ => ⟨S8x1024, .f32⟩
  | _, _ => ⟨S2x128x16x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 1], ![false, false]⟩

def cc0_transform_0 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

abbrev stage0_0 : Fin 2 → Memref sig .tc .vmem S1x8x16x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x16x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference8Ideal.lean ====
abbrev S2x128x16x128x64 : Shape := ⟨5, ![2, 128, 16, 128, 64]⟩
abbrev S128x1024 : Shape := ⟨2, ![128, 1024]⟩
abbrev S128x13312 : Shape := ⟨2, ![128, 13312]⟩
abbrev S16 : Shape := ⟨1, ![16]⟩
abbrev S1024 : Shape := ⟨1, ![1024]⟩
abbrev S128x512 : Shape := ⟨2, ![128, 512]⟩
abbrev S128x4x128 : Shape := ⟨3, ![128, 4, 128]⟩
abbrev S128x4x4x128 : Shape := ⟨4, ![128, 4, 4, 128]⟩
abbrev S128x16x128 : Shape := ⟨3, ![128, 16, 128]⟩
abbrev S128x16x64 : Shape := ⟨3, ![128, 16, 64]⟩
abbrev S128x16x1 : Shape := ⟨3, ![128, 16, 1]⟩
abbrev S128x16 : Shape := ⟨2, ![128, 16]⟩
abbrev S128x16x1x1 : Shape := ⟨4, ![128, 16, 1, 1]⟩
abbrev S1x128x16x128x64 : Shape := ⟨5, ![1, 128, 16, 128, 64]⟩
abbrev S128x16x128x64 : Shape := ⟨4, ![128, 16, 128, 64]⟩
abbrev S128x16x128x1 : Shape := ⟨4, ![128, 16, 128, 1]⟩
abbrev S128x16x1x64 : Shape := ⟨4, ![128, 16, 1, 64]⟩
abbrev S16x1 : Shape := ⟨2, ![16, 1]⟩
abbrev S1x16x1 : Shape := ⟨3, ![1, 16, 1]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S2x128x16x64x128 : Shape := ⟨5, ![2, 128, 16, 64, 128]⟩

abbrev nBuf : Space → Nat
  | .hbm => 73
  | .vmem => 0
  | .smem => 0
  | _ => 0

abbrev bufTy : (tb : Table) → Fin (tcTables nBuf tb) → BufTy
  | .hbm, ⟨0, _⟩ => ⟨S2x128x16x128x64, .f32⟩
  | .hbm, ⟨1, _⟩ => ⟨S2x128x16x128x64, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x13312, .f32⟩
  | .hbm, ⟨7, _⟩ => ⟨S16, .f32⟩
  | .hbm, ⟨8, _⟩ => ⟨S1024, .f32⟩
  | .hbm, ⟨9, _⟩ => ⟨S128x512, .f32⟩
  | .hbm, ⟨10, _⟩ => ⟨S128x512, .f32⟩
  | .hbm, ⟨11, _⟩ => ⟨S128x4x128, .f32⟩
  | .hbm, ⟨12, _⟩ => ⟨S128x4x4x128, .f32⟩
  | .hbm, ⟨13, _⟩ => ⟨S128x16x128, .f32⟩
  | .hbm, ⟨14, _⟩ => ⟨S128x4x128, .f32⟩
  | .hbm, ⟨15, _⟩ => ⟨S128x4x4x128, .f32⟩
  | .hbm, ⟨16, _⟩ => ⟨S128x16x128, .f32⟩
  | .hbm, ⟨17, _⟩ => ⟨S128x16x64, .f32⟩
  | .hbm, ⟨18, _⟩ => ⟨S128x16x64, .f32⟩
  | .hbm, ⟨19, _⟩ => ⟨S128x16x64, .f32⟩
  | .hbm, ⟨20, _⟩ => ⟨S128x1024, .f32⟩
  | .hbm, ⟨21, _⟩ => ⟨S128x16x1, .f32⟩
  | .hbm, ⟨22, _⟩ => ⟨S128x16, .f32⟩
  | .hbm, ⟨23, _⟩ => ⟨S128x16x1x1, .f32⟩
  | .hbm, ⟨24, _⟩ => ⟨S1x128x16x128x64, .f32⟩
  | .hbm, ⟨25, _⟩ => ⟨S128x16x128x64, .f32⟩
  | .hbm, ⟨26, _⟩ => ⟨S128x16x128x64, .f32⟩
  | .hbm, ⟨27, _⟩ => ⟨S128x16x128x64, .f32⟩
  | .hbm, ⟨28, _⟩ => ⟨S128x16x128x1, .f32⟩
  | .hbm, ⟨29, _⟩ => ⟨S128x16x1x64, .f32⟩
  | .hbm, ⟨30, _⟩ => ⟨S128x16x128x64, .f32⟩
  | .hbm, ⟨31, _⟩ => ⟨S128x16x128x64, .f32⟩
  | .hbm, ⟨32, _⟩ => ⟨S128x16x128x64, .f32⟩
  | .hbm, ⟨33, _⟩ => ⟨S128x16x128x64, .f32⟩
  | .hbm, ⟨34, _⟩ => ⟨S128x16x64, .f32⟩
  | .hbm, ⟨35, _⟩ => ⟨S16x1, .f32⟩
  | .hbm, ⟨36, _⟩ => ⟨S1x16x1, .f32⟩
  | .hbm, ⟨37, _⟩ => ⟨S128x16x64, .f32⟩
  | .hbm, ⟨38, _⟩ => ⟨S128x16x64, .f32⟩
  | .hbm, ⟨39, _⟩ => ⟨S128x16x64, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128, .f32⟩
  | .hbm, ⟨54, _⟩ => ⟨S128x1, .f32⟩
  | .hbm, ⟨55, _⟩ => ⟨S_, .f32⟩
  | .hbm, ⟨56, _⟩ => ⟨S128x1, .f32⟩
  | .hbm, ⟨57, _⟩ => ⟨S128x1, .f32⟩
  | .hbm, ⟨58, _⟩ => ⟨S_, .f32⟩
  | .hbm, ⟨59, _⟩ => ⟨S128x1, .f32⟩
  | .hbm, ⟨60, _⟩ => ⟨S128x1, .f32⟩
  | .hbm, ⟨61, _⟩ => ⟨S128x1, .f32⟩
  | .hbm, ⟨62, _⟩ => ⟨S128x1024, .f32⟩
  | .hbm, ⟨63, _⟩ => ⟨S128x1024, .f32⟩
  | .hbm, ⟨64, _⟩ => ⟨S1x1024, .f32⟩
  | .hbm, ⟨65, _⟩ => ⟨S128x1024, .f32⟩
  | .hbm, ⟨66, _⟩ => ⟨S128x1024, .f32⟩
  | .hbm, ⟨67, _⟩ => ⟨S1x128x16x128x64, .f32⟩
  | .hbm, ⟨68, _⟩ => ⟨S128x16x128x64, .f32⟩
  | .hbm, ⟨69, _⟩ => ⟨S1x128x16x128x64, .f32⟩
  | .hbm, ⟨70, _⟩ => ⟨S1x128x16x128x64, .f32⟩
  | .hbm, ⟨71, _⟩ => ⟨S2x128x16x128x64, .f32⟩
  | .hbm, ⟨72, _⟩ => ⟨S2x128x16x64x128, .f32⟩
  | _, _ => ⟨S2x128x16x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_v35 : Ref sig .tc := ⟨.hbm, 53, rfl⟩
abbrev main_v36 : Ref sig .tc := ⟨.hbm, 54, rfl⟩
abbrev main_cst_0 : Ref sig .tc := ⟨.hbm, 55, rfl⟩
abbrev main_v37 : Ref sig .tc := ⟨.hbm, 56, rfl⟩
abbrev main_v38 : Ref sig .tc := ⟨.hbm, 57, rfl⟩
abbrev main_cst_1 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel9.lean ====
abbrev S128x13312 : Shape := ⟨2, ![128, 13312]⟩
abbrev S128x1024 : Shape := ⟨2, ![128, 1024]⟩
abbrev S2x1024x13328 : Shape := ⟨3, ![2, 1024, 13328]⟩
abbrev S128x3x2048 : Shape := ⟨3, ![128, 3, 2048]⟩
abbrev S1024 : Shape := ⟨1, ![1024]⟩
abbrev S4x2048 : Shape := ⟨2, ![4, 2048]⟩
abbrev S2048 : Shape := ⟨1, ![2048]⟩
abbrev S16 : Shape := ⟨1, ![16]⟩
abbrev S128 : Shape := ⟨1, ![128]⟩
abbrev S128x1 : Shape := ⟨2, ![128, 1]⟩
abbrev S2x13328x1024 : Shape := ⟨3, ![2, 13328, 1024]⟩
abbrev S1x16x1024 : Shape := ⟨3, ![1, 16, 1024]⟩
abbrev S16x1024 : Shape := ⟨2, ![16, 1024]⟩
abbrev S_ : Shape := ⟨0, ![]⟩
abbrev S3x128x2048 : Shape := ⟨3, ![3, 128, 2048]⟩
abbrev S1x1024 : Shape := ⟨2, ![1, 1024]⟩
abbrev S64 : Shape := ⟨1, ![64]⟩
abbrev S1x64 : Shape := ⟨2, ![1, 64]⟩
abbrev S128x64 : Shape := ⟨2, ![128, 64]⟩
abbrev S128x128 : Shape := ⟨2, ![128, 128]⟩
abbrev S1x2048 : Shape := ⟨2, ![1, 2048]⟩
abbrev S1x128 : Shape := ⟨2, ![1, 128]⟩
abbrev S128x2048 : Shape := ⟨2, ![128, 2048]⟩
abbrev S1x128x2048 : Shape := ⟨3, ![1, 128, 2048]⟩
abbrev S128x512 : Shape := ⟨2, ![128, 512]⟩

abbrev nBuf : Space → Nat
  | .hbm => 59
  | .vmem => 21
  | .smem => 0
  | _ => 0

abbrev bufTy : (tb : Table) → Fin (tcTables nBuf tb) → BufTy
  | .hbm, ⟨0, _⟩ => ⟨S128x13312, .f32⟩
  | .hbm, ⟨1, _⟩ => ⟨S128x1024, .bf16⟩
  | .hbm, ⟨2, _⟩ => ⟨S2x1024x13328, .f32⟩
  | .hbm, ⟨3, _⟩ => ⟨S128x3x2048, .f32⟩
  | .hbm, ⟨4, _⟩ => ⟨S1024, .f32⟩
  | .hbm, ⟨5, _⟩ => ⟨S4x2048, .f32⟩
  | .hbm, ⟨6, _⟩ => ⟨S2048, .f32⟩
  | .hbm, ⟨7, _⟩ => ⟨S16, .f32⟩
  | .hbm, ⟨8, _⟩ => ⟨S16, .f32⟩
  | .hbm, ⟨9, _⟩ => ⟨S128, .f32⟩
  | .hbm, ⟨10, _⟩ => ⟨S128x1, .f32⟩
  | .hbm, ⟨11, _⟩ => ⟨S128x1024, .bf16⟩
  | .hbm, ⟨12, _⟩ => ⟨S2x13328x1024, .f32⟩
  | .hbm, ⟨13, _⟩ => ⟨S1x16x1024, .f32⟩
  | .hbm, ⟨14, _⟩ => ⟨S16x1024, .f32⟩
  | .hbm, ⟨15, _⟩ => ⟨S_, .i32⟩
  | .hbm, ⟨16, _⟩ => ⟨S_, .f32⟩
  | .hbm, ⟨17, _⟩ => ⟨S128x1024, .f32⟩
  | .hbm, ⟨18, _⟩ => ⟨S3x128x2048, .f32⟩
  | .hbm, ⟨19, _⟩ => ⟨S1x1024, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S1x64, .f32⟩
  | .hbm, ⟨29, _⟩ => ⟨S128x64, .f32⟩
  | .hbm, ⟨30, _⟩ => ⟨S128x64, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S128x128, .f32⟩
  | .hbm, ⟨35, _⟩ => ⟨S128x64, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S_, .f32⟩
  | .hbm, ⟨41, _⟩ => ⟨S128x128, .f32⟩
  | .hbm, ⟨42, _⟩ => ⟨S128x128, .f32⟩
  | .hbm, ⟨43, _⟩ => ⟨S1x2048, .f32⟩
  | .hbm, ⟨44, _⟩ => ⟨S_, .i32⟩
  | .hbm, ⟨45, _⟩ => ⟨S_, .f32⟩
  | .hbm, ⟨46, _⟩ => ⟨S128, .f32⟩
  | .hbm, ⟨47, _⟩ => ⟨S1x128, .f32⟩
  | .hbm, ⟨48, _⟩ => ⟨S_, .i32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S128x1024, .f32⟩
  | .hbm, ⟨53, _⟩ => ⟨S128x2048, .f32⟩
  | .hbm, ⟨54, _⟩ => ⟨S128x1024, .f32⟩
  | .hbm, ⟨55, _⟩ => ⟨S128x1024, .f32⟩
  | .hbm, ⟨56, _⟩ => ⟨S128x1024, .f32⟩
  | .hbm, ⟨57, _⟩ => ⟨S128x1024, .f32⟩
  | .hbm, ⟨58, _⟩ => ⟨S3x128x2048, .f32⟩
  | .local _ .vmem, ⟨0, _⟩ => ⟨S128x13312, .f32⟩
  | .local _ .vmem, ⟨1, _⟩ => ⟨S128x1024, .bf16⟩
  | .local _ .vmem, ⟨2, _⟩ => ⟨S128x1024, .f32⟩
  | .local _ .vmem, ⟨3, _⟩ => ⟨S3x128x2048, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x1024, .f32⟩
  | .local _ .vmem, ⟨9, _⟩ => ⟨S4x2048, .f32⟩
  | .local _ .vmem, ⟨10, _⟩ => ⟨S1x2048, .f32⟩
  | .local _ .vmem, ⟨11, _⟩ => ⟨S1x128, .f32⟩
  | .local _ .vmem, ⟨12, _⟩ => ⟨S1x128, .f32⟩
  | .local _ .vmem, ⟨13, _⟩ => ⟨S128x1024, .bf16⟩
  | .local _ .vmem, ⟨14, _⟩ => ⟨S128x1024, .f32⟩
  | .local _ .vmem, ⟨15, _⟩ => ⟨S128x2048, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S3x128x2048, .f32⟩
  | _, _ => ⟨S128x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_call2_v0 : Ref sig .tc := ⟨.hbm, 49, rfl⟩
abbrev main_v29 : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev main_v31_2 : Ref sig .tc := ⟨.hbm, 54, rfl⟩
abbrev main_v31_3 : Ref sig .tc := ⟨.hbm, 55, rfl⟩
abbrev main_v31_4 : Ref sig .tc := ⟨.hbm, 56, rfl⟩
abbrev main_v31_5 : Ref sig .tc := ⟨.hbm, 57, rfl⟩
abbrev main_v31_6 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S128x13312 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S3x128x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference9Ideal.lean ====
abbrev S128x13312 : Shape := ⟨2, ![128, 13312]⟩
abbrev S128x1024 : Shape := ⟨2, ![128, 1024]⟩
abbrev S2x1024x13328 : Shape := ⟨3, ![2, 1024, 13328]⟩
abbrev S128x3x2048 : Shape := ⟨3, ![128, 3, 2048]⟩
abbrev S1024 : Shape := ⟨1, ![1024]⟩
abbrev S4x2048 : Shape := ⟨2, ![4, 2048]⟩
abbrev S2048 : Shape := ⟨1, ![2048]⟩
abbrev S16 : Shape := ⟨1, ![16]⟩
abbrev S1 : Shape := ⟨1, ![1]⟩
abbrev S_ : Shape := ⟨0, ![]⟩
abbrev S128x512 : Shape := ⟨2, ![128, 512]⟩
abbrev S128x2048 : Shape := ⟨2, ![128, 2048]⟩
abbrev S128x1x4x128 : Shape := ⟨4, ![128, 1, 4, 128]⟩
abbrev S64 : Shape := ⟨1, ![64]⟩
abbrev S1x1 : Shape := ⟨2, ![1, 1]⟩
abbrev S1x64 : Shape := ⟨2, ![1, 64]⟩
abbrev S1x1x1x64 : Shape := ⟨4, ![1, 1, 1, 64]⟩
abbrev S128x1x4x64 : Shape := ⟨4, ![128, 1, 4, 64]⟩
abbrev S1x1024 : Shape := ⟨2, ![1, 1024]⟩
abbrev S128x1x2048 : Shape := ⟨3, ![128, 1, 2048]⟩
abbrev S128x4x2048 : Shape := ⟨3, ![128, 4, 2048]⟩
abbrev S1x2048 : Shape := ⟨2, ![1, 2048]⟩
abbrev S1x1x2048 : Shape := ⟨3, ![1, 1, 2048]⟩
abbrev S3x128x2048 : Shape := ⟨3, ![3, 128, 2048]⟩

abbrev nBuf : Space → Nat
  | .hbm => 172
  | .vmem => 0
  | .smem => 0
  | _ => 0

abbrev hbmTy0_0 (i : Nat) : BufTy := match i % 128 with
  | 0 => ⟨S128x13312, .f32⟩
  | 1 => ⟨S128x1024, .bf16⟩
  | 2 => ⟨S2x1024x13328, .f32⟩
  | 3 => ⟨S128x3x2048, .f32⟩
  | 4 => ⟨S1024, .f32⟩
  | 5 => ⟨S4x2048, .f32⟩
  | 6 => ⟨S2048, .f32⟩
  | 7 => ⟨S16, .f32⟩
  | 8 => ⟨S16, .f32⟩
  | 9 => ⟨S1, .i32⟩
  | 10 => ⟨S_, .i32⟩
  | 11 => ⟨S1, .i32⟩
  | 12 => ⟨S1, .i32⟩
  | 13 => ⟨S128x512, .f32⟩
  | 14 => ⟨S128x512, .f32⟩
  | 15 => ⟨S128x1024, .f32⟩
  | 16 => ⟨S128x1024, .f32⟩
  | 17 => ⟨S128x2048, .f32⟩
  | 18 => ⟨S128x1x4x128, .f32⟩
  | 19 => ⟨S64, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S1, .f32⟩
  | 28 => ⟨S1x1, .f32⟩
  | 29 => ⟨S1x64, .f32⟩
  | 30 => ⟨S1x64, .f32⟩
  | 31 => ⟨S1x64, .f32⟩
  | 32 => ⟨S1x64, .f32⟩
  | 33 => ⟨S1x1x1x64, .f32⟩
  | 34 => ⟨S1x64, .f32⟩
  | 35 => ⟨S1x1x1x64, .f32⟩
  | 36 => ⟨S128x1x4x64, .f32⟩
  | 37 => ⟨S128x1x4x64, .f32⟩
  | 38 => ⟨S128x1x4x64, .f32⟩
  | 39 => ⟨S128x1x4x64, .f32⟩
  | 40 => ⟨S128x1x4x64, .f32⟩
  | 41 => ⟨S128x1x4x64, .f32⟩
  | 42 => ⟨S128x1x4x64, .f32⟩
  | 43 => ⟨S128x1x4x64, .f32⟩
  | 44 => ⟨S128x1x4x64, .f32⟩
  | 45 => ⟨S128x1x4x64, .f32⟩
  | 46 => ⟨S128x1x4x64, .f32⟩
  | 47 => ⟨S128x1x4x64, .f32⟩
  | 48 => ⟨S128x1x4x128, .f32⟩
  | 49 => ⟨S128x1x4x128, .f32⟩
  | 50 => ⟨S64, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S1, .f32⟩
  | 59 => ⟨S1x1, .f32⟩
  | 60 => ⟨S1x64, .f32⟩
  | 61 => ⟨S1x64, .f32⟩
  | 62 => ⟨S1x64, .f32⟩
  | 63 => ⟨S1x64, .f32⟩
  | 64 => ⟨S1x1x1x64, .f32⟩
  | 65 => ⟨S1x64, .f32⟩
  | 66 => ⟨S1x1x1x64, .f32⟩
  | 67 => ⟨S128x1x4x64, .f32⟩
  | 68 => ⟨S128x1x4x64, .f32⟩
  | 69 => ⟨S128x1x4x64, .f32⟩
  | 70 => ⟨S128x1x4x64, .f32⟩
  | 71 => ⟨S128x1x4x64, .f32⟩
  | 72 => ⟨S128x1x4x64, .f32⟩
  | 73 => ⟨S128x1x4x64, .f32⟩
  | 74 => ⟨S128x1x4x64, .f32⟩
  | 75 => ⟨S128x1x4x64, .f32⟩
  | 76 => ⟨S128x1x4x64, .f32⟩
  | 77 => ⟨S128x1x4x64, .f32⟩
  | 78 => ⟨S128x1x4x64, .f32⟩
  | 79 => ⟨S128x1x4x128, .f32⟩
  | 80 => ⟨S_, .f32⟩
  | 81 => ⟨S128x1x4x128, .f32⟩
  | 82 => ⟨S128x1x4x128, .f32⟩
  | 83 => ⟨S128x1024, .f32⟩
  | 84 => ⟨S128x1024, .f32⟩
  | 85 => ⟨S_, .f32⟩
  | 86 => ⟨S128x1024, .f32⟩
  | 87 => ⟨S128x1024, .f32⟩
  | 88 => ⟨S_, .f32⟩
  | 89 => ⟨S128x1024, .f32⟩
  | 90 => ⟨S128x1024, .f32⟩
  | 91 => ⟨S128x1024, .f32⟩
  | 92 => ⟨S_, .f32⟩
  | 93 => ⟨S1024, .f32⟩
  | 94 => ⟨S1024, .f32⟩
  | 95 => ⟨S128x1024, .f32⟩
  | 96 => ⟨S128x1024, .f32⟩
  | 97 => ⟨S_, .f32⟩
  | 98 => ⟨S128x1024, .f32⟩
  | 99 => ⟨S128x1024, .f32⟩
  | 100 => ⟨S_, .f32⟩
  | 101 => ⟨S128x1024, .f32⟩
  | 102 => ⟨S128x1024, .f32⟩
  | 103 => ⟨S1x1024, .f32⟩
  | 104 => ⟨S128x1024, .f32⟩
  | 105 => ⟨S128x1024, .f32⟩
  | 106 => ⟨S1x1024, .f32⟩
  | 107 => ⟨S128x1024, .f32⟩
  | 108 => ⟨S128x1024, .f32⟩
  | 109 => ⟨S_, .f32⟩
  | 110 => ⟨S_, .f32⟩
  | 111 => ⟨S_, .f32⟩
  | 112 => ⟨S128x1024, .f32⟩
  | 113 => ⟨S128x1024, .f32⟩
  | 114 => ⟨S_, .f32⟩
  | 115 => ⟨S128x1024, .f32⟩
  | 116 => ⟨S128x1024, .f32⟩
  | 117 => ⟨S128x1x2048, .f32⟩
  | 118 => ⟨S128x4x2048, .f32⟩
  | 119 => ⟨S128x1x2048, .f32⟩
  | 120 => ⟨S1x2048, .f32⟩
  | 121 => ⟨S2048, .f32⟩
  | 122 => ⟨S1x1x2048, .f32⟩
  | 123 => ⟨S128x1x2048, .f32⟩
  | 124 => ⟨S128x1x2048, .f32⟩
  | 125 => ⟨S_, .f32⟩
  | 126 => ⟨S128x1x2048, .f32⟩
  | 127 => ⟨S128x1x2048, .f32⟩
  | _ => ⟨S128x13312, .f32⟩

abbrev hbmTy0_1 (i : Nat) : BufTy := match i % 128 with
  | 0 => ⟨S128x1x2048, .f32⟩
  | 1 => ⟨S1x2048, .f32⟩
  | 2 => ⟨S2048, .f32⟩
  | 3 => ⟨S1x1x2048, .f32⟩
  | 4 => ⟨S128x1x2048, .f32⟩
  | 5 => ⟨S128x1x2048, .f32⟩
  | 6 => ⟨S128x1x2048, .f32⟩
  | 7 => ⟨S128x1x2048, .f32⟩
  | 8 => ⟨S1x2048, .f32⟩
  | 9 => ⟨S2048, .f32⟩
  | 10 => ⟨S1x1x2048, .f32⟩
  | 11 => ⟨S128x1x2048, .f32⟩
  | 12 => ⟨S128x1x2048, .f32⟩
  | 13 => ⟨S128x1x2048, .f32⟩
  | 14 => ⟨S128x1x2048, .f32⟩
  | 15 => ⟨S1x2048, .f32⟩
  | 16 => ⟨S2048, .f32⟩
  | 17 => ⟨S1x1x2048, .f32⟩
  | 18 => ⟨S128x1x2048, .f32⟩
  | 19 => ⟨S128x1x2048, .f32⟩
  | 20 => ⟨S128x1x2048, .f32⟩
  | 21 => ⟨S1x1x2048, .f32⟩
  | 22 => ⟨S128x1x2048, .f32⟩
  | 23 => ⟨S128x1x2048, .f32⟩
  | 24 => ⟨S128x3x2048, .f32⟩
  | 25 => ⟨S128x2048, .f32⟩
  | 26 => ⟨S128x2048, .f32⟩
  | 27 => ⟨S128x2048, .f32⟩
  | 28 => ⟨S_, .f32⟩
  | 29 => ⟨S128x2048, .f32⟩
  | 30 => ⟨S128x2048, .f32⟩
  | 31 => ⟨S_, .f32⟩
  | 32 => ⟨S128x2048, .f32⟩
  | 33 => ⟨S128x2048, .f32⟩
  | 34 => ⟨S128x2048, .f32⟩
  | 35 => ⟨S128x1024, .f32⟩
  | 36 => ⟨S128x512, .f32⟩
  | 37 => ⟨S128x512, .f32⟩
  | 38 => ⟨S128x512, .f32⟩
  | 39 => ⟨S128x512, .f32⟩
  | 40 => ⟨S128x1024, .f32⟩
  | 41 => ⟨S128x2048, .f32⟩
  | 42 => ⟨S128x1024, .f32⟩
  | 43 => ⟨S3x128x2048, .f32⟩
  | _ => ⟨S128x13312, .f32⟩

abbrev hbmTy (i : Nat) : BufTy := match i / 128 with
  | 0 => hbmTy0_0 i
  | 1 => hbmTy0_1 i
  | _ => ⟨S128x13312, .f32⟩

abbrev bufTy : (tb : Table) → Fin (tcTables nBuf tb) → BufTy
  | .hbm, ⟨i, _⟩ => hbmTy i
  | _, _ => ⟨S128x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_1 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_3 : Ref sig .tc := ⟨.hbm, 80, rfl⟩
abbrev main_v66 : Ref sig .tc := ⟨.hbm, 81, rfl⟩
abbrev main_v67 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v68 : Ref sig .tc := ⟨.hbm, 91, rfl⟩
abbrev main_cst_4 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_5 : Ref sig .tc := ⟨.hbm, 97, rfl⟩
abbrev main_v73 : Ref sig .tc := ⟨.hbm, 98, rfl⟩
abbrev main_v74 : Ref sig .tc := ⟨.hbm, 99, rfl⟩
abbrev main_cst_6 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_7 : Ref sig .tc := ⟨.hbm, 109, rfl⟩
abbrev main_cst_8 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_9 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_call2_v0 : Ref sig .tc := ⟨.hbm, 154, rfl⟩
abbrev main_call2_v1 : Ref sig .tc := ⟨.hbm, 155, rfl⟩
abbrev main_call2_cst : Ref sig .tc := ⟨.hbm, 156, rfl⟩
abbrev main_call2_v2 : Ref sig .tc := ⟨.hbm, 157, rfl⟩
abbrev main_call2_v3 : Ref sig .tc := ⟨.hbm, 158, rfl⟩
abbrev main_call2_cst_0 : Ref sig .tc := ⟨.hbm, 159, rfl⟩
abbrev main_call2_v4 : Ref sig .tc := ⟨.hbm, 160, rfl⟩
abbrev main_call2_v5 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩

abbrev nD : Nat := 1
abbrev τ : Topo := Topo.v7x

variable {F : FTy → Type} [FloatOps F]
-- ==== Proof.Ret.Frames.lean ====
/- The runs of the retention programs and the named constants (hand-written, untrusted). -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Ret

open Idealize.ShloMosaic Idealize.SL.Sem

/-- The printed kernel's run: arguments unchanged, every counter back at zero. -/
theorem run_kernel : Cert.quiescent_Kernel (hKernel := Cert.Kernel.Gen.facts) := fun m ρ _ => Cert.Kernel.Gen.frame m ρ

/-- The same of its idealization. -/
theorem run_kernelIdeal : Cert.quiescent_KernelIdeal (hKernelIdeal := Cert.KernelIdeal.Gen.facts) :=
  fun m ρ _ => Cert.KernelIdeal.Gen.frame m ρ

/-- The reference declares no semaphore, so its run need only keep the arguments. -/
theorem run_referenceIdeal : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Each head's decay over a chunk, printed as the nearest `f32` and read as the rational it stands for. -/
theorem named_decays : Cert.preserves_Kernel_KernelIdeal :=
  ⟨IdealRules.named_const.statement Cert.KernelIdeal.κ "g0" .f32 _ _ rfl,
    IdealRules.named_const.statement Cert.KernelIdeal.κ "g1" .f32 _ _ rfl,
    IdealRules.named_const.statement Cert.KernelIdeal.κ "g2" .f32 _ _ rfl,
    IdealRules.named_const.statement Cert.KernelIdeal.κ "g3" .f32 _ _ rfl⟩

end Cert.Ret

end
-- ==== Proof.Ret.Maths.lean ====
/- The decayed outer-product recurrence over the reals and its chunked form (hand-written, untrusted). -/
module

public import Mathlib.Data.EReal.Operations
public import Mathlib.Algebra.BigOperators.Fin
public import Mathlib.Tactic.Ring
public import Mathlib.Tactic.Linarith

@[expose] public section

noncomputable section

namespace Cert.Ret.Maths

open Finset

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The state after `t` tokens: each token decays it by `g` and adds the token's product. -/
def state (g : ℝ) (a : ℕ → ℝ) : ℕ → ℝ
  | 0 => 0
  | t + 1 => g * state g a t + a t

/-- The state `n` tokens further on, from the state at `t`. -/
theorem state_add (g : ℝ) (a : ℕ → ℝ) (t : ℕ) : ∀ n, state g a (t + n)
    = g ^ n * state g a t + ∑ j ∈ range n, g ^ (n - 1 - j) * a (t + j)
  | 0 => by simp
  | n + 1 => by
    rw [← Nat.add_assoc, state, state_add g a t n, sum_range_succ, mul_add, mul_sum]
    have e : ∀ j ∈ range n, g * (g ^ (n - 1 - j) * a (t + j)) = g ^ (n + 1 - 1 - j) * a (t + j) := fun j hj => by
      have hj' := mem_range.mp hj
      rw [show n + 1 - 1 - j = (n - 1 - j) + 1 by omega]; ring
    rw [sum_congr rfl e]
    simp only [Nat.add_sub_cancel, Nat.sub_self, pow_zero]
    ring

/-- A whole chunk of `N` tokens. -/
theorem state_chunk (g : ℝ) (k v : ℕ → ℝ) (t N : ℕ) :
    state g (fun s => k s * v s) (t + N)
      = g ^ N * state g (fun s => k s * v s) t + ∑ j : Fin N, (k (t + j) * g ^ (N - 1 - (j : ℕ))) * v (t + j) := by
  rw [state_add, ← Fin.sum_univ_eq_sum_range (fun j => g ^ (N - 1 - j) * (k (t + j) * v (t + j))) N]
  congr 1
  exact sum_congr rfl fun j _ => by ring

/-- What token `t + i` of a chunk reads off the state: the chunk's own pairs, decayed by their distance, and the state
    the chunk began with. -/
theorem read_chunk {D : Type} [Fintype D] (g : ℝ) (q : D → ℝ) (k : ℕ → D → ℝ) (v : ℕ → ℝ) (t N : ℕ) (i : Fin N) :
    ∑ d, q d * state g (fun s => k s d * v s) (t + i + 1)
      = ∑ j : Fin N, ((∑ d, q d * k (t + j) d) * (if (j : ℕ) ≤ i then g ^ ((i : ℕ) - j) else 0)) * v (t + j)
        + ∑ d, (q d * g ^ ((i : ℕ) + 1)) * state g (fun s => k s d * v s) t := by
  have e1 : ∀ d, q d * state g (fun s => k s d * v s) (t + i + 1)
      = ∑ j : Fin N, (q d * k (t + j) d) * (if (j : ℕ) ≤ i then g ^ ((i : ℕ) - j) else 0) * v (t + j)
        + (q d * g ^ ((i : ℕ) + 1)) * state g (fun s => k s d * v s) t := fun d => by
    rw [Nat.add_assoc, state_add]
    have e2 : ∑ j ∈ range ((i : ℕ) + 1), g ^ ((i : ℕ) + 1 - 1 - j) * (k (t + j) d * v (t + j))
        = ∑ j : Fin N, k (t + j) d * (if (j : ℕ) ≤ i then g ^ ((i : ℕ) - j) else 0) * v (t + j) := by
      rw [Fin.sum_univ_eq_sum_range (fun j => k (t + j) d * (if j ≤ (i : ℕ) then g ^ ((i : ℕ) - j) else 0) * v (t + j)) N]
      have hs : range ((i : ℕ) + 1) ⊆ range N := range_subset_range.mpr (by omega)
      rw [← sum_subset hs]
      · refine sum_congr rfl fun j hj => ?_
        have hj' := mem_range.mp hj
        rw [if_pos (by omega), Nat.add_sub_cancel]; ring
      · intro j _ hj
        have hj' : ¬ j < (i : ℕ) + 1 := fun h => hj (mem_range.mpr h)
        rw [if_neg (by omega)]; ring
    rw [e2, mul_add, mul_sum, add_comm]
    congr 1
    · exact sum_congr rfl fun j _ => by ring
    · ring
  rw [sum_congr rfl fun d _ => e1 d, sum_add_distrib, sum_comm]
  congr 1
  exact sum_congr rfl fun j _ => by rw [sum_mul, sum_mul]

end Cert.Ret.Maths

end
-- ==== Proof.Ret.Spec.lean ====
/- The retention mixer's mathematics over the reals, and the printed constants it reads (hand-written, untrusted). -/
module

public import proofs.«01_k».proof.Proof.Ret.Maths
public import Idealize.ShloMosaic.Lib.Pointwise
public import Idealize.ShloMosaic.Lib.IdealHost

@[expose] public section

noncomputable section

namespace Cert.Ret

open Idealize.ShloMosaic

/-- The key scale as printed, `128 ^ (-1/2)` rounded to `f32`. -/
def keyScale : ℝ := (Ideal.ofBits .f32 0x3DB504F3#32).toReal

/-- The printed key scale is a real. -/
theorem keyScale_coe : Ideal.ofBits .f32 0x3DB504F3#32 = (keyScale : EReal) := by
  refine (EReal.coe_toReal ?_ ?_).symm <;> simp only [Ideal.ofBits, Ideal.ieee] <;> simp <;> rw [← EReal.coe_mul]
  · exact EReal.coe_ne_top _
  · exact EReal.coe_ne_bot _
/-- The printed one half. -/
theorem half_coe : Ideal.ofBits .f32 0x3F000000#32 = ((1 / 2 : ℝ) : EReal) := by
  simp [Ideal.ofBits, Ideal.ieee]; rw [← EReal.coe_mul]; congr 1; norm_num
/-- The printed five. -/
theorem five_coe : Ideal.ofBits .f32 0x40A00000#32 = ((5 : ℝ) : EReal) := by
  simp [Ideal.ofBits, Ideal.ieee]; rw [← EReal.coe_mul]; congr 1; norm_num
/-- The printed sixty-four. -/
theorem sixtyFour_coe : Ideal.ofBits .f32 0x42800000#32 = ((64 : ℝ) : EReal) := by
  simp [Ideal.ofBits, Ideal.ieee]; rw [← EReal.coe_mul]; congr 1; norm_num
/-- The printed rotary base. -/
theorem base_coe : Ideal.ofBits .f32 0x461C4000#32 = ((10000 : ℝ) : EReal) := by
  simp [Ideal.ofBits, Ideal.ieee]; rw [← EReal.coe_mul]; congr 1; norm_num

/-- A small count converted to a float is that number. -/
theorem count_coe (n : ℕ) (hn : n < 2 ^ 31) : ((((BitVec.ofNat 32 n).toInt : ℝ)) : EReal) = ((n : ℝ) : EReal) := by
  have e : (BitVec.ofNat 32 n).toInt = (n : Int) := by
    rw [BitVec.toInt_eq_toNat_cond, BitVec.toNat_ofNat, Nat.mod_eq_of_lt (by omega)]
    simp only [show 2 * n < 2 ^ 32 by omega, if_true]
  rw [e, Int.cast_natCast]

/-- The angle of token `t` at lane `d` of a half. -/
def angle (t d : ℕ) : ℝ := (t : ℝ) * Real.rpow 10000 (-((d : ℝ) / 64))

/-- Head `h`'s decay per token. -/
def decay (h : ℕ) : ℝ := 1 - Real.rpow (1 / 2) (5 + (h : ℝ))

theorem decay_eq (h : ℕ) : decay h = 1 - (1 / 2) ^ (5 + h) := by
  unfold decay
  rw [show (5 : ℝ) + (h : ℝ) = ((5 + h : ℕ) : ℝ) by push_cast; ring]
  exact congrArg _ (Real.rpow_natCast _ _)

theorem decay_pos (h : ℕ) : 0 < decay h := by
  rw [decay_eq]
  have := pow_le_one₀ (n := h) (a := (1 / 2 : ℝ)) (by norm_num) (by norm_num)
  rw [pow_add]
  nlinarith

/-- A head's decay as the programs compute its logarithm. -/
theorem logDecay_coe (h : ℕ) : Ideal.log1p (-Ideal.pow ((1 / 2 : ℝ) : EReal) (((5 : ℝ) : EReal) + ((h : ℝ) : EReal)))
    = ((Real.log (decay h) : ℝ) : EReal) := by
  rw [← EReal.coe_add, Ideal.pow_coe_coe, ← EReal.coe_neg, Ideal.log1p, ← EReal.coe_one, ← EReal.coe_add, Ideal.log_coe,
    ← sub_eq_add_neg]
  exact if_neg (not_le.mpr (decay_pos h))

/-- The exponential of a multiple of the logarithm is a power of the decay. -/
theorem expLog (h n : ℕ) : Real.exp (Real.log (decay h) * (n : ℝ)) = decay h ^ n := by
  rw [mul_comm, Real.exp_nat_mul, Real.exp_log (decay_pos h)]

/-- The rotated lane `d` of a row of 128 lanes read by `f`, at token `t`. -/
def rotated (f : ℕ → ℝ) (t d : ℕ) : ℝ :=
  if d < 64 then f d * Real.cos (angle t d) - f (64 + d) * Real.sin (angle t d)
  else f (d - 64) * Real.sin (angle t (d - 64)) + f d * Real.cos (angle t (d - 64))

/-- The rotation of the first half's lanes, and of the second half's. -/
theorem rotated_low (f : ℕ → ℝ) (t : ℕ) {d : ℕ} (hd : d < 64) :
    rotated f t d = f d * Real.cos (angle t d) - f (64 + d) * Real.sin (angle t d) := if_pos hd
theorem rotated_high (f : ℕ → ℝ) (t : ℕ) {d : ℕ} (hd : ¬d < 64) :
    rotated f t d = f (d - 64) * Real.sin (angle t (d - 64)) + f d * Real.cos (angle t (d - 64)) := if_neg hd

/-- The query, key and value of batch `b`, token `t`, head `h`. -/
def query (X : ℕ → ℕ → ℝ) (b t h d : ℕ) : ℝ := rotated (fun d => X (b * 2048 + t) (h * 128 + d)) t d
def key (X : ℕ → ℕ → ℝ) (b t h d : ℕ) : ℝ := rotated (fun d => X (b * 2048 + t) (512 + (h * 128 + d))) t d * keyScale
def value (X : ℕ → ℕ → ℝ) (b t h e : ℕ) : ℝ := X (b * 2048 + t) (1024 + (h * 256 + e))

/-- The state of batch `b`, head `h` after `t` tokens. -/
def memory (X : ℕ → ℕ → ℝ) (b h d e t : ℕ) : ℝ :=
  Maths.state (decay h) (fun s => key X b s h d * value X b s h e) t

/-- What token `t` reads off the state. -/
def recall (X : ℕ → ℕ → ℝ) (b t h e : ℕ) : ℝ := ∑ d : Fin 128, query X b t h d * memory X b h d e (t + 1)

/-- The mixer's output at row `r`, column `l`: the recalled row, normalised over its head, times the gain and the gate. -/
def mixed (o : Fin 256 → EReal) (gate gain : EReal) (e : Fin 256) : EReal :=
  gate * Ideal.div 1 (1 + Ideal.exp (-gate))
    * ((o e - Ideal.div (∑ j : Fin 256, o j) (Ideal.ofBits .f32 0x43800000#32))
        * Ideal.rsqrt (Ideal.div (∑ j : Fin 256, (o j - Ideal.div (∑ j : Fin 256, o j) (Ideal.ofBits .f32 0x43800000#32))
              * (o j - Ideal.div (∑ j : Fin 256, o j) (Ideal.ofBits .f32 0x43800000#32))) (Ideal.ofBits .f32 0x43800000#32)
            + Ideal.ofBits .f32 0x358637BD#32)
        * gain)

end Cert.Ret
-- ==== Proof.Ret.Tables.lean ====
/- The tables the host hands the kernel, and where a grid point's tiles lie in the arrays (hand-written, untrusted). -/
module

public import proofs.«01_k».proof.Proof.Gen.KernelIdeal.Value
public import proofs.«01_k».proof.Proof.Ret.Spec
public import Idealize.ShloMosaic.Lib.Pointwise
public import Idealize.ShloMosaic.Lib.IdealHost
public import Idealize.ShloMosaic.Lib.Pipeline.ValueKit
public import Idealize.ShloMosaic.Lib.StableHlo.ReadAt

@[expose] public section

set_option maxRecDepth 16384

noncomputable section

namespace Cert.Ret.Tables

open Idealize.ShloMosaic Idealize.ShloMosaic.TcCoe Idealize.SL.Sem
open Cert.KernelIdeal Cert.KernelIdeal.Gen Cert.KernelIdeal.Value

/-- Which block each window holds at each point. -/
theorem place : ∀ t : Fin cfg0.N, win0_0.index t = ![t.val, 0] ∧ win0_1.index t = ![t.val, 1] ∧ win0_2.index t = ![t.val, 1]
   ∧ win0_3.index t = ![t.val, 2] ∧ win0_4.index t = ![t.val % 8, 0] ∧ win0_5.index t = ![t.val % 8, 0]
   ∧ win0_6.index t = ![t.val % 8, 0] ∧ win0_7.index t = ![t.val % 8, 0] ∧ win0_8.index t = ![0, 0, 0]
   ∧ win0_9.index t = ![0, 0, 0] ∧ win0_10.index t = ![0, 0, 0] ∧ win0_11.index t = ![0, 0] := by decide +kernel

theorem lt64 (t : Fin cfg0.N) : t.val < 64 := lt_of_lt_of_eq t.isLt N_0

variable (m : (ℓ : Loc nD τ sig) → Buf (Elt Ideal) ℓ) (c : Dev nD)

/-! ## The tiles -/

theorem q_tile (t : Fin cfg0.N) (r : Fin 256) (l : Fin 512) : (iblk m c 0 t : Vec Ideal S256x512 .bf16) (ix2 r l)
    = m ((c : Thread nD τ).loc main_arg0) (ix2 ⟨256 * t.val + r.val, by have := lt64 t; omega⟩ ⟨l.val, by omega⟩) := by
  have e := place t
  blk_ext [iblk, V_main_arg0, e]
theorem k_tile (t : Fin cfg0.N) (r : Fin 256) (l : Fin 512) : (iblk m c 1 t : Vec Ideal S256x512 .bf16) (ix2 r l)
    = m ((c : Thread nD τ).loc main_arg0) (ix2 ⟨256 * t.val + r.val, by have := lt64 t; omega⟩ ⟨512 + l.val, by omega⟩) := by
  have e := place t
  blk_ext [iblk, V_main_arg0, e]
theorem v_tile (t : Fin cfg0.N) (r : Fin 256) (l : Fin 1024) : (iblk m c 2 t : Vec Ideal S256x1024 .bf16) (ix2 r l)
    = m ((c : Thread nD τ).loc main_arg0) (ix2 ⟨256 * t.val + r.val, by have := lt64 t; omega⟩ ⟨1024 + l.val, by omega⟩) := by
  have e := place t
  blk_ext [iblk, V_main_arg0, e]
theorem gate_tile (t : Fin cfg0.N) (r : Fin 256) (l : Fin 1024) : (iblk m c 3 t : Vec Ideal S256x1024 .bf16) (ix2 r l)
    = m ((c : Thread nD τ).loc main_arg0) (ix2 ⟨256 * t.val + r.val, by have := lt64 t; omega⟩ ⟨2048 + l.val, by omega⟩) := by
  have e := place t
  blk_ext [iblk, V_main_arg0, e]
theorem gain_tile (t : Fin cfg0.N) (l : Fin 1024) : (iblk m c 11 t : Vec Ideal S1x1024 .f32) (ix2 0 l)
    = m ((c : Thread nD τ).loc main_arg1) (ix2 0 l) := by
  have e := place t
  blk_ext [iblk, V_main_arg1, e]

/-! ## The tables -/

/-- The token of row `r` of the chunk of point `t`. -/
def token (t : Fin cfg0.N) (r : Fin 256) : Fin 2048 := ⟨256 * (t.val % 8) + r.val, by omega⟩

/-- The angle, as the kernel's host code computes it. -/
theorem angle_at (t d : ℕ) (ht : t < 2048) (hd : d < 64) : FloatOps.sitofp (F := Ideal) FTy.f32 (BitVec.ofNat 32 t) *
    Ideal.pow ((10000 : ℝ) : EReal) (-Ideal.div (FloatOps.sitofp (F := Ideal) FTy.f32 (BitVec.ofNat 32 d)) ((64 : ℝ) : EReal)) = ((angle t d : ℝ) : EReal) := by
  show ((((BitVec.ofNat 32 t).toInt : ℝ)) : EReal) * Ideal.pow _ (-Ideal.div ((((BitVec.ofNat 32 d).toInt : ℝ)) : EReal) _) = _
  rw [count_coe _ (by omega), count_coe _ (by omega), Ideal.div_coe (by norm_num), ← EReal.coe_mul, ← EReal.coe_neg,
    Ideal.pow_coe_coe, ← EReal.coe_mul, angle, show -((d : ℝ) * (1 / 64)) = -((d : ℝ) / 64) by ring]

/-- The two rotation tables over the reals. -/
def cosines (t d : ℕ) : ℝ := if d < 64 then Real.cos (angle t d) else Real.cos (angle t (d - 64))
def sines (t d : ℕ) : ℝ := if d < 64 then -Real.sin (angle t d) else Real.sin (angle t (d - 64))

set_option maxHeartbeats 4000000 in
theorem cos_table (t : Fin 2048) (d : Fin 128) : V m c main_v62 (ix2 t d) = ((cosines t d : ℝ) : EReal) := by
  simp only [V, List.flatten_cons, List.flatten_nil, List.append_nil, List.cons_append, List.nil_append]
  after_reads_at
  rw [base_coe, sixtyFour_coe]
  unfold cosines
  by_cases hd : d.val < 64
  · rw [dif_pos hd, if_pos hd, angle_at _ _ t.isLt hd, Ideal.cos_coe]
  · rw [dif_neg hd, if_neg hd, angle_at _ _ t.isLt (by omega), Ideal.cos_coe]

set_option maxHeartbeats 4000000 in
theorem sin_table (t : Fin 2048) (d : Fin 128) : V m c main_v64 (ix2 t d) = ((sines t d : ℝ) : EReal) := by
  simp only [V, List.flatten_cons, List.flatten_nil, List.append_nil, List.cons_append, List.nil_append]
  after_reads_at
  rw [base_coe, sixtyFour_coe]
  unfold sines
  by_cases hd : d.val < 64
  · rw [dif_pos hd, if_pos hd, angle_at _ _ t.isLt hd, Ideal.sin_coe, EReal.coe_neg]
  · rw [dif_neg hd, if_neg hd, angle_at _ _ t.isLt (by omega), Ideal.sin_coe]

set_option maxHeartbeats 4000000 in
theorem cos_scaled (t : Fin 2048) (d : Fin 128) : V m c main_v66 (ix2 t d) = ((cosines t d * keyScale : ℝ) : EReal) := by
  simp only [V, List.flatten_cons, List.flatten_nil, List.append_nil, List.cons_append, List.nil_append]
  after_reads_at
  after_reads_at
  rw [base_coe, sixtyFour_coe, keyScale_coe, EReal.coe_mul]
  unfold cosines
  by_cases hd : d.val < 64
  · rw [dif_pos hd, if_pos hd, angle_at _ _ t.isLt hd, Ideal.cos_coe]
  · rw [dif_neg hd, if_neg hd, angle_at _ _ t.isLt (by omega), Ideal.cos_coe]

set_option maxHeartbeats 4000000 in
theorem sin_scaled (t : Fin 2048) (d : Fin 128) : V m c main_v68 (ix2 t d) = ((sines t d * keyScale : ℝ) : EReal) := by
  simp only [V, List.flatten_cons, List.flatten_nil, List.append_nil, List.cons_append, List.nil_append]
  after_reads_at
  after_reads_at
  rw [base_coe, sixtyFour_coe, keyScale_coe, EReal.coe_mul]
  unfold sines
  by_cases hd : d.val < 64
  · rw [dif_pos hd, if_pos hd, angle_at _ _ t.isLt hd, Ideal.sin_coe, EReal.coe_neg]
  · rw [dif_neg hd, if_neg hd, angle_at _ _ t.isLt (by omega), Ideal.sin_coe]

/-- The printed 255. -/
theorem last_coe : Ideal.ofBits .f32 0x437F0000#32 = ((255 : ℝ) : EReal) := by
  simp [Ideal.ofBits, Ideal.ieee]; rw [← EReal.coe_mul]; congr 1; norm_num

/-- The logarithm of a head's decay, as the kernel's host code computes it. -/
theorem log_at (h : Fin 4) : Ideal.log1p (-Ideal.pow (Ideal.ofBits FTy.f32 1056964608#32)
    (Ideal.ofBits FTy.f32 1084227584#32 + FloatOps.sitofp (F := Ideal) FTy.f32 (BitVec.ofNat 32 h))) = ((Real.log (decay h) : ℝ) : EReal) := by
  rw [half_coe, five_coe]
  show Ideal.log1p (-Ideal.pow _ (_ + ((((BitVec.ofNat 32 h).toInt : ℝ)) : EReal))) = _
  rw [count_coe _ (by omega), logDecay_coe]

set_option maxHeartbeats 4000000 in
theorem since_start (h : Fin 4) (r : Fin 256) (d : Fin 128) : V m c main_v44 (ix3 h r d) = ((decay h ^ (r.val + 1) : ℝ) : EReal) := by
  simp only [V, List.flatten_cons, List.flatten_nil, List.append_nil, List.cons_append, List.nil_append]
  after_reads_at
  rw [log_at]
  show Ideal.exp (_ * (((((BitVec.ofNat 32 r).toInt : ℝ)) : EReal) + 1)) = _
  rw [count_coe _ (by omega), ← EReal.coe_one, ← EReal.coe_add, ← EReal.coe_mul, Ideal.exp_coe,
    show ((r.val : ℝ) + 1) = ((r.val + 1 : ℕ) : ℝ) by push_cast; rfl, expLog]

set_option maxHeartbeats 4000000 in
theorem to_end (h : Fin 4) (r : Fin 256) (d : Fin 128) : V m c main_v46 (ix3 h r d) = ((decay h ^ (256 - 1 - r.val) : ℝ) : EReal) := by
  simp only [V, List.flatten_cons, List.flatten_nil, List.append_nil, List.cons_append, List.nil_append]
  after_reads_at
  rw [log_at, last_coe]
  show Ideal.exp (_ * (_ - ((((BitVec.ofNat 32 r).toInt : ℝ)) : EReal))) = _
  rw [count_coe _ (by omega), ← EReal.coe_sub, ← EReal.coe_mul, Ideal.exp_coe,
    show ((255 : ℝ) - (r.val : ℝ)) = ((256 - 1 - r.val : ℕ) : ℝ) by rw [Nat.cast_sub (by omega)]; norm_num, expLog]

/-- The difference of two small counts converted to a float. -/
theorem diff_coe (r j : ℕ) (hr : r < 256) (hj : j < 256) :
    ((((IntOp.subi (BitVec.ofNat 32 r) (BitVec.ofNat 32 j)).toInt : ℝ)) : EReal) = (((r : ℝ) - (j : ℝ) : ℝ) : EReal) := by
  have e : (IntOp.subi (BitVec.ofNat 32 r) (BitVec.ofNat 32 j)).toInt = (r : Int) - (j : Int) := by
    show (BitVec.ofNat 32 r - BitVec.ofNat 32 j).toInt = _
    rw [BitVec.toInt_sub, BitVec.toInt_ofNat', BitVec.toInt_ofNat']
    simp [Int.bmod_def]
    omega
  rw [e]; push_cast; rfl

set_option maxHeartbeats 4000000 in
theorem between (h : Fin 4) (r j : Fin 256) : V m c main_v24 (ix3 h r j)
    = (((if (j : ℕ) ≤ r then decay h ^ ((r : ℕ) - j) else 0 : ℝ)) : EReal) := by
  simp only [V, List.flatten_cons, List.flatten_nil, List.append_nil, List.cons_append, List.nil_append]
  after_reads_at
  rw [log_at]
  show (if (0 : EReal) ≤ ((((IntOp.subi (BitVec.ofNat 32 r) (BitVec.ofNat 32 j)).toInt : ℝ)) : EReal) then
    Ideal.exp (_ * max ((((IntOp.subi (BitVec.ofNat 32 r) (BitVec.ofNat 32 j)).toInt : ℝ)) : EReal) 0) else Ideal.ofBits .f32 0#32) = _
  rw [diff_coe _ _ r.isLt j.isLt]
  by_cases hj : (j : ℕ) ≤ r
  · have hc : (j.val : ℝ) ≤ r.val := by exact_mod_cast hj
    rw [if_pos hj, if_pos (by rw [← EReal.coe_zero, EReal.coe_le_coe_iff]; linarith), max_eq_left (by rw [← EReal.coe_zero, EReal.coe_le_coe_iff]; linarith),
      ← EReal.coe_mul, Ideal.exp_coe, ← Nat.cast_sub hj, expLog]
  · have hc : (r.val : ℝ) < j.val := by exact_mod_cast not_le.mp hj
    rw [if_neg hj, if_neg (by rw [← EReal.coe_zero, EReal.coe_le_coe_iff]; linarith)]
    simp [Ideal.ofBits, Ideal.ieee]

theorem qc_tile (t : Fin cfg0.N) (r : Fin 256) (d : Fin 128) : (iblk m c 4 t : Vec Ideal S256x128 .f32) (ix2 r d)
    = ((cosines (token t r) d : ℝ) : EReal) := by
  rw [← cos_table m c (token t r) d]
  have e := place t
  unfold token
  blk_ext [iblk, e]
theorem qs_tile (t : Fin cfg0.N) (r : Fin 256) (d : Fin 128) : (iblk m c 5 t : Vec Ideal S256x128 .f32) (ix2 r d)
    = ((sines (token t r) d : ℝ) : EReal) := by
  rw [← sin_table m c (token t r) d]
  have e := place t
  unfold token
  blk_ext [iblk, e]
theorem kc_tile (t : Fin cfg0.N) (r : Fin 256) (d : Fin 128) : (iblk m c 6 t : Vec Ideal S256x128 .f32) (ix2 r d)
    = ((cosines (token t r) d * keyScale : ℝ) : EReal) := by
  rw [← cos_scaled m c (token t r) d]
  have e := place t
  unfold token
  blk_ext [iblk, e]
theorem ks_tile (t : Fin cfg0.N) (r : Fin 256) (d : Fin 128) : (iblk m c 7 t : Vec Ideal S256x128 .f32) (ix2 r d)
    = ((sines (token t r) d * keyScale : ℝ) : EReal) := by
  rw [← sin_scaled m c (token t r) d]
  have e := place t
  unfold token
  blk_ext [iblk, e]
theorem fade_tile (t : Fin cfg0.N) (h : Fin 4) (r j : Fin 256) : (iblk m c 8 t : Vec Ideal S4x256x256 .f32) (ix3 h r j)
    = (((if (j : ℕ) ≤ r then decay h ^ ((r : ℕ) - j) else 0 : ℝ)) : EReal) := by
  rw [← between m c h r j]
  have e := place t
  blk_ext [iblk, e]
theorem qf_tile (t : Fin cfg0.N) (h : Fin 4) (r : Fin 256) (d : Fin 128) : (iblk m c 9 t : Vec Ideal S4x256x128 .f32) (ix3 h r d)
    = ((decay h ^ (r.val + 1) : ℝ) : EReal) := by
  rw [← since_start m c h r d]
  have e := place t
  blk_ext [iblk, e]
theorem kf_tile (t : Fin cfg0.N) (h : Fin 4) (r : Fin 256) (d : Fin 128) : (iblk m c 10 t : Vec Ideal S4x256x128 .f32) (ix3 h r d)
    = ((decay h ^ (256 - 1 - r.val) : ℝ) : EReal) := by
  rw [← to_end m c h r d]
  have e := place t
  blk_ext [iblk, e]

end Cert.Ret.Tables
-- ==== Proof.Ret.Tiles.lean ====
/- A grid point's tiles and what they stand for (hand-written, untrusted). -/
module

public import proofs.«01_k».proof.Proof.Gen.KernelIdeal.Value
public import proofs.«01_k».proof.Proof.Ret.Spec
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Ret.Block

open Idealize.ShloMosaic Idealize.ShloMosaic.TcCoe Idealize.SL.Sem
open Cert.KernelIdeal Cert.KernelIdeal.Gen Cert.KernelIdeal.Value

/-- The tiles a grid point reads. -/
structure Tiles where
  q : Vec Ideal S256x512 .bf16
  k : Vec Ideal S256x512 .bf16
  v : Vec Ideal S256x1024 .bf16
  gate : Vec Ideal S256x1024 .bf16
  qc : Vec Ideal S256x128 .f32
  qs : Vec Ideal S256x128 .f32
  kc : Vec Ideal S256x128 .f32
  ks : Vec Ideal S256x128 .f32
  fade : Vec Ideal S4x256x256 .f32
  qf : Vec Ideal S4x256x128 .f32
  kf : Vec Ideal S4x256x128 .f32
  gain : Vec Ideal S1x1024 .f32

/-- Head `h`'s lane `d` among the 512 query or key columns, and lane `e` among the 1024 value columns. -/
def narrow (h : Fin 4) (d : Fin 128) : Fin 512 := ⟨h.val * 128 + d.val, by omega⟩
def wide (h : Fin 4) (e : Fin 256) : Fin 1024 := ⟨h.val * 256 + e.val, by omega⟩

/-- A rotated row: each lane times the first table, plus the lane half a head away times the second. -/
def turned (x : Vec Ideal S256x512 .bf16) (a b : Vec Ideal S256x128 .f32) (h : Fin 4) (r : Fin 256) (d : Fin 128) : EReal :=
  x (ix2 r (narrow h d)) * a (ix2 r d) + x (ix2 r (narrow h ⟨(d.val + 128 - 64) % 128, Nat.mod_lt _ (by decide)⟩)) * b (ix2 r d)

/-- The factor by which a chunk's end keeps the state it began with. -/
def keep (h : Fin 4) : EReal :=
  ![Named.named (F := Ideal) κ "g0" (φ := .f32) 0x399ACCA1#32, Named.named (F := Ideal) κ "g1" (φ := .f32) 0x3C9160A5#32, Named.named (F := Ideal) κ "g2" (φ := .f32) 0x3E097FCE#32,
    Named.named (F := Ideal) κ "g3" (φ := .f32) 0x3EBBFC5D#32] h

variable (T : Tiles) (S : Vec Ideal S4x128x256 .f32)

/-- A row of the chunk before normalisation: the tokens of its own chunk, then the state the chunk began with. -/
def row (h : Fin 4) (r : Fin 256) (e : Fin 256) : EReal :=
  ∑ j, (∑ d, turned T.q T.qc T.qs h r d * turned T.k T.kc T.ks h j d) * T.fade (ix3 h r j) * T.v (ix2 j (wide h e))
    + ∑ d, turned T.q T.qc T.qs h r d * T.qf (ix3 h r d) * S (ix3 h d e)

/-- The state a chunk leaves. -/
def left (h : Fin 4) (d : Fin 128) (e : Fin 256) : EReal :=
  keep h * S (ix3 h d e) + ∑ j, turned T.k T.kc T.ks h j d * T.kf (ix3 h j d) * T.v (ix2 j (wide h e))

/-- The output row. -/
def shown (h : Fin 4) (r : Fin 256) (e : Fin 256) : EReal :=
  mixed (row T S h r) (T.gate (ix2 r (wide h e))) (T.gain (ix2 0 (wide h e))) e

/-- The heads' numbers. -/
theorem at_0 : ((0 : Fin 4) : ℕ) = 0 := rfl
theorem at_1 : ((1 : Fin 4) : ℕ) = 1 := rfl
theorem at_2 : ((2 : Fin 4) : ℕ) = 2 := rfl
theorem at_3 : ((3 : Fin 4) : ℕ) = 3 := rfl

/-- A buffer written over and over reads as its last writes where those cover it. -/
theorem canon_covered {s : Shape} {e : EltTy} (L' : List (View.Piece (Elt Ideal) s e)) (y : s.Idx) :
    ∀ L : List (View.Piece (Elt Ideal) s e), (∃ p ∈ L, y ∈ p.1.set) → View.canon (L ++ L') y = View.canon L y
  | [], h => by obtain ⟨p, hp, _⟩ := h; exact absurd hp List.not_mem_nil
  | ⟨r, w⟩ :: L, h => by
    by_cases hm : y ∈ r.set
    · obtain ⟨x, rfl⟩ := r.exists_idx_of_mem hm
      exact (View.canon_cons_emb r w (L ++ L') x).trans (View.canon_cons_emb r w L x).symm
    · refine (View.canon_cons_of_not_mem ⟨r, w⟩ (L ++ L') hm).trans (Eq.trans ?_ (View.canon_cons_of_not_mem ⟨r, w⟩ L hm).symm)
      refine canon_covered L' y L ?_
      obtain ⟨p, hp, hy⟩ := h
      rcases List.mem_cons.mp hp with rfl | hp
      · exact absurd hy hm
      · exact ⟨p, hp, hy⟩

/-- The case the state's tile meets: four writes that cover it, over one fill. -/
theorem canon_drop {s : Shape} {e : EltTy} (p q r t z : View.Piece (Elt Ideal) s e) (y : s.Idx) (h : ∃ w ∈ [p, q, r, t], y ∈ w.1.set) :
    View.canon [p, q, r, t, z] y = View.canon [p, q, r, t] y := canon_covered [z] y [p, q, r, t] h

end Cert.Ret.Block
-- ==== Proof.Ret.BlockOut.lean ====
/- The output tile one grid point computes, read off its tiles (hand-written, untrusted). -/
module

public import proofs.«01_k».proof.Proof.Gen.KernelIdeal.Value
public import proofs.«01_k».proof.Proof.Ret.Tiles
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Ret.Block

open Idealize.ShloMosaic Idealize.ShloMosaic.TcCoe Idealize.SL.Sem
open Cert.KernelIdeal Cert.KernelIdeal.Gen Cert.KernelIdeal.Value

set_option maxHeartbeats 4000000 in
/-- The output tile of a point of case A. -/
theorem out_A (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S4x256x256 .f32) (harg10 : arg10.IsWhole) (arg11 : Memref sig .tc .vmem S4x256x128 .f32) (harg11 : arg11.IsWhole) (arg12 : Memref sig .tc .vmem S4x256x128 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S1x4x128x256 .f32) (harg15 : arg15.IsWhole) (arg16 : Memref sig .tc .vmem S4x128x256 .f32) (harg16 : arg16.IsWhole) (hc0 : cond0_0 i) (hc1 : ¬cond0_1 i)
    (x0 : Vec Ideal S256x512 .bf16) (x1 : Vec Ideal S256x512 .bf16) (x2 : Vec Ideal S256x1024 .bf16) (x3 : Vec Ideal S256x1024 .bf16) (x4 : Vec Ideal S256x128 .f32) (x5 : Vec Ideal S256x128 .f32) (x6 : Vec Ideal S256x128 .f32) (x7 : Vec Ideal S256x128 .f32) (x8 : Vec Ideal S4x256x256 .f32) (x9 : Vec Ideal S4x256x128 .f32) (x10 : Vec Ideal S4x256x128 .f32) (x11 : Vec Ideal S1x1024 .f32) (h : Fin 4) (r : Fin 256) (e : Fin 256) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 (ix2 r (wide h e)) = shown ⟨x0, x1, x2, x3, x4, x5, x6, x7, x8, x9, x10, x11⟩ (fun _ => 0) h r e := by
  frame_open
  simp (disch := decide) only [↓ View.readCov_skip, ↓ View.readCov_cons_toLoadRect, ↓ View.readCov_fill]
  frame_out
  canon_tiles x hh
  · idx_vars x
    unfold wide at hh1
    obtain rfl : r = x0 := Fin.ext hh0
    obtain rfl : h = 3 := by apply Fin.ext; dsimp only at hh1; change h.val = 3; omega
    obtain rfl : e = x1 := by apply Fin.ext; have := hh1; simp at this; omega
    unfold_payloads
    pointwise
    simp only [shown, mixed, row, turned, narrow, wide, at_3, zero_sub]
  · idx_vars x
    unfold wide at hh1
    obtain rfl : r = x0 := Fin.ext hh0
    obtain rfl : h = 2 := by apply Fin.ext; dsimp only at hh1; change h.val = 2; omega
    obtain rfl : e = x1 := by apply Fin.ext; have := hh1; simp at this; omega
    unfold_payloads
    pointwise
    simp only [shown, mixed, row, turned, narrow, wide, at_2, zero_sub]
  · idx_vars x
    unfold wide at hh1
    obtain rfl : r = x0 := Fin.ext hh0
    obtain rfl : h = 1 := by apply Fin.ext; dsimp only at hh1; change h.val = 1; omega
    obtain rfl : e = x1 := by apply Fin.ext; have := hh1; simp at this; omega
    unfold_payloads
    pointwise
    simp only [shown, mixed, row, turned, narrow, wide, at_1, zero_sub]
  · idx_vars x
    unfold wide at hh1
    obtain rfl : r = x0 := Fin.ext hh0
    obtain rfl : h = 0 := by apply Fin.ext; dsimp only at hh1; change h.val = 0; omega
    obtain rfl : e = x1 := by apply Fin.ext; have := hh1; simp at this; omega
    unfold_payloads
    pointwise
    simp only [shown, mixed, row, turned, narrow, wide, at_0, zero_sub, zero_mul, zero_add]

set_option maxHeartbeats 4000000 in
/-- The output tile of a point of case B. -/
theorem out_B (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S4x256x256 .f32) (harg10 : arg10.IsWhole) (arg11 : Memref sig .tc .vmem S4x256x128 .f32) (harg11 : arg11.IsWhole) (arg12 : Memref sig .tc .vmem S4x256x128 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S1x4x128x256 .f32) (harg15 : arg15.IsWhole) (arg16 : Memref sig .tc .vmem S4x128x256 .f32) (harg16 : arg16.IsWhole) (hc0 : ¬cond0_0 i) (hc1 : ¬cond0_1 i)
    (x0 : Vec Ideal S256x512 .bf16) (x1 : Vec Ideal S256x512 .bf16) (x2 : Vec Ideal S256x1024 .bf16) (x3 : Vec Ideal S256x1024 .bf16) (x4 : Vec Ideal S256x128 .f32) (x5 : Vec Ideal S256x128 .f32) (x6 : Vec Ideal S256x128 .f32) (x7 : Vec Ideal S256x128 .f32) (x8 : Vec Ideal S4x256x256 .f32) (x9 : Vec Ideal S4x256x128 .f32) (x10 : Vec Ideal S4x256x128 .f32) (x11 : Vec Ideal S1x1024 .f32) (xs0 : Vec Ideal S4x128x256 .f32) (h : Fin 4) (r : Fin 256) (e : Fin 256) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 (ix2 r (wide h e)) = shown ⟨x0, x1, x2, x3, x4, x5, x6, x7, x8, x9, x10, x11⟩ xs0 h r e := by
  frame_open
  simp (disch := decide) only [↓ View.readCov_skip, ↓ View.readCov_cons_toLoadRect, ↓ View.readCov_fill]
  frame_out
  canon_tiles x hh
  · idx_vars x
    unfold wide at hh1
    obtain rfl : r = x0 := Fin.ext hh0
    obtain rfl : h = 3 := by apply Fin.ext; dsimp only at hh1; change h.val = 3; omega
    obtain rfl : e = x1 := by apply Fin.ext; have := hh1; simp at this; omega
    unfold_payloads
    pointwise
    simp only [shown, mixed, row, turned, narrow, wide, at_3, zero_sub]
  · idx_vars x
    unfold wide at hh1
    obtain rfl : r = x0 := Fin.ext hh0
    obtain rfl : h = 2 := by apply Fin.ext; dsimp only at hh1; change h.val = 2; omega
    obtain rfl : e = x1 := by apply Fin.ext; have := hh1; simp at this; omega
    unfold_payloads
    pointwise
    simp only [shown, mixed, row, turned, narrow, wide, at_2, zero_sub]
  · idx_vars x
    unfold wide at hh1
    obtain rfl : r = x0 := Fin.ext hh0
    obtain rfl : h = 1 := by apply Fin.ext; dsimp only at hh1; change h.val = 1; omega
    obtain rfl : e = x1 := by apply Fin.ext; have := hh1; simp at this; omega
    unfold_payloads
    pointwise
    simp only [shown, mixed, row, turned, narrow, wide, at_1, zero_sub]
  · idx_vars x
    unfold wide at hh1
    obtain rfl : r = x0 := Fin.ext hh0
    obtain rfl : h = 0 := by apply Fin.ext; dsimp only at hh1; change h.val = 0; omega
    obtain rfl : e = x1 := by apply Fin.ext; have := hh1; simp at this; omega
    unfold_payloads
    pointwise
    simp only [shown, mixed, row, turned, narrow, wide, at_0, zero_sub, zero_mul, zero_add]

set_option maxHeartbeats 4000000 in
/-- The output tile of a point of case C. -/
theorem out_C (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S4x256x256 .f32) (harg10 : arg10.IsWhole) (arg11 : Memref sig .tc .vmem S4x256x128 .f32) (harg11 : arg11.IsWhole) (arg12 : Memref sig .tc .vmem S4x256x128 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S1x4x128x256 .f32) (harg15 : arg15.IsWhole) (arg16 : Memref sig .tc .vmem S4x128x256 .f32) (harg16 : arg16.IsWhole) (hc0 : ¬cond0_0 i) (hc1 : cond0_1 i)
    (x0 : Vec Ideal S256x512 .bf16) (x1 : Vec Ideal S256x512 .bf16) (x2 : Vec Ideal S256x1024 .bf16) (x3 : Vec Ideal S256x1024 .bf16) (x4 : Vec Ideal S256x128 .f32) (x5 : Vec Ideal S256x128 .f32) (x6 : Vec Ideal S256x128 .f32) (x7 : Vec Ideal S256x128 .f32) (x8 : Vec Ideal S4x256x256 .f32) (x9 : Vec Ideal S4x256x128 .f32) (x10 : Vec Ideal S4x256x128 .f32) (x11 : Vec Ideal S1x1024 .f32) (xs0 : Vec Ideal S4x128x256 .f32) (h : Fin 4) (r : Fin 256) (e : Fin 256) :
    out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 (ix2 r (wide h e)) = shown ⟨x0, x1, x2, x3, x4, x5, x6, x7, x8, x9, x10, x11⟩ xs0 h r e := by
  frame_open
  simp (disch := decide) only [↓ View.readCov_skip, ↓ View.readCov_cons_toLoadRect, ↓ View.readCov_fill]
  frame_out
  canon_tiles x hh
  · idx_vars x
    unfold wide at hh1
    obtain rfl : r = x0 := Fin.ext hh0
    obtain rfl : h = 3 := by apply Fin.ext; dsimp only at hh1; change h.val = 3; omega
    obtain rfl : e = x1 := by apply Fin.ext; have := hh1; simp at this; omega
    unfold_payloads
    pointwise
    simp only [shown, mixed, row, turned, narrow, wide, at_3, zero_sub]
  · idx_vars x
    unfold wide at hh1
    obtain rfl : r = x0 := Fin.ext hh0
    obtain rfl : h = 2 := by apply Fin.ext; dsimp only at hh1; change h.val = 2; omega
    obtain rfl : e = x1 := by apply Fin.ext; have := hh1; simp at this; omega
    unfold_payloads
    pointwise
    simp only [shown, mixed, row, turned, narrow, wide, at_2, zero_sub]
  · idx_vars x
    unfold wide at hh1
    obtain rfl : r = x0 := Fin.ext hh0
    obtain rfl : h = 1 := by apply Fin.ext; dsimp only at hh1; change h.val = 1; omega
    obtain rfl : e = x1 := by apply Fin.ext; have := hh1; simp at this; omega
    unfold_payloads
    pointwise
    simp only [shown, mixed, row, turned, narrow, wide, at_1, zero_sub]
  · idx_vars x
    unfold wide at hh1
    obtain rfl : r = x0 := Fin.ext hh0
    obtain rfl : h = 0 := by apply Fin.ext; dsimp only at hh1; change h.val = 0; omega
    obtain rfl : e = x1 := by apply Fin.ext; have := hh1; simp at this; omega
    unfold_payloads
    pointwise
    simp only [shown, mixed, row, turned, narrow, wide, at_0, zero_sub, zero_mul, zero_add]

end Cert.Ret.Block
-- ==== Proof.Ret.BlockState.lean ====
/- The state one grid point leaves, read off its tiles (hand-written, untrusted). -/
module

public import proofs.«01_k».proof.Proof.Gen.KernelIdeal.Value
public import proofs.«01_k».proof.Proof.Ret.Tiles
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Ret.Block

open Idealize.ShloMosaic Idealize.ShloMosaic.TcCoe Idealize.SL.Sem
open Cert.KernelIdeal Cert.KernelIdeal.Gen Cert.KernelIdeal.Value

set_option maxHeartbeats 4000000 in
/-- The state a point of case A leaves. -/
theorem state_A (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S4x256x256 .f32) (harg10 : arg10.IsWhole) (arg11 : Memref sig .tc .vmem S4x256x128 .f32) (harg11 : arg11.IsWhole) (arg12 : Memref sig .tc .vmem S4x256x128 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S1x4x128x256 .f32) (harg15 : arg15.IsWhole) (arg16 : Memref sig .tc .vmem S4x128x256 .f32) (harg16 : arg16.IsWhole) (hc0 : cond0_0 i) (hc1 : ¬cond0_1 i)
    (x0 : Vec Ideal S256x512 .bf16) (x1 : Vec Ideal S256x512 .bf16) (x2 : Vec Ideal S256x1024 .bf16) (x3 : Vec Ideal S256x1024 .bf16) (x4 : Vec Ideal S256x128 .f32) (x5 : Vec Ideal S256x128 .f32) (x6 : Vec Ideal S256x128 .f32) (x7 : Vec Ideal S256x128 .f32) (x8 : Vec Ideal S4x256x256 .f32) (x9 : Vec Ideal S4x256x128 .f32) (x10 : Vec Ideal S4x256x128 .f32) (x11 : Vec Ideal S1x1024 .f32) (h : Fin 4) (d : Fin 128) (e : Fin 256) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 (ix3 h d e) = left ⟨x0, x1, x2, x3, x4, x5, x6, x7, x8, x9, x10, x11⟩ (fun _ => 0) h d e := by
  frame_open
  simp (disch := decide) only [↓ View.readCov_skip, ↓ View.readCov_cons_toLoadRect, ↓ View.readCov_fill]
  frame_out
  rw [canon_drop]
  case h =>
    fin_cases h
    · exact ⟨_, .tail _ (.tail _ (.tail _ (.head _))), by rw [Rect.mem_set_unit]; intro a; fin_cases a <;> simp [ix3] <;> omega⟩
    · exact ⟨_, .tail _ (.tail _ (.head _)), by rw [Rect.mem_set_unit]; intro a; fin_cases a <;> simp [ix3] <;> omega⟩
    · exact ⟨_, .tail _ (.head _), by rw [Rect.mem_set_unit]; intro a; fin_cases a <;> simp [ix3] <;> omega⟩
    · exact ⟨_, .head _, by rw [Rect.mem_set_unit]; intro a; fin_cases a <;> simp [ix3] <;> omega⟩
  canon_tiles x hh
  · idx_vars x
    obtain rfl : h = 3 := by apply Fin.ext; have := hh0; change h.val = 3; simp at this; omega
    obtain rfl : d = x1 := Fin.ext hh1
    obtain rfl : e = x2 := Fin.ext hh2
    unfold_payloads
    pointwise
    simp only [left, turned, narrow, wide, at_3]
    rfl
  · idx_vars x
    obtain rfl : h = 2 := by apply Fin.ext; have := hh0; change h.val = 2; simp at this; omega
    obtain rfl : d = x1 := Fin.ext hh1
    obtain rfl : e = x2 := Fin.ext hh2
    unfold_payloads
    pointwise
    simp only [left, turned, narrow, wide, at_2]
    rfl
  · idx_vars x
    obtain rfl : h = 1 := by apply Fin.ext; have := hh0; change h.val = 1; simp at this; omega
    obtain rfl : d = x1 := Fin.ext hh1
    obtain rfl : e = x2 := Fin.ext hh2
    unfold_payloads
    pointwise
    simp only [left, turned, narrow, wide, at_1]
    rfl
  · idx_vars x
    obtain rfl : h = 0 := by apply Fin.ext; have := hh0; change h.val = 0; simp at this; omega
    obtain rfl : d = x1 := Fin.ext hh1
    obtain rfl : e = x2 := Fin.ext hh2
    unfold_payloads
    pointwise
    simp only [left, turned, narrow, wide, at_0, zero_mul, zero_add]
    rfl

set_option maxHeartbeats 4000000 in
/-- The state a point of case B leaves. -/
theorem state_B (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S4x256x256 .f32) (harg10 : arg10.IsWhole) (arg11 : Memref sig .tc .vmem S4x256x128 .f32) (harg11 : arg11.IsWhole) (arg12 : Memref sig .tc .vmem S4x256x128 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S1x4x128x256 .f32) (harg15 : arg15.IsWhole) (arg16 : Memref sig .tc .vmem S4x128x256 .f32) (harg16 : arg16.IsWhole) (hc0 : ¬cond0_0 i) (hc1 : ¬cond0_1 i)
    (x0 : Vec Ideal S256x512 .bf16) (x1 : Vec Ideal S256x512 .bf16) (x2 : Vec Ideal S256x1024 .bf16) (x3 : Vec Ideal S256x1024 .bf16) (x4 : Vec Ideal S256x128 .f32) (x5 : Vec Ideal S256x128 .f32) (x6 : Vec Ideal S256x128 .f32) (x7 : Vec Ideal S256x128 .f32) (x8 : Vec Ideal S4x256x256 .f32) (x9 : Vec Ideal S4x256x128 .f32) (x10 : Vec Ideal S4x256x128 .f32) (x11 : Vec Ideal S1x1024 .f32) (xs0 : Vec Ideal S4x128x256 .f32) (h : Fin 4) (d : Fin 128) (e : Fin 256) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 (ix3 h d e) = left ⟨x0, x1, x2, x3, x4, x5, x6, x7, x8, x9, x10, x11⟩ xs0 h d e := by
  frame_open
  simp (disch := decide) only [↓ View.readCov_skip, ↓ View.readCov_cons_toLoadRect, ↓ View.readCov_fill]
  frame_out
  canon_tiles x hh
  · idx_vars x
    obtain rfl : h = 3 := by apply Fin.ext; have := hh0; change h.val = 3; simp at this; omega
    obtain rfl : d = x1 := Fin.ext hh1
    obtain rfl : e = x2 := Fin.ext hh2
    unfold_payloads
    pointwise
    simp only [left, turned, narrow, wide, at_3]
    rfl
  · idx_vars x
    obtain rfl : h = 2 := by apply Fin.ext; have := hh0; change h.val = 2; simp at this; omega
    obtain rfl : d = x1 := Fin.ext hh1
    obtain rfl : e = x2 := Fin.ext hh2
    unfold_payloads
    pointwise
    simp only [left, turned, narrow, wide, at_2]
    rfl
  · idx_vars x
    obtain rfl : h = 1 := by apply Fin.ext; have := hh0; change h.val = 1; simp at this; omega
    obtain rfl : d = x1 := Fin.ext hh1
    obtain rfl : e = x2 := Fin.ext hh2
    unfold_payloads
    pointwise
    simp only [left, turned, narrow, wide, at_1]
    rfl
  · idx_vars x
    obtain rfl : h = 0 := by apply Fin.ext; have := hh0; change h.val = 0; simp at this; omega
    obtain rfl : d = x1 := Fin.ext hh1
    obtain rfl : e = x2 := Fin.ext hh2
    unfold_payloads
    pointwise
    simp only [left, turned, narrow, wide, at_0, zero_mul, zero_add]
    rfl

set_option maxHeartbeats 4000000 in
/-- The state a point of case C leaves. -/
theorem state_C (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S4x256x256 .f32) (harg10 : arg10.IsWhole) (arg11 : Memref sig .tc .vmem S4x256x128 .f32) (harg11 : arg11.IsWhole) (arg12 : Memref sig .tc .vmem S4x256x128 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S1x4x128x256 .f32) (harg15 : arg15.IsWhole) (arg16 : Memref sig .tc .vmem S4x128x256 .f32) (harg16 : arg16.IsWhole) (hc0 : ¬cond0_0 i) (hc1 : cond0_1 i)
    (x0 : Vec Ideal S256x512 .bf16) (x1 : Vec Ideal S256x512 .bf16) (x2 : Vec Ideal S256x1024 .bf16) (x3 : Vec Ideal S256x1024 .bf16) (x4 : Vec Ideal S256x128 .f32) (x5 : Vec Ideal S256x128 .f32) (x6 : Vec Ideal S256x128 .f32) (x7 : Vec Ideal S256x128 .f32) (x8 : Vec Ideal S4x256x256 .f32) (x9 : Vec Ideal S4x256x128 .f32) (x10 : Vec Ideal S4x256x128 .f32) (x11 : Vec Ideal S1x1024 .f32) (xs0 : Vec Ideal S4x128x256 .f32) (h : Fin 4) (d : Fin 128) (e : Fin 256) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 (ix3 h d e) = left ⟨x0, x1, x2, x3, x4, x5, x6, x7, x8, x9, x10, x11⟩ xs0 h d e := by
  frame_open
  simp (disch := decide) only [↓ View.readCov_skip, ↓ View.readCov_cons_toLoadRect, ↓ View.readCov_fill]
  frame_out
  canon_tiles x hh
  · idx_vars x
    obtain rfl : h = 3 := by apply Fin.ext; have := hh0; change h.val = 3; simp at this; omega
    obtain rfl : d = x1 := Fin.ext hh1
    obtain rfl : e = x2 := Fin.ext hh2
    unfold_payloads
    pointwise
    simp only [left, turned, narrow, wide, at_3]
    rfl
  · idx_vars x
    obtain rfl : h = 2 := by apply Fin.ext; have := hh0; change h.val = 2; simp at this; omega
    obtain rfl : d = x1 := Fin.ext hh1
    obtain rfl : e = x2 := Fin.ext hh2
    unfold_payloads
    pointwise
    simp only [left, turned, narrow, wide, at_2]
    rfl
  · idx_vars x
    obtain rfl : h = 1 := by apply Fin.ext; have := hh0; change h.val = 1; simp at this; omega
    obtain rfl : d = x1 := Fin.ext hh1
    obtain rfl : e = x2 := Fin.ext hh2
    unfold_payloads
    pointwise
    simp only [left, turned, narrow, wide, at_1]
    rfl
  · idx_vars x
    obtain rfl : h = 0 := by apply Fin.ext; have := hh0; change h.val = 0; simp at this; omega
    obtain rfl : d = x1 := Fin.ext hh1
    obtain rfl : e = x2 := Fin.ext hh2
    unfold_payloads
    pointwise
    simp only [left, turned, narrow, wide, at_0, zero_mul, zero_add]
    rfl

end Cert.Ret.Block
-- ==== Proof.Ret.Final.lean ====
/- The state one grid point leaves, read off its tiles (hand-written, untrusted). -/
module

public import proofs.«01_k».proof.Proof.Gen.KernelIdeal.Value
public import proofs.«01_k».proof.Proof.Ret.Tiles
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Ret.Block

open Idealize.ShloMosaic Idealize.ShloMosaic.TcCoe Idealize.SL.Sem
open Cert.KernelIdeal Cert.KernelIdeal.Gen Cert.KernelIdeal.Value

set_option maxHeartbeats 4000000 in
/-- The final state a point of case C stores. -/
theorem final_C (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S4x256x256 .f32) (harg10 : arg10.IsWhole) (arg11 : Memref sig .tc .vmem S4x256x128 .f32) (harg11 : arg11.IsWhole) (arg12 : Memref sig .tc .vmem S4x256x128 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S1x4x128x256 .f32) (harg15 : arg15.IsWhole) (arg16 : Memref sig .tc .vmem S4x128x256 .f32) (harg16 : arg16.IsWhole) (hc0 : ¬cond0_0 i) (hc1 : cond0_1 i)
    (x0 : Vec Ideal S256x512 .bf16) (x1 : Vec Ideal S256x512 .bf16) (x2 : Vec Ideal S256x1024 .bf16) (x3 : Vec Ideal S256x1024 .bf16) (x4 : Vec Ideal S256x128 .f32) (x5 : Vec Ideal S256x128 .f32) (x6 : Vec Ideal S256x128 .f32) (x7 : Vec Ideal S256x128 .f32) (x8 : Vec Ideal S4x256x256 .f32) (x9 : Vec Ideal S4x256x128 .f32) (x10 : Vec Ideal S4x256x128 .f32) (x11 : Vec Ideal S1x1024 .f32) (xs0 : Vec Ideal S4x128x256 .f32) (h : Fin 4) (d : Fin 128) (e : Fin 256) :
    out0_C_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 (ix4 0 h d e) = left ⟨x0, x1, x2, x3, x4, x5, x6, x7, x8, x9, x10, x11⟩ xs0 h d e := by
  frame_open
  simp (disch := decide) only [↓ View.readCov_skip, ↓ View.readCov_cons_toLoadRect, ↓ View.readCov_fill]
  frame_out
  unfold k0_pay2
  pointwise
  rw [View.readCov_eq_canon']
  refine (congrArg (View.canon _) (?_ : _ = ix3 h d e)).trans ?_
  · funext a
    fin_cases a <;> apply Fin.ext <;> simp
  canon_tiles x hh
  · idx_vars x
    obtain rfl : h = 3 := by apply Fin.ext; have := hh0; change h.val = 3; simp at this; omega
    obtain rfl : d = x1 := Fin.ext hh1
    obtain rfl : e = x2 := Fin.ext hh2
    unfold_payloads
    pointwise
    simp only [left, turned, narrow, wide, at_3]
    rfl
  · idx_vars x
    obtain rfl : h = 2 := by apply Fin.ext; have := hh0; change h.val = 2; simp at this; omega
    obtain rfl : d = x1 := Fin.ext hh1
    obtain rfl : e = x2 := Fin.ext hh2
    unfold_payloads
    pointwise
    simp only [left, turned, narrow, wide, at_2]
    rfl
  · idx_vars x
    obtain rfl : h = 1 := by apply Fin.ext; have := hh0; change h.val = 1; simp at this; omega
    obtain rfl : d = x1 := Fin.ext hh1
    obtain rfl : e = x2 := Fin.ext hh2
    unfold_payloads
    pointwise
    simp only [left, turned, narrow, wide, at_1]
    rfl
  · idx_vars x
    obtain rfl : h = 0 := by apply Fin.ext; have := hh0; change h.val = 0; simp at this; omega
    obtain rfl : d = x1 := Fin.ext hh1
    obtain rfl : e = x2 := Fin.ext hh2
    unfold_payloads
    pointwise
    simp only [left, turned, narrow, wide, at_0, zero_mul, zero_add]
    rfl

end Cert.Ret.Block
-- ==== Proof.Ret.KernelRun.lean ====
/- The kernel's two results over the reals: the state and the rows after every grid point (hand-written, untrusted). -/
module

public import proofs.«01_k».proof.Proof.Ret.Tables
public import proofs.«01_k».proof.Proof.Ret.BlockOut
public import proofs.«01_k».proof.Proof.Ret.BlockState
public import proofs.«01_k».proof.Proof.Ret.Final

@[expose] public section

set_option maxRecDepth 16384

noncomputable section

namespace Cert.Ret.Kernel

open Idealize.ShloMosaic Idealize.ShloMosaic.TcCoe Idealize.SL.Sem
open Cert.KernelIdeal Cert.KernelIdeal.Gen Cert.KernelIdeal.Value
open Cert.Ret.Block Cert.Ret.Tables

/-- Each named constant is its head's decay over a chunk of 256 tokens. -/
theorem keep_coe (h : Fin 4) : keep h = ((decay h ^ 256 : ℝ) : EReal) := by
  rw [decay_eq]
  fin_cases h
  · show (κ "g0").getD 0 = _
    refine congrArg Real.toEReal ?_
    norm_num
  · show (κ "g1").getD 0 = _
    refine congrArg Real.toEReal ?_
    norm_num
  · show (κ "g2").getD 0 = _
    refine congrArg Real.toEReal ?_
    norm_num
  · show (κ "g3").getD 0 = _
    refine congrArg Real.toEReal ?_
    norm_num

variable (m : (ℓ : Loc nD τ sig) → Buf (Elt Ideal) ℓ) (c : Dev nD)

/-- The tiles of a point. -/
def tilesAt (t : Fin cfg0.N) : Tiles :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t⟩

/-- The state a point starts from: nothing at the first chunk of a batch, else what the point before left. -/
def found (t : Fin cfg0.N) (acc : Vec Ideal S256x1024 .bf16 × Vec Ideal S1x4x128x256 .f32 × Vec Ideal S4x128x256 .f32) :
    Vec Ideal S4x128x256 .f32 := if t.val % 8 = 0 then fun _ => 0 else acc.2.2

set_option maxHeartbeats 2000000 in
/-- A point's output rows. -/
theorem rows_of (t : Fin cfg0.N) (acc : Vec Ideal S256x1024 .bf16 × Vec Ideal S1x4x128x256 .f32 × Vec Ideal S4x128x256 .f32)
    (h : Fin 4) (r : Fin 256) (e : Fin 256) :
    (stAt0 m c t.val t.isLt acc).1 (ix2 r (wide h e)) = shown (tilesAt m c t) (found t acc) h r e := by
  unfold found
  by_cases h0 : t.val % 8 = 0
  · have h1 : ¬t.val % 8 = 7 := by omega
    rw [if_pos h0]
    exact (congrArg (fun p => p.1 (ix2 r (wide h e))) (stAt0_A m c t acc h0 h1)).trans
        (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) h r e)
  · rw [if_neg h0]
    by_cases h1 : t.val % 8 = 7
    · exact (congrArg (fun p => p.1 (ix2 r (wide h e))) (stAt0_C m c t acc h0 h1)).trans
        (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2 h r e)
    · exact (congrArg (fun p => p.1 (ix2 r (wide h e))) (stAt0_B m c t acc h0 h1)).trans
        (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2 h r e)

set_option maxHeartbeats 2000000 in
/-- The state a point leaves. -/
theorem state_of (t : Fin cfg0.N) (acc : Vec Ideal S256x1024 .bf16 × Vec Ideal S1x4x128x256 .f32 × Vec Ideal S4x128x256 .f32)
    (h : Fin 4) (d : Fin 128) (e : Fin 256) :
    (stAt0 m c t.val t.isLt acc).2.2 (ix3 h d e) = left (tilesAt m c t) (found t acc) h d e := by
  unfold found
  by_cases h0 : t.val % 8 = 0
  · have h1 : ¬t.val % 8 = 7 := by omega
    rw [if_pos h0]
    exact (congrArg (fun p => p.2.2 (ix3 h d e)) (stAt0_A m c t acc h0 h1)).trans
        (state_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) h d e)
  · rw [if_neg h0]
    by_cases h1 : t.val % 8 = 7
    · exact (congrArg (fun p => p.2.2 (ix3 h d e)) (stAt0_C m c t acc h0 h1)).trans
        (state_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2 h d e)
    · exact (congrArg (fun p => p.2.2 (ix3 h d e)) (stAt0_B m c t acc h0 h1)).trans
        (state_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2 h d e)

set_option maxHeartbeats 2000000 in
/-- The state the last chunk of a batch stores. -/
theorem final_of (t : Fin cfg0.N) (acc : Vec Ideal S256x1024 .bf16 × Vec Ideal S1x4x128x256 .f32 × Vec Ideal S4x128x256 .f32)
    (h1 : t.val % 8 = 7) (h : Fin 4) (d : Fin 128) (e : Fin 256) :
    (stAt0 m c t.val t.isLt acc).2.1 (ix4 0 h d e) = left (tilesAt m c t) (found t acc) h d e := by
  have h0 : ¬t.val % 8 = 0 := by omega
  unfold found
  rw [if_neg h0]
  exact (congrArg (fun p => p.2.1 (ix4 0 h d e)) (stAt0_C m c t acc h0 h1)).trans
        (final_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2 h d e)

/-! ## Over the reals -/

variable {m c} {X : ℕ → ℕ → ℝ}
  (hX : ∀ (r : Fin 16384) (l : Fin 13312), l.val < 2048 →
    (m ((c : Thread nD τ).loc main_arg0) : FVec Ideal S16384x13312 .bf16) (ix2 r l) = ((X r l : ℝ) : EReal))
include hX

/-- A point's rotated queries. -/
theorem queries (t : Fin cfg0.N) (h : Fin 4) (r : Fin 256) (d : Fin 128) :
    turned (tilesAt m c t).q (tilesAt m c t).qc (tilesAt m c t).qs h r d
      = ((query X (t.val / 8) (256 * (t.val % 8) + r.val) h d : ℝ) : EReal) := by
  have hrow : t.val / 8 * 2048 + (256 * (t.val % 8) + r.val) = 256 * t.val + r.val := by omega
  unfold turned tilesAt
  dsimp only
  rw [q_tile, q_tile, qc_tile, qs_tile, hX _ _ (by simp only [narrow]; omega), hX _ _ (by simp only [narrow]; omega),
    ← EReal.coe_mul, ← EReal.coe_mul, ← EReal.coe_add]
  refine congrArg Real.toEReal ?_
  simp only [query, hrow, narrow, token, cosines, sines]
  by_cases hd : d.val < 64
  · rw [rotated_low _ _ hd, if_pos hd, if_pos hd, show (d.val + 128 - 64) % 128 = 64 + d.val by omega]
    ring
  · rw [rotated_high _ _ hd, if_neg hd, if_neg hd, show (d.val + 128 - 64) % 128 = d.val - 64 by omega]
    ring

/-- A point's rotated, scaled keys. -/
theorem keys (t : Fin cfg0.N) (h : Fin 4) (r : Fin 256) (d : Fin 128) :
    turned (tilesAt m c t).k (tilesAt m c t).kc (tilesAt m c t).ks h r d
      = ((key X (t.val / 8) (256 * (t.val % 8) + r.val) h d : ℝ) : EReal) := by
  have hrow : t.val / 8 * 2048 + (256 * (t.val % 8) + r.val) = 256 * t.val + r.val := by omega
  unfold turned tilesAt
  dsimp only
  rw [k_tile, k_tile, kc_tile, ks_tile, hX _ _ (by simp only [narrow]; omega), hX _ _ (by simp only [narrow]; omega),
    ← EReal.coe_mul, ← EReal.coe_mul, ← EReal.coe_add]
  refine congrArg Real.toEReal ?_
  simp only [key, hrow, narrow, token, cosines, sines]
  by_cases hd : d.val < 64
  · rw [rotated_low _ _ hd, if_pos hd, if_pos hd, show (d.val + 128 - 64) % 128 = 64 + d.val by omega]
    ring
  · rw [rotated_high _ _ hd, if_neg hd, if_neg hd, show (d.val + 128 - 64) % 128 = d.val - 64 by omega]
    ring

/-- A point's values. -/
theorem values (t : Fin cfg0.N) (h : Fin 4) (r : Fin 256) (e : Fin 256) :
    (tilesAt m c t).v (ix2 r (wide h e)) = ((value X (t.val / 8) (256 * (t.val % 8) + r.val) h e : ℝ) : EReal) := by
  have hrow : t.val / 8 * 2048 + (256 * (t.val % 8) + r.val) = 256 * t.val + r.val := by omega
  unfold tilesAt
  dsimp only
  rw [v_tile, hX _ _ (by simp only [wide]; omega)]
  simp only [value, hrow, wide]

set_option maxHeartbeats 2000000 in
/-- A point's rows before normalisation, where the state it found is the mixer's. -/
theorem row_at (t : Fin cfg0.N) (S : Vec Ideal S4x128x256 .f32)
    (hS : ∀ (h : Fin 4) (d : Fin 128) (e : Fin 256), S (ix3 h d e) = ((memory X (t.val / 8) h d e (256 * (t.val % 8)) : ℝ) : EReal))
    (h : Fin 4) (r : Fin 256) (e : Fin 256) :
    row (tilesAt m c t) S h r e = ((recall X (t.val / 8) (256 * (t.val % 8) + r.val) h e : ℝ) : EReal) := by
  have e1 : ∀ j : Fin 256, (tilesAt m c t).fade (ix3 h r j) = _ := fun j => fade_tile m c t h r j
  have e2 : ∀ d : Fin 128, (tilesAt m c t).qf (ix3 h r d) = _ := fun d => qf_tile m c t h r d
  unfold row
  simp only [queries hX, keys hX, values hX, e1, e2, hS, ← EReal.coe_mul, ← Maths.coe_sum, ← EReal.coe_add]
  refine congrArg Real.toEReal ?_
  exact (Maths.read_chunk (decay h) (fun d : Fin 128 => query X (t.val / 8) (256 * (t.val % 8) + r.val) h d)
    (fun s d => key X (t.val / 8) s h d) (fun s => value X (t.val / 8) s h e) (256 * (t.val % 8)) 256 r).symm

set_option maxHeartbeats 2000000 in
/-- The state a point leaves, where the state it found is the mixer's. -/
theorem left_at (t : Fin cfg0.N) (S : Vec Ideal S4x128x256 .f32)
    (hS : ∀ (h : Fin 4) (d : Fin 128) (e : Fin 256), S (ix3 h d e) = ((memory X (t.val / 8) h d e (256 * (t.val % 8)) : ℝ) : EReal))
    (h : Fin 4) (d : Fin 128) (e : Fin 256) :
    left (tilesAt m c t) S h d e = ((memory X (t.val / 8) h d e (256 * (t.val % 8) + 256) : ℝ) : EReal) := by
  have e1 : ∀ j : Fin 256, (tilesAt m c t).kf (ix3 h j d) = _ := fun j => kf_tile m c t h j d
  unfold left
  simp only [keys hX, values hX, e1, hS, keep_coe, ← EReal.coe_mul, ← Maths.coe_sum, ← EReal.coe_add]
  refine congrArg Real.toEReal ?_
  exact (Maths.state_chunk (decay h) (fun s => key X (t.val / 8) s h d) (fun s => value X (t.val / 8) s h e) (256 * (t.val % 8)) 256).symm

/-- The state every point finds is the mixer's over the tokens before its chunk. -/
theorem found_at (n : ℕ) : ∀ (hn : n < cfg0.N), ∀ acc, (∀ k, n = k + 1 → ∀ hk, acc = outsAt0 m c k hk) →
    ∀ (h : Fin 4) (d : Fin 128) (e : Fin 256),
      found ⟨n, hn⟩ acc (ix3 h d e) = ((memory X (n / 8) h d e (256 * (n % 8)) : ℝ) : EReal) := by
  induction n with
  | zero =>
    intro hn acc _ h d e
    simp only [found, Nat.zero_mod, if_true, mul_zero]
    rfl
  | succ k ih =>
    intro hn acc hacc h d e
    unfold found
    by_cases h0 : (k + 1) % 8 = 0
    · simp only [h0, if_true, mul_zero]
      rfl
    · simp only [h0, if_false]
      have hk : k < cfg0.N := Nat.lt_of_succ_lt hn
      have hst : outsAt0 m c k hk = stAt0 m c k hk (match k, hk with | 0, _ => junk0 | k + 1, hk => outsAt0 m c k (Nat.lt_of_succ_lt hk)) := by
        cases k with
        | zero => exact outsAt0_zero m c hk
        | succ k => exact outsAt0_succ m c k hk
      rw [hacc k rfl hk, hst, state_of m c ⟨k, hk⟩, left_at hX ⟨k, hk⟩ _ (ih hk _ (by rintro k' rfl _; rfl))]
      refine congrArg (fun x : ℝ => (x : EReal)) ?_
      show memory X (k / 8) h d e (256 * (k % 8) + 256) = _
      rw [show k / 8 = (k + 1) / 8 by omega, show 256 * (k % 8) + 256 = 256 * ((k + 1) % 8) by omega]

/-- What a point was given. -/
def before (m : (ℓ : Loc nD τ sig) → Buf (Elt Ideal) ℓ) (c : Dev nD) : (n : ℕ) → n < cfg0.N →
    Vec Ideal S256x1024 .bf16 × Vec Ideal S1x4x128x256 .f32 × Vec Ideal S4x128x256 .f32
  | 0, _ => junk0
  | k + 1, hk => outsAt0 m c k (Nat.lt_of_succ_lt hk)

omit hX in
theorem outs_before : ∀ (n : ℕ) (hn : n < cfg0.N), outsAt0 m c n hn = stAt0 m c n hn (before m c n hn)
  | 0, hn => outsAt0_zero m c hn
  | k + 1, hn => outsAt0_succ m c k hn

/-- Every point's rows. -/
theorem rows_at (t : Fin cfg0.N) (h : Fin 4) (r : Fin 256) (e : Fin 256) :
    (outsAt0 m c t.val t.isLt).1 (ix2 r (wide h e))
      = mixed (fun e => ((recall X (t.val / 8) (256 * (t.val % 8) + r.val) h e : ℝ) : EReal))
        (m ((c : Thread nD τ).loc main_arg0) (ix2 ⟨256 * t.val + r.val, by have := lt64 t; omega⟩ ⟨2048 + (wide h e).val, by omega⟩))
        (m ((c : Thread nD τ).loc main_arg1) (ix2 0 (wide h e))) e := by
  rw [outs_before, rows_of m c t]
  unfold shown
  rw [show row (tilesAt m c t) (found t (before m c t.val t.isLt)) h r = _ from
    funext fun e => row_at hX t _ (found_at hX t.val t.isLt _ (by rintro k hk hk'; cases t; subst hk; rfl)) h r e]
  unfold tilesAt
  dsimp only
  rw [gate_tile, gain_tile]

/-- The state a batch's last point stores. -/
theorem finals_at (t : Fin cfg0.N) (h1 : t.val % 8 = 7) (h : Fin 4) (d : Fin 128) (e : Fin 256) :
    (outsAt0 m c t.val t.isLt).2.1 (ix4 0 h d e) = ((memory X (t.val / 8) h d e 2048 : ℝ) : EReal) := by
  rw [outs_before, final_of m c t _ h1, left_at hX t _ (found_at hX t.val t.isLt _ (by rintro k hk hk'; cases t; subst hk; rfl)), h1]

/-- The output array. -/
theorem output_at (r : Fin 16384) (l : Fin 1024) : (G12 m c : FVec Ideal S16384x1024 .bf16) (ix2 r l)
    = mixed (fun e => ((recall X (r.val / 2048) (r.val % 2048) (l.val / 256) e : ℝ) : EReal))
        (m ((c : Thread nD τ).loc main_arg0) (ix2 r ⟨2048 + l.val, by omega⟩))
        (m ((c : Thread nD τ).loc main_arg1) (ix2 0 l)) ⟨l.val % 256, Nat.mod_lt _ (by decide)⟩ := by
  have hp : pt12Of (ix2 r l) = r.val / 256 := by
    show 1 * (r.val / 256 - 0) + 1 * (l.val / 1024 - 0) = _
    omega
  have hN : r.val / 256 < cfg0.N := lt_of_lt_of_eq (by omega) N_0.symm
  have hl : loc12Of (ix2 r l) = ix2 ⟨r.val % 256, Nat.mod_lt _ (by decide)⟩ (wide ⟨l.val / 256, by omega⟩ ⟨l.val % 256, Nat.mod_lt _ (by decide)⟩) := by
    funext a
    apply Fin.ext
    fin_cases a
    · rfl
    · show l.val % 1024 = l.val / 256 * 256 + l.val % 256
      omega
  unfold G12
  rw [dif_pos (by rw [hp]; exact hN), hl, fold0_congr m c _ _ _ (by rw [Nat.zero_add]; exact hN) hp, ← outsAt0_sweep m c _ hN, rows_at hX ⟨r.val / 256, hN⟩]
  have hw : wide ⟨l.val / 256, by omega⟩ ⟨l.val % 256, Nat.mod_lt _ (by decide)⟩ = l := by
    apply Fin.ext
    show l.val / 256 * 256 + l.val % 256 = l.val
    omega
  have hr : (⟨256 * (r.val / 256) + r.val % 256, by omega⟩ : Fin 16384) = r := by
    apply Fin.ext
    show 256 * (r.val / 256) + r.val % 256 = r.val
    omega
  dsimp only
  simp only [hw, hr]
  rw [show r.val / 256 / 8 = r.val / 2048 by omega, show 256 * (r.val / 256 % 8) + r.val % 256 = r.val % 2048 by omega]

/-- The state array. -/
theorem final_at (b : Fin 8) (h : Fin 4) (d : Fin 128) (e : Fin 256) : (G13 m c : FVec Ideal S8x4x128x256 .f32) (ix4 b h d e)
    = ((memory X b h d e 2048 : ℝ) : EReal) := by
  have hp : pt13Of (ix4 b h d e) = 8 * b.val + 7 := by
    show 8 * (1 * (b.val / 1 - 0) + 1 * (h.val / 4 - 0) + 1 * (d.val / 128 - 0) + 1 * (e.val / 256 - 0)) + 7 = _
    omega
  have hN : 8 * b.val + 7 < cfg0.N := lt_of_lt_of_eq (by omega) N_0.symm
  have hl : loc13Of (ix4 b h d e) = ix4 0 h d e := by
    funext a
    apply Fin.ext
    fin_cases a
    · show b.val % 1 = 0
      omega
    · show h.val % 4 = h.val
      omega
    · show d.val % 128 = d.val
      omega
    · show e.val % 256 = e.val
      omega
  unfold G13
  rw [dif_pos (by rw [hp]; exact hN), hl, fold0_congr m c _ _ _ (by rw [Nat.zero_add]; exact hN) hp, ← outsAt0_sweep m c _ hN,
    finals_at hX ⟨8 * b.val + 7, hN⟩ (by show (8 * b.val + 7) % 8 = 7; omega)]
  dsimp only
  rw [show (8 * b.val + 7) / 8 = b.val by omega]

end Cert.Ret.Kernel
-- ==== Proof.Ret.Reference.lean ====
/- What the reference's run leaves, over the reals (hand-written, untrusted). -/
module

public import proofs.«01_k».proof.Proof.Gen.ReferenceIdeal.Run
public import proofs.«01_k».proof.Proof.Gen.ReferenceIdeal.Step
public import proofs.«01_k».proof.Proof.Ret.Spec
public import Idealize.ShloMosaic.Lib.Pipeline.ValueKit

@[expose] public section

set_option maxRecDepth 16384

noncomputable section

namespace Cert.Ret.Reference

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

/-- The loop's carried arrays as one state. -/
def held (V : Valuation τ sig (Elt Ideal)) : State Ideal :=
  ⟨V (Proc.devRef .tc main_v87_5), V (Proc.devRef .tc main_v87_6), V (Proc.devRef .tc main_v87_0),
    V (Proc.devRef .tc main_v87_1), V (Proc.devRef .tc main_v87_2)⟩

/-- What a trip leaves of the state, of what it finds. -/
theorem trip_state (V : Valuation τ sig (Elt Ideal)) (j : ℕ)
    (h4 : V (Proc.devRef .tc main_v87_4) = constantI S_ 32 (BitVec.ofNat 32 j))
    (h3 : V (Proc.devRef .tc main_v87_3) = K_main_v81 (F := Ideal)) : Value.step_main_v87_5 V = b22 j (held V) := by
  unfold Value.step_main_v87_5 res_main_while0b_v127
  rw [h3, h4]
  rfl

/-- What a trip leaves of the outputs. -/
theorem trip_out (V : Valuation τ sig (Elt Ideal)) (j : ℕ)
    (h4 : V (Proc.devRef .tc main_v87_4) = constantI S_ 32 (BitVec.ofNat 32 j))
    (h3 : V (Proc.devRef .tc main_v87_3) = K_main_v81 (F := Ideal)) : Value.step_main_v87_6 V = b28 j (held V) := by
  unfold Value.step_main_v87_6 res_main_while0b_v127
  rw [h3, h4]
  rfl

/-- A token number read back from its word. -/
theorem word_toInt (n : ℕ) (hn : n < 2 ^ 31) : (BitVec.ofNat 32 n).toInt = (n : Int) := by
  rw [BitVec.toInt_eq_toNat_cond, BitVec.toNat_ofNat, Nat.mod_eq_of_lt (by omega)]
  simp only [show 2 * n < 2 ^ 32 by omega, if_true]

variable (s : State Ideal) (t : Fin 2048) (b : Fin 8) (h : Fin 4) (d : Fin 128) (e : Fin 256)

/-- Token `t`'s query, taken out of the time-major array. -/
theorem take_query : b3 t s (ix4 0 b h d) = s.main_v87_0 (ix4 t b h d) := by
  have c0 := Host.clampedStart_of_le (s := S2048x8x4x128) (t := S1x8x4x128) rfl
    (fun k => BitVec.toInt ((![constantI S_ 32 (BitVec.ofNat 32 t), b0 t s, b1 t s, b2 t s] : Fin 4 → IVec S_ 32) k (Shape.Idx.first h_S_)))
    0 t (word_toInt t (by omega)) (by simp; try omega)
  have c1 := Host.clampedStart_of_le (s := S2048x8x4x128) (t := S1x8x4x128) rfl
    (fun k => BitVec.toInt ((![constantI S_ 32 (BitVec.ofNat 32 t), b0 t s, b1 t s, b2 t s] : Fin 4 → IVec S_ 32) k (Shape.Idx.first h_S_)))
    1 0 rfl (by simp)
  have c2 := Host.clampedStart_of_le (s := S2048x8x4x128) (t := S1x8x4x128) rfl
    (fun k => BitVec.toInt ((![constantI S_ 32 (BitVec.ofNat 32 t), b0 t s, b1 t s, b2 t s] : Fin 4 → IVec S_ 32) k (Shape.Idx.first h_S_)))
    2 0 rfl (by simp)
  have c3 := Host.clampedStart_of_le (s := S2048x8x4x128) (t := S1x8x4x128) rfl
    (fun k => BitVec.toInt ((![constantI S_ 32 (BitVec.ofNat 32 t), b0 t s, b1 t s, b2 t s] : Fin 4 → IVec S_ 32) k (Shape.Idx.first h_S_)))
    3 0 rfl (by simp)
  pointwise [b3]
  simp only [c0, c1, c2, c3, Nat.zero_add, Nat.add_zero, Fin.eta]

/-- Token `t`'s key. -/
theorem take_key : b8 t s (ix4 0 b h d) = s.main_v87_1 (ix4 t b h d) := by
  have c0 := Host.clampedStart_of_le (s := S2048x8x4x128) (t := S1x8x4x128) rfl
    (fun k => BitVec.toInt ((![constantI S_ 32 (BitVec.ofNat 32 t), b5 t s, b6 t s, b7 t s] : Fin 4 → IVec S_ 32) k (Shape.Idx.first h_S_)))
    0 t (word_toInt t (by omega)) (by simp; try omega)
  have c1 := Host.clampedStart_of_le (s := S2048x8x4x128) (t := S1x8x4x128) rfl
    (fun k => BitVec.toInt ((![constantI S_ 32 (BitVec.ofNat 32 t), b5 t s, b6 t s, b7 t s] : Fin 4 → IVec S_ 32) k (Shape.Idx.first h_S_)))
    1 0 rfl (by simp)
  have c2 := Host.clampedStart_of_le (s := S2048x8x4x128) (t := S1x8x4x128) rfl
    (fun k => BitVec.toInt ((![constantI S_ 32 (BitVec.ofNat 32 t), b5 t s, b6 t s, b7 t s] : Fin 4 → IVec S_ 32) k (Shape.Idx.first h_S_)))
    2 0 rfl (by simp)
  have c3 := Host.clampedStart_of_le (s := S2048x8x4x128) (t := S1x8x4x128) rfl
    (fun k => BitVec.toInt ((![constantI S_ 32 (BitVec.ofNat 32 t), b5 t s, b6 t s, b7 t s] : Fin 4 → IVec S_ 32) k (Shape.Idx.first h_S_)))
    3 0 rfl (by simp)
  pointwise [b8]
  simp only [c0, c1, c2, c3, Nat.zero_add, Nat.add_zero, Fin.eta]

/-- Token `t`'s value. -/
theorem take_value : b13 t s (ix4 0 b h e) = s.main_v87_2 (ix4 t b h e) := by
  have c0 := Host.clampedStart_of_le (s := S2048x8x4x256) (t := S1x8x4x256) rfl
    (fun k => BitVec.toInt ((![constantI S_ 32 (BitVec.ofNat 32 t), b10 t s, b11 t s, b12 t s] : Fin 4 → IVec S_ 32) k (Shape.Idx.first h_S_)))
    0 t (word_toInt t (by omega)) (by simp; try omega)
  have c1 := Host.clampedStart_of_le (s := S2048x8x4x256) (t := S1x8x4x256) rfl
    (fun k => BitVec.toInt ((![constantI S_ 32 (BitVec.ofNat 32 t), b10 t s, b11 t s, b12 t s] : Fin 4 → IVec S_ 32) k (Shape.Idx.first h_S_)))
    1 0 rfl (by simp)
  have c2 := Host.clampedStart_of_le (s := S2048x8x4x256) (t := S1x8x4x256) rfl
    (fun k => BitVec.toInt ((![constantI S_ 32 (BitVec.ofNat 32 t), b10 t s, b11 t s, b12 t s] : Fin 4 → IVec S_ 32) k (Shape.Idx.first h_S_)))
    2 0 rfl (by simp)
  have c3 := Host.clampedStart_of_le (s := S2048x8x4x256) (t := S1x8x4x256) rfl
    (fun k => BitVec.toInt ((![constantI S_ 32 (BitVec.ofNat 32 t), b10 t s, b11 t s, b12 t s] : Fin 4 → IVec S_ 32) k (Shape.Idx.first h_S_)))
    3 0 rfl (by simp)
  pointwise [b13]
  simp only [c0, c1, c2, c3, Nat.zero_add, Nat.add_zero, Fin.eta]

/-- Token `t`'s row is put into the outputs; the others stay. -/
theorem put_out (u : Fin 2048) : b28 t s (ix4 u b h e) = if u = t then b23 t s (ix3 b h e) else s.main_v87_6 (ix4 u b h e) := by
  have c0 := Host.clampedStart_of_le (s := S2048x8x4x256) (t := S1x8x4x256) rfl
    (fun k => BitVec.toInt ((![constantI S_ 32 (BitVec.ofNat 32 t), b25 t s, b26 t s, b27 t s] : Fin 4 → IVec S_ 32) k (Shape.Idx.first h_S_)))
    0 t (word_toInt t (by omega)) (by simp; try omega)
  have c1 := Host.clampedStart_of_le (s := S2048x8x4x256) (t := S1x8x4x256) rfl
    (fun k => BitVec.toInt ((![constantI S_ 32 (BitVec.ofNat 32 t), b25 t s, b26 t s, b27 t s] : Fin 4 → IVec S_ 32) k (Shape.Idx.first h_S_)))
    1 0 rfl (by simp)
  have c2 := Host.clampedStart_of_le (s := S2048x8x4x256) (t := S1x8x4x256) rfl
    (fun k => BitVec.toInt ((![constantI S_ 32 (BitVec.ofNat 32 t), b25 t s, b26 t s, b27 t s] : Fin 4 → IVec S_ 32) k (Shape.Idx.first h_S_)))
    2 0 rfl (by simp)
  have c3 := Host.clampedStart_of_le (s := S2048x8x4x256) (t := S1x8x4x256) rfl
    (fun k => BitVec.toInt ((![constantI S_ 32 (BitVec.ofNat 32 t), b25 t s, b26 t s, b27 t s] : Fin 4 → IVec S_ 32) k (Shape.Idx.first h_S_)))
    3 0 rfl (by simp)
  pointwise [b28, b24]
  simp only [c0, c1, c2, c3, Nat.zero_le, and_true, Nat.sub_zero, Fin.eta]
  by_cases hu : u = t
  · subst hu; rw [if_pos rfl, dif_pos (by omega)]
  · rw [if_neg hu, dif_neg (fun hh => hu (Fin.ext (by omega)))]

/-- The state after token `t` at an index. -/
theorem state_at : b22 t s (ix4 b h d e)
    = K_main_v81 (F := Ideal) (ix4 0 h 0 0) * s.main_v87_5 (ix4 b h d e)
      + s.main_v87_1 (ix4 t b h d) * s.main_v87_2 (ix4 t b h e) := by
  pointwise [b22, b21, b20, b19, b18, b17, b16, b15, b14, b9]
  rw [← take_key s t b h d, ← take_value s t b h e]

/-- The row token `t` reads off the state. -/
theorem out_at : b23 t s (ix3 b h e) = ∑ d : Fin 128, s.main_v87_0 (ix4 t b h d) * b22 t s (ix4 b h d e) := by
  pointwise [b23, b4]
  exact Finset.sum_congr rfl fun d _ => by rw [take_query]

/-- Head `h`'s decay, as the reference computes it. -/
theorem decay_at : K_main_v81 (F := Ideal) (ix4 0 h 0 0) = ((decay h : ℝ) : EReal) := by
  pointwise [K_main_v81, K_main_v80, K_main_v79, K_main_v78, K_main_v77, K_main_v76, K_main_v75, K_main_v74, K_main_v73,
    K_main_cst_5, K_main_cst_4]
  rw [half_coe, five_coe]
  show Ideal.exp (Ideal.log1p (-Ideal.pow _ (_ + ((((BitVec.ofNat 32 h).toInt : ℝ)) : EReal)))) = _
  rw [count_coe _ (by omega), logDecay_coe, Ideal.exp_coe, Real.exp_log (decay_pos h)]

/-- The angle, as the reference computes it. -/
theorem angle_at (d : Fin 64) : FloatOps.sitofp (F := Ideal) FTy.f32 (BitVec.ofNat 32 t) *
    Ideal.pow ((10000 : ℝ) : EReal) (Ideal.div (-FloatOps.sitofp (F := Ideal) FTy.f32 (BitVec.ofNat 32 d)) ((64 : ℝ) : EReal)) = ((angle t d : ℝ) : EReal) := by
  show ((((BitVec.ofNat 32 t).toInt : ℝ)) : EReal) * Ideal.pow _ (Ideal.div (-((((BitVec.ofNat 32 d).toInt : ℝ)) : EReal)) _) = _
  rw [count_coe _ (by omega), count_coe _ (by omega), Ideal.div_coe (by norm_num), ← EReal.coe_neg, ← EReal.coe_mul,
    Ideal.pow_coe_coe, ← EReal.coe_mul, angle]
  congr 3; ring

theorem cos_at (d : Fin 64) : K_main_v24 (F := Ideal) (ix4 0 t 0 d) = ((Real.cos (angle t d) : ℝ) : EReal) := by
  pointwise [K_main_v24, K_main_v23, K_main_v22, K_main_v21, K_main_v20, K_main_v19, K_main_v18, K_main_v17, K_main_v16,
    K_main_v15, K_main_v14, K_main_v13, K_main_v12, K_main_v11, K_main_v9, K_main_cst, K_main_cst_0]
  rw [base_coe, sixtyFour_coe, angle_at, Ideal.cos_coe]

theorem sin_at (d : Fin 64) : K_main_v26 (F := Ideal) (ix4 0 t 0 d) = ((Real.sin (angle t d) : ℝ) : EReal) := by
  pointwise [K_main_v26, K_main_v25, K_main_v22, K_main_v21, K_main_v20, K_main_v19, K_main_v18, K_main_v17, K_main_v16,
    K_main_v15, K_main_v14, K_main_v13, K_main_v12, K_main_v11, K_main_v9, K_main_cst, K_main_cst_0]
  rw [base_coe, sixtyFour_coe, angle_at, Ideal.sin_coe]

/-- The key's tables are the query's. -/
theorem cos_key : K_main_v54 (F := Ideal) = K_main_v24 := rfl
theorem sin_key : K_main_v56 (F := Ideal) = K_main_v26 := rfl

variable (x : (⟨S16384x13312, .bf16⟩ : BufTy).Contents (Elt Ideal)) (X : ℕ → ℕ → ℝ)

/-- The first 2048 columns of the projections are the reals `X`. -/
def Reads : Prop := ∀ (r : Fin 16384) (l : Fin 13312), l.val < 2048 → x (ix2 r l) = ((X r l : ℝ) : EReal)

variable {x X} (hX : Reads x X)
include hX

set_option maxHeartbeats 2000000 in
theorem query_at : A_main_v83 x (ix4 t b h d) = ((query X b t h d : ℝ) : EReal) := by
  pointwise [A_main_v83, A_main_v39, A_main_v38, A_main_v37, A_main_v35, A_main_v33, A_main_v32, A_main_v30, A_main_v28,
    A_main_v27, A_main_v10, A_main_v2, A_main_v1, A_main_v0, K_main_v29, K_main_v31, K_main_v34, K_main_v36]
  unfold query
  by_cases hd : d.val < 64
  · rw [dif_pos hd, rotated_low _ _ hd, cos_at t ⟨d, hd⟩, sin_at t ⟨d, hd⟩, hX _ _ (by simp; omega), hX _ _ (by simp; omega), ← EReal.coe_mul, ← EReal.coe_mul, ← EReal.coe_sub]
  · have hr := fun f => rotated_high f t.val hd
    have hs : 64 + (d.val - 64) = d.val := by omega
    rw [dif_neg hd]
    rw [hr]
    simp only [hs]
    rw [cos_at t ⟨d - 64, by omega⟩, sin_at t ⟨d - 64, by omega⟩, hX _ _ (by simp; omega), hX _ _ (by simp; omega), ← EReal.coe_mul, ← EReal.coe_mul, ← EReal.coe_add]

set_option maxHeartbeats 2000000 in
theorem key_at : A_main_v84 x (ix4 t b h d) = ((key X b t h d : ℝ) : EReal) := by
  pointwise [A_main_v84, A_main_v71, A_main_v69, A_main_v68, A_main_v67, A_main_v65, A_main_v63, A_main_v62, A_main_v60, A_main_v58,
    A_main_v57, A_main_v40, A_main_v5, A_main_v4, A_main_v3, K_main_v59, K_main_v61, K_main_v64, K_main_v66, K_main_v70, K_main_cst_3]
  unfold key
  rw [keyScale_coe, cos_key, sin_key]
  by_cases hd : d.val < 64
  · rw [dif_pos hd, rotated_low _ _ hd, cos_at t ⟨d, hd⟩, sin_at t ⟨d, hd⟩, hX _ _ (by simp; omega), hX _ _ (by simp; omega), ← EReal.coe_mul, ← EReal.coe_mul, ← EReal.coe_sub, ← EReal.coe_mul]
  · have hr := fun f => rotated_high f t.val hd
    have hs : 64 + (d.val - 64) = d.val := by omega
    rw [dif_neg hd]
    rw [hr]
    simp only [hs]
    rw [cos_at t ⟨d - 64, by omega⟩, sin_at t ⟨d - 64, by omega⟩, hX _ _ (by simp; omega), hX _ _ (by simp; omega), ← EReal.coe_mul, ← EReal.coe_mul, ← EReal.coe_add, ← EReal.coe_mul]

theorem value_at : A_main_v85 x (ix4 t b h e) = ((value X b t h e : ℝ) : EReal) := by
  pointwise [A_main_v85, A_main_v72, A_main_v8, A_main_v7, A_main_v6]
  rw [hX _ _ (by simp; omega)]; rfl

end Cert.Ret.Reference
-- ==== Proof.Ret.ReferenceRun.lean ====
/- The reference's loop followed token by token (hand-written, untrusted). -/
module

public import proofs.«01_k».proof.Proof.Ret.Reference

@[expose] public section

set_option maxRecDepth 65536

noncomputable section

namespace Cert.Ret.Reference

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

/-- The loop before token `k`: its constants, its counter, the states after `k` tokens, the rows of the tokens done. -/
structure Before (x : (⟨S16384x13312, .bf16⟩ : BufTy).Contents (Elt Ideal)) (X : ℕ → ℕ → ℝ) (k : ℕ)
    (V : Valuation τ sig (Elt Ideal)) : Prop where
  queries : V (Proc.devRef .tc main_v87_0) = A_main_v83 x
  keys : V (Proc.devRef .tc main_v87_1) = A_main_v84 x
  values : V (Proc.devRef .tc main_v87_2) = A_main_v85 x
  decays : V (Proc.devRef .tc main_v87_3) = K_main_v81 (F := Ideal)
  counter : V (Proc.devRef .tc main_v87_4) = constantI S_ 32 (BitVec.ofNat 32 k)
  states : ∀ (b : Fin 8) (h : Fin 4) (d : Fin 128) (e : Fin 256),
    (held V).main_v87_5 (ix4 b h d e) = ((memory X b h d e k : ℝ) : EReal)
  rows : ∀ (u : Fin 2048) (b : Fin 8) (h : Fin 4) (e : Fin 256), u.val < k →
    (held V).main_v87_6 (ix4 u b h e) = ((recall X b u h e : ℝ) : EReal)

variable {x : (⟨S16384x13312, .bf16⟩ : BufTy).Contents (Elt Ideal)} {X : ℕ → ℕ → ℝ} (hX : Reads x X)

set_option maxHeartbeats 800000 in
/-- The loop is entered with nothing seen. -/
theorem before_zero (m : (ℓ : Loc nD τ sig) → Buf (Elt Ideal) ℓ) (c : Dev nD) :
    Before (m ((c.tc : Thread nD τ).loc main_arg0)) X 0 (entryContents preI m c) where
  queries := by simp only [entryContents, afterL_cons, afterL_nil]; after_reads_simp; rfl
  keys := by simp only [entryContents, afterL_cons, afterL_nil]; after_reads_simp; rfl
  values := by simp only [entryContents, afterL_cons, afterL_nil]; after_reads_simp; rfl
  decays := by simp only [entryContents, afterL_cons, afterL_nil]; after_reads_simp; rfl
  counter := by simp only [entryContents, afterL_cons, afterL_nil]; after_reads_simp; rfl
  states := fun b h d e => by
    have e0 : (held (entryContents preI m c)).main_v87_5 = K_main_v82 (F := Ideal) := by
      unfold held; simp only [entryContents, afterL_cons, afterL_nil]; after_reads_simp; rfl
    rw [e0]
    pointwise [K_main_v82, K_main_cst_6]
    exact (EReal.coe_zero).symm
  rows := fun u _ _ _ hu => absurd hu (Nat.not_lt_zero _)

include hX in
/-- One token. -/
theorem before_succ (k : ℕ) (hk : k < 2048) (V : Valuation τ sig (Elt Ideal)) (H : Before x X k V) :
    Before x X (k + 1) (STEP V) := by
  have hs : ∀ (b : Fin 8) (h : Fin 4) (d : Fin 128) (e : Fin 256),
      b22 k (held V) (ix4 b h d e) = ((memory X b h d e (k + 1) : ℝ) : EReal) := fun b h d e => by
    rw [state_at (held V) ⟨k, hk⟩, H.states, decay_at,
      show (held V).main_v87_1 = A_main_v84 x from H.keys, show (held V).main_v87_2 = A_main_v85 x from H.values,
      key_at _ _ _ _ hX, value_at _ _ _ _ hX, ← EReal.coe_mul, ← EReal.coe_mul, ← EReal.coe_add]
    rfl
  exact
    { queries := (STEP_main_v87_0 V).trans H.queries
      keys := (STEP_main_v87_1 V).trans H.keys
      values := (STEP_main_v87_2 V).trans H.values
      decays := (STEP_main_v87_3 V).trans H.decays
      counter := (STEP_main_v87_4 V).trans (by
        unfold Value.step_main_v87_4
        rw [H.counter]
        funext i
        exact (BitVec.ofNat_add ..).symm)
      states := fun b h d e => by
        rw [show (held (STEP V)).main_v87_5 = b22 k (held V) from
          (STEP_main_v87_5 V).trans (trip_state V k H.counter H.decays), hs]
      rows := fun u b h e hu => by
        rw [show (held (STEP V)).main_v87_6 = b28 k (held V) from
          (STEP_main_v87_6 V).trans (trip_out V k H.counter H.decays), put_out (held V) ⟨k, hk⟩]
        by_cases hu' : u = ⟨k, hk⟩
        · rw [if_pos hu', out_at (held V) ⟨k, hk⟩, hu']
          unfold recall
          rw [Maths.coe_sum]
          refine Finset.sum_congr rfl fun d _ => ?_
          rw [hs, show (held V).main_v87_0 = A_main_v83 x from H.queries, query_at _ _ _ _ hX, ← EReal.coe_mul]
        · rw [if_neg hu']
          have : u.val ≠ k := fun he => hu' (Fin.ext he)
          exact H.rows u b h e (by omega) }

/-- Every token. -/
theorem before_all (m : (ℓ : Loc nD τ sig) → Buf (Elt Ideal) ℓ) (c : Dev nD)
    (hX : Reads (m ((c.tc : Thread nD τ).loc main_arg0)) X) :
    ∀ k, k ≤ 2048 → Before (m ((c.tc : Thread nD τ).loc main_arg0)) X k (STEP^[k] (entryContents preI m c))
  | 0, _ => before_zero m c
  | k + 1, hk => by
    rw [Function.iterate_succ_apply']
    exact before_succ hX k (by omega) _ (before_all m c hX k (by omega))

/-- The mixer's output, of the argument arrays. -/
def output (x : (⟨S16384x13312, .bf16⟩ : BufTy).Contents (Elt Ideal)) (X : ℕ → ℕ → ℝ)
    (g : (⟨S1x1024, .f32⟩ : BufTy).Contents (Elt Ideal)) (r : Fin 16384) (l : Fin 1024) : EReal :=
  mixed (fun e => ((recall X (r.val / 2048) (r.val % 2048) (l.val / 256) e : ℝ) : EReal))
    (x (ix2 r ⟨2048 + l.val, by omega⟩)) (g (ix2 0 l)) ⟨l.val % 256, Nat.mod_lt _ (by decide)⟩

/-- What the operations after the loop make of its rows. -/
theorem output_at (s : State Ideal) (g : (⟨S1x1024, .f32⟩ : BufTy).Contents (Elt Ideal))
    (hs : ∀ (u : Fin 2048) (b : Fin 8) (h : Fin 4) (e : Fin 256), s.main_v87_6 (ix4 u b h e) = ((recall X b u h e : ℝ) : EReal))
    (r : Fin 16384) (l : Fin 1024) : R_main_v116 s x g (ix2 r l) = output x X g r l := by
  pointwise [R_main_v116]
  simp only [hs]
  rfl

/-- The loop's last state as the operations after it read it. -/
theorem out_held (V : Valuation τ sig (Elt Ideal)) :
    out_main_v116 V = R_main_v116 (held V) (V (Proc.devRef .tc main_arg0)) (V (Proc.devRef .tc main_arg1)) := by
  unfold out_main_v116 R_main_v116
  rfl

/-- The output, read from a valuation whose rows are the mixer's. -/
theorem final_at (V : Valuation τ sig (Elt Ideal)) (x : (⟨S16384x13312, .bf16⟩ : BufTy).Contents (Elt Ideal))
    (g : (⟨S1x1024, .f32⟩ : BufTy).Contents (Elt Ideal))
    (hx : V (Proc.devRef .tc main_arg0) = x) (hg : V (Proc.devRef .tc main_arg1) = g)
    (hs : ∀ (u : Fin 2048) (b : Fin 8) (h : Fin 4) (e : Fin 256), (held V).main_v87_6 (ix4 u b h e) = ((recall X b u h e : ℝ) : EReal))
    (r : Fin 16384) (l : Fin 1024) : (out_main_v116 V : FVec Ideal S16384x1024 .bf16) (ix2 r l) = output x X g r l := by
  rw [out_held, hx, hg]
  exact output_at _ _ hs r l

/-- The reference's two results. -/
theorem results (m : (ℓ : Loc nD τ sig) → Buf (Elt Ideal) ℓ) (ρ : Dev nD → PrngReg) (X : Dev nD → ℕ → ℕ → ℝ)
    (hX : ∀ c : Dev nD, Reads (m ((c.tc : Thread nD τ).loc main_arg0)) (X c)) :
    θ_run (defs (F := Ideal)) (onTc (τ := τ) (main (F := Ideal))) ⟨m, fun _ => 0, ρ⟩ fun r => ∀ c : Dev nD,
      (∀ (i : Fin 16384) (l : Fin 1024), (r.2.mem ((c.tc : Thread nD τ).loc main_v116) : FVec Ideal S16384x1024 .bf16) (ix2 i l)
        = output (m ((c.tc : Thread nD τ).loc main_arg0)) (X c) (m ((c.tc : Thread nD τ).loc main_arg1)) i l)
      ∧ (∀ (b : Fin 8) (h : Fin 4) (d : Fin 128) (e : Fin 256),
        (r.2.mem ((c.tc : Thread nD τ).loc main_v87_5) : FVec Ideal S8x4x128x256 .f32) (ix4 b h d e)
          = ((memory (X c) b h d e 2048 : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    have hB := before_all m c (hX c) 2048 le_rfl
    refine ⟨fun i l => ?_, fun b hh d e => ?_, (h c).2.2⟩
    · rw [(h c).1]
      exact final_at _ _ _ (iter_main_arg0 m c 2048) (iter_main_arg1 m c 2048) (fun u b hh e => hB.rows u b hh e u.isLt) i l
    · rw [(h c).2.1]
      exact hB.states b hh d e) (Value.run m ρ)

end Cert.Ret.Reference
-- ==== Proof.Ret.Equal.lean ====
/- The mixer: the kernel and the reference return the same arrays (hand-written, untrusted). -/
module

public import proofs.«01_k».proof.Defs
public import proofs.«01_k».proof.Proof.Ret.Frames
public import proofs.«01_k».proof.Proof.Ret.KernelRun
public import proofs.«01_k».proof.Proof.Ret.ReferenceRun

@[expose] public section

set_option maxRecDepth 16384

noncomputable section

namespace Cert.Ret

open Idealize.ShloMosaic Idealize.ShloMosaic.TcCoe Idealize.SL.Sem

/-- The side conditions of the precondition's operations. -/
theorem finite_facts : Cert.Pre_finite_qkv.Facts where
  slices_S16384x13312_S16384x2048_0_0 := by decide
  bitsLt_bf16_f32 := by decide
  bcast_S_S16384x2048 := by decide

/-- The printed infinity. -/
theorem inf_top : Ideal.ofBits .f32 0x7F800000#32 = (⊤ : EReal) := by
  simp [Ideal.ofBits, Ideal.ieee]

/-- Where the precondition holds, the mixer's 2048 query, key and value columns are reals. -/
theorem reads_of_finite (x : FVec Ideal Cert.Pre_finite_qkv.S16384x13312 .bf16) (g : FVec Ideal Cert.Pre_finite_qkv.S1x1024 .f32)
    (h : @Cert.Pre_finite_qkv.fn finite_facts Ideal _ x g = fun _ => 1#1) (r : Fin 16384) (l : Fin 13312) (hl : l.val < 2048) :
    x (ix2 r l) = (((x (ix2 r l)).toReal : ℝ) : EReal) := by
  have e := congrFun h (ix2 r (⟨l.val, hl⟩ : Fin 2048))
  pointwise [Cert.Pre_finite_qkv.fn] at e
  rw [inf_top] at e
  have hlt : max (x (ix2 r l)) (-(x (ix2 r l))) < (⊤ : EReal) := by
    by_contra hn
    have hf : BitVec.ofBool (decide (max (x (ix2 r l)) (-(x (ix2 r l))) < (⊤ : EReal))) = 1#1 := e
    rw [decide_eq_false hn] at hf
    exact absurd hf (by decide)
  rw [max_lt_iff] at hlt
  refine (EReal.coe_toReal hlt.1.ne ?_).symm
  intro hb
  rw [hb] at hlt
  exact absurd hlt.2 (by simp)

/-- The claims of the runs that name the precondition, which they do not need. -/
theorem run_kernelIdeal_finite : Cert.quiescent_KernelIdeal_pre_finite_qkv (hKernelIdeal := Cert.KernelIdeal.Gen.facts)
    (hPre_finite_qkv := finite_facts) := fun m ρ _ => run_kernelIdeal m ρ trivial
theorem run_referenceIdeal_finite : Cert.quiescent_ReferenceIdeal_pre_finite_qkv (hReferenceIdeal := Cert.ReferenceIdeal.Gen.facts)
    (hPre_finite_qkv := finite_facts) := fun m ρ _ => run_referenceIdeal m ρ trivial

/-- Both programs return the mixer's rows and its final state. -/
theorem equal : Cert.algebraic_KernelIdeal_ReferenceIdeal_pre_finite_qkv (hKernelIdeal := Cert.KernelIdeal.Gen.facts)
    (hReferenceIdeal := Cert.ReferenceIdeal.Gen.facts) (hPre_finite_qkv := finite_facts) := by
  intro m ρ m' ρ' hpre hargs
  let X : Dev Cert.KernelIdeal.nD → ℕ → ℕ → ℝ := fun c r l =>
    if h : r < 16384 ∧ l < 13312 then
      ((m ((c.tc : Thread Cert.KernelIdeal.nD Cert.KernelIdeal.τ).loc Cert.KernelIdeal.main_arg0) : FVec Ideal Cert.Pre_finite_qkv.S16384x13312 .bf16)
        (ix2 (⟨r, h.1⟩ : Fin 16384) (⟨l, h.2⟩ : Fin 13312))).toReal
    else 0
  have hX : ∀ (c : Dev Cert.KernelIdeal.nD) (r : Fin 16384) (l : Fin 13312), l.val < 2048 →
      (m ((c.tc : Thread Cert.KernelIdeal.nD Cert.KernelIdeal.τ).loc Cert.KernelIdeal.main_arg0) : FVec Ideal Cert.Pre_finite_qkv.S16384x13312 .bf16) (ix2 r l)
        = ((X c r l : ℝ) : EReal) := by
    intro c r l hl
    refine (reads_of_finite _ _ (hpre c) r l hl).trans ?_
    refine congrArg Real.toEReal ?_
    simp only [X]
    rw [dif_pos ⟨r.isLt, l.isLt⟩]
  refine ⟨fun c => Cert.KernelIdeal.Value.G12 m c, fun c => Cert.KernelIdeal.Value.G13 m c, Cert.KernelIdeal.Value.run m ρ, ?_⟩
  refine (θ_run Cert.ReferenceIdeal.defs _ _).mono (fun r h c => ?_)
    (Cert.Ret.Reference.results m' ρ' X (fun c r l hl => (congrFun (hargs c).1 (ix2 r l)).trans (hX c r l hl)))
  obtain ⟨h0, h1, h2, h3⟩ := h c
  refine ⟨?_, ?_, h2, h3⟩
  · funext i
    idx_vars i
    refine (h0 _ _).trans (Eq.trans ?_ (Cert.Ret.Kernel.output_at (hX c) _ _).symm)
    rw [(hargs c).1, (hargs c).2]
    rfl
  · funext i
    idx_vars i
    exact (h1 _ _ _ _).trans (Cert.Ret.Kernel.final_at (hX c) _ _ _ _).symm

end Cert.Ret
-- ==== Proof.Proj.Kernel.lean ====
/- The input projection: what the kernel leaves (hand-written, untrusted). -/
module

public import proofs.«01_k».proof.Proof.Gen.Kernel2Ideal.Value
public import Idealize.ShloMosaic.Lib.Pointwise
public import Idealize.ShloMosaic.Lib.IdealHost
public import Idealize.ShloMosaic.Lib.Pipeline.ValueKit
public import Idealize.ShloMosaic.Lib.StableHlo.ReadAt

@[expose] public section

set_option maxRecDepth 16384

noncomputable section

namespace Cert.Proj

open Idealize.ShloMosaic

/-- The weight's column that the projection's column `j` comes from: sixteen columns after the first 10240 are left out. -/
def column (j : Fin 13312) : Fin 13328 := ⟨if j.val < 10240 then j.val else j.val + 16, by split <;> omega⟩

/-- The projection of a row. -/
def projected (x : (⟨2, ![16384, 1024]⟩ : Shape).Idx → EReal) (w : (⟨3, ![2, 1024, 13328]⟩ : Shape).Idx → EReal)
    (r : Fin 16384) (j : Fin 13312) : EReal := ∑ k : Fin 1024, x (ix2 r k) * w (ix3 0 k (column j))

namespace Kernel

open Idealize.ShloMosaic.TcCoe Idealize.SL.Sem
open Cert.Kernel2Ideal Cert.Kernel2Ideal.Gen Cert.Kernel2Ideal.Value

/-- Which block each window holds at each point; the weight's is counted in elements. -/
theorem place : ∀ t : Fin cfg0.N, win0_0.index t = ![t.val / 13, 0]
    ∧ win0_1.index t = ![0, t.val % 13 * 1024 + (if t.val % 13 < 10 then 0 else 16), 0]
    ∧ win0_2.index t = ![t.val / 13, t.val % 13] := by decide +kernel

variable (m : (ℓ : Loc nD τ sig) → Buf (Elt Ideal) ℓ) (c : Dev nD)

theorem lt52 (t : Fin cfg0.N) : t.val < 52 := lt_of_lt_of_eq t.isLt N_0

/-- The rows' tile. -/
theorem rows (t : Fin cfg0.N) (r : Fin 4096) (k : Fin 1024) : (iblk m c 0 t : Vec Ideal S4096x1024 .bf16) (ix2 r k)
    = m ((c : Thread nD τ).loc main_arg0) (ix2 ⟨t.val / 13 * 4096 + r.val, by have := lt52 t; omega⟩ k) := by
  have e := place t
  blk_ext [iblk, V_main_arg0, e]

/-- The weight as the host hands it over: transposed. -/
theorem turned (q : Fin 13328) (k : Fin 1024) : (V m c main_v0 : Vec Ideal S2x13328x1024 .f32) (ix3 0 q k)
    = m ((c : Thread nD τ).loc main_arg1) (ix3 0 k q) := by
  simp only [V, List.flatten_cons, List.flatten_nil, List.append_nil, List.cons_append, List.nil_append]
  after_reads_at

/-- Where an element of the weight's tile lies in the array. -/
theorem placed (t : Fin cfg0.N) (x : S1x1024x1024.Idx) (a : Fin 3) :
    (((View.whole main_v0).slice (win0_1.rect t)).emb x a).val = win0_1.index t a + 1 * (x a).val := rfl

/-- The weight's tile. -/
theorem weights (t : Fin cfg0.N) (j : Fin 1024) (k : Fin 1024) : (iblk m c 1 t : Vec Ideal S1x1024x1024 .f32) (ix3 0 j k)
    = m ((c : Thread nD τ).loc main_arg1) (ix3 0 k (column ⟨t.val % 13 * 1024 + j.val, by omega⟩)) := by
  rw [← turned m c]
  have e := place t
  unfold column
  by_cases h : t.val % 13 < 10
  · simp only [h, if_true] at e
    simp only [show t.val % 13 * 1024 + j.val < 10240 by omega, if_true]
    blk_ext [iblk, e]
    all_goals refine (placed t _ _).trans ?_
    all_goals simp [e.2.1, ix3]
    all_goals omega
  · simp only [h, if_false] at e
    simp only [show ¬t.val % 13 * 1024 + j.val < 10240 by omega, if_false]
    blk_ext [iblk, e]
    all_goals refine (placed t _ _).trans ?_
    all_goals simp [e.2.1, ix3]
    all_goals omega

/-- Where an element of the output's tile lies in the array. -/
theorem at_row (t : Fin cfg0.N) (y : S4096x1024.Idx) :
    (((View.whole main_v1).slice (win0_2.rect t)).emb y 0).val = t.val / 13 * 4096 + (y 0).val := by
  have e : win0_2.index t 0 = t.val / 13 := congrFun (place t).2.2 0
  show win0_2.index t 0 * 4096 + 1 * (y 0).val = _
  rw [e, one_mul]
theorem at_column (t : Fin cfg0.N) (y : S4096x1024.Idx) :
    (((View.whole main_v1).slice (win0_2.rect t)).emb y 1).val = t.val % 13 * 1024 + (y 1).val := by
  have e : win0_2.index t 1 = t.val % 13 := congrFun (place t).2.2 1
  show win0_2.index t 1 * 1024 + 1 * (y 1).val = _
  rw [e, one_mul]

/-- What a point leaves in the output's tile. -/
theorem tile (t : Fin cfg0.N) (r : Fin 4096) (j : Fin 1024) :
    (out0_2 (iblk m c 0 t) (iblk m c 1 t) : Vec Ideal S4096x1024 .bf16) (ix2 r j)
      = projected (m ((c : Thread nD τ).loc main_arg0)) (m ((c : Thread nD τ).loc main_arg1))
          ⟨t.val / 13 * 4096 + r.val, by have := lt52 t; omega⟩ ⟨t.val % 13 * 1024 + j.val, by omega⟩ := by
  frame_out
  pointwise [k0_pay1]
  exact Finset.sum_congr rfl fun k _ => congrArg₂ (fun a b : EReal => a * b) (rows m c t r k) (weights m c t j k)

set_option maxHeartbeats 1000000 in
/-- The output array after the run. -/
theorem final : (dats m 0 c).arrAt 2 cfg0.N = fun i => projected (m ((c : Thread nD τ).loc main_arg0))
    (m ((c : Thread nD τ).loc main_arg1)) (i 0) (i 1) := by
  refine (dats m 0 c).arrAt_eq_of_covers 2 _ (by decide +kernel) fun t hf y => ?_
  have e := place t
  blk_simp [e]
  rw [after0_2]
  idx_vars y
  exact (tile m c t y0 y1).trans (congrArg₂ (projected _ _) (Fin.ext (at_row t (ix2 y0 y1)).symm)
    (Fin.ext (at_column t (ix2 y0 y1)).symm))

end Kernel

end Cert.Proj

end
-- ==== Proof.Proj.Equal.lean ====
/- The input projection: the reference, the runs and the equality (hand-written, untrusted). -/
module

public import proofs.«01_k».proof.Defs
public import proofs.«01_k».proof.Proof.Proj.Kernel
public import proofs.«01_k».proof.Proof.Gen.Kernel2.Frame
public import proofs.«01_k».proof.Proof.Gen.Reference2Ideal.Run
public import Idealize.ShloMosaic.Lib.Quiescent

@[expose] public section

set_option maxRecDepth 16384

noncomputable section

namespace Cert.Proj

open Idealize.ShloMosaic Idealize.SL.Sem

/-- The printed kernel's run: arguments unchanged, every counter back at zero. -/
theorem run_kernel : Cert.quiescent_Kernel2 (hKernel2 := Cert.Kernel2.Gen.facts) := fun m ρ _ => Cert.Kernel2.Gen.frame m ρ

/-- The same of its idealization. -/
theorem run_kernelIdeal : Cert.quiescent_Kernel2Ideal (hKernel2Ideal := Cert.Kernel2Ideal.Gen.facts) :=
  fun m ρ _ => Cert.Kernel2Ideal.Gen.frame m ρ

/-- The reference's run: it declares no semaphore, so it need only keep the arguments. -/
theorem run_referenceIdeal : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

open Cert.Reference2Ideal Cert.Reference2Ideal.Gen in
/-- The reference's term: the whole product with the sixteen columns cut out. -/
theorem multiplied (x : FVec Ideal S16384x1024 .bf16) (w : FVec Ideal S2x1024x13328 .f32)   :
    (truncf .bf16 (concatenate S16384x13312 1 [⟨S16384x10240, (extractStridedSlice S16384x10240 ![0, 0] (Host.dotGeneral dot_S16384x1024_S1024x13328_S16384x13328_1_0_0_1_n_n none (extf .f32 x bitsLt_bf16_f32) (shapeCast _ (extractStridedSlice S1x1024x13328 ![0, 0, 0] w slices_S2x1024x13328_S1x1024x13328_0_0_0) shapeCasts_S1x1024x13328_S1024x13328)) slices_S16384x13328_S16384x10240_0_0)⟩, ⟨S16384x3072, (extractStridedSlice S16384x3072 ![0, 10256] (Host.dotGeneral dot_S16384x1024_S1024x13328_S16384x13328_1_0_0_1_n_n none (extf .f32 x bitsLt_bf16_f32) (shapeCast _ (extractStridedSlice S1x1024x13328 ![0, 0, 0] w slices_S2x1024x13328_S1x1024x13328_0_0_0) shapeCasts_S1x1024x13328_S1024x13328)) slices_S16384x13328_S16384x3072_0_10256)⟩] concatenates_S16384x10240_S16384x3072_S16384x13312_d1) bitsLt_bf16_f32 : FVec Ideal S16384x13312 .bf16)
      = fun i => projected x w (i 0) (i 1) := by
  funext i
  idx_vars i
  pointwise
  unfold projected column
  by_cases h : i1.val < 10240
  · simp only [h, if_true, dif_pos]
  · simp only [h, if_false]
    rw [dif_neg not_false]
    refine Finset.sum_congr rfl fun k _ => congrArg (fun q => x (ix2 i0 k) * w (ix3 0 k q)) (Fin.ext ?_)
    show 10256 + (i1.val - 10240) = i1.val + 16
    omega

set_option maxHeartbeats 1000000 in
/-- Kernel and reference give the same projection. -/
theorem equal : Cert.algebraic_Kernel2Ideal_Reference2Ideal (hKernel2Ideal := Cert.Kernel2Ideal.Gen.facts)
    (hReference2Ideal := Cert.Reference2Ideal.Gen.facts) := by
  intro m ρ m' ρ' _ hargs
  refine ⟨fun c => (Cert.Kernel2Ideal.Gen.dats m 0 c).arrAt 2 Cert.Kernel2Ideal.cfg0.N, Cert.Kernel2Ideal.Value.run_blocks m ρ, ?_⟩
  refine (θ_run Cert.Reference2Ideal.defs _ _).mono (fun r h c => ?_) (Cert.Reference2Ideal.Value.run (F := Ideal) m' ρ')
  obtain ⟨h0, h1, h2⟩ := h c
  refine ⟨?_, h1, h2⟩
  refine h0.trans ((multiplied _ _).trans ?_)
  rw [(hargs c).1, (hargs c).2]
  exact (Kernel.final m c).symm

end Cert.Proj

end
-- ==== Proof.Norm.lean ====
/- The norm of a row of 1024 elements, over the extended reals (hand-written, untrusted). -/
module

public import Idealize.ShloMosaic.Lib.IdealHost

@[expose] public section

noncomputable section

namespace Cert

open Idealize.ShloMosaic

/-- A row divided by its root mean square, times the gain. -/
def normed (v gain : Fin 1024 → EReal) (e : Fin 1024) : EReal :=
  v e * Ideal.rsqrt (Ideal.div (∑ k, v k * v k) (Ideal.ofBits .f32 1149239296#32) + Ideal.ofBits .f32 897988541#32) * gain e

end Cert

end
-- ==== Proof.Ffn.Block.lean ====
/- The feed-forward network: what one grid point leaves (hand-written, untrusted). -/
module

public import proofs.«01_k».proof.Proof.Gen.Kernel3Ideal.Value
public import proofs.«01_k».proof.Proof.Norm
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Ffn

open Idealize.ShloMosaic

/-- A hidden unit: the positive part of a row's product with the unit's column, squared. -/
def unit (x u : Fin 1024 → EReal) : EReal := max (∑ k, x k * u k) 0 * max (∑ k, x k * u k) 0

namespace Kernel

open Idealize.ShloMosaic.TcCoe Idealize.SL.Sem
open Cert.Kernel3Ideal Cert.Kernel3Ideal.Gen Cert.Kernel3Ideal.Value

/-- What a tile of 1024 hidden units adds to a row's sum. -/
def part (x : Vec Ideal S1024x1024 .bf16) (u d : Vec Ideal S1x1024x1024 .f32) (r e : Fin 1024) : EReal :=
  ∑ n : Fin 1024, unit (fun k => x (ix2 r k)) (fun k => u (ix3 0 k n)) * d (ix3 0 n e)

/-- The body's sum: what the scratch held and the tile's part. -/
theorem sum_tile (x : Vec Ideal S1024x1024 .bf16) (u d : Vec Ideal S1x1024x1024 .f32) (acc : Vec Ideal S1024x1024 .f32) (r e : Fin 1024) :
    k0_pay2 x u acc d (ix2 r e) = acc (ix2 r e) + part x u d r e := by
  unfold_payloads
  pointwise
  rfl

/-- The body's zero. -/
theorem zero_tile (r e : Fin 1024) : (k0_pay1 : FVec Ideal S1024x1024 .f32) (ix2 r e) = 0 := by
  unfold_payloads
  pointwise

/-- The body's result: the residual row with the normed sum added. -/
theorem out_tile (x acc : Vec Ideal S1024x1024 .f32) (g : Vec Ideal S1x1024 .f32) (r e : Fin 1024) :
    k0_pay3 x acc g (ix2 r e) = x (ix2 r e) + normed (fun k => acc (ix2 r k)) (fun k => g (ix2 0 k)) e := by
  unfold_payloads
  pointwise
  rfl

set_option maxHeartbeats 2000000 in
/-- The scratch after a first tile. -/
theorem scratch_A (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec Ideal S1024x1024 .f32) (x1 : Vec Ideal S1024x1024 .bf16) (x2 : Vec Ideal S1x1024x1024 .f32) (x3 : Vec Ideal S1x1024x1024 .f32) (x4 : Vec Ideal S1x1024 .f32) (r e : Fin 1024) :
    sout0_A_0 (F := Ideal) c i arg2 harg2 arg3 harg3 arg4 harg4 arg5 harg5 arg6 harg6 arg7 harg7 arg8 harg8 hc0 hc1 x0 x1 x2 x3 x4 (ix2 r e) = part x1 x2 x3 r e := by
  frame_open
  simp (disch := decide) only [↓ View.readCov_skip, ↓ View.readCov_cons_toLoadRect, ↓ View.readCov_fill]
  frame_out
  rw [sum_tile, zero_tile, zero_add]

set_option maxHeartbeats 2000000 in
/-- The scratch after a middle tile. -/
theorem scratch_B (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec Ideal S1024x1024 .f32) (x1 : Vec Ideal S1024x1024 .bf16) (x2 : Vec Ideal S1x1024x1024 .f32) (x3 : Vec Ideal S1x1024x1024 .f32) (x4 : Vec Ideal S1x1024 .f32) (xs0 : Vec Ideal S1024x1024 .f32) (r e : Fin 1024) :
    sout0_B_0 (F := Ideal) c i arg2 harg2 arg3 harg3 arg4 harg4 arg5 harg5 arg6 harg6 arg7 harg7 arg8 harg8 hc0 hc1 x0 x1 x2 x3 x4 xs0 (ix2 r e) = xs0 (ix2 r e) + part x1 x2 x3 r e := by
  frame_open
  simp (disch := decide) only [↓ View.readCov_skip, ↓ View.readCov_cons_toLoadRect, ↓ View.readCov_fill]
  frame_out
  exact sum_tile x1 x2 x3 xs0 r e

set_option maxHeartbeats 2000000 in
/-- The scratch after a last tile. -/
theorem scratch_C (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec Ideal S1024x1024 .f32) (x1 : Vec Ideal S1024x1024 .bf16) (x2 : Vec Ideal S1x1024x1024 .f32) (x3 : Vec Ideal S1x1024x1024 .f32) (x4 : Vec Ideal S1x1024 .f32) (xs0 : Vec Ideal S1024x1024 .f32) (r e : Fin 1024) :
    sout0_C_0 (F := Ideal) c i arg2 harg2 arg3 harg3 arg4 harg4 arg5 harg5 arg6 harg6 arg7 harg7 arg8 harg8 hc0 hc1 x0 x1 x2 x3 x4 xs0 (ix2 r e) = xs0 (ix2 r e) + part x1 x2 x3 r e := by
  frame_open
  simp (disch := decide) only [↓ View.readCov_skip, ↓ View.readCov_cons_toLoadRect, ↓ View.readCov_fill]
  frame_out
  exact sum_tile x1 x2 x3 xs0 r e

set_option maxHeartbeats 2000000 in
/-- The output after a last tile. -/
theorem out_C (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec Ideal S1024x1024 .f32) (x1 : Vec Ideal S1024x1024 .bf16) (x2 : Vec Ideal S1x1024x1024 .f32) (x3 : Vec Ideal S1x1024x1024 .f32) (x4 : Vec Ideal S1x1024 .f32) (xs0 : Vec Ideal S1024x1024 .f32) (r e : Fin 1024) :
    out0_C_5 (F := Ideal) c i arg2 harg2 arg3 harg3 arg4 harg4 arg5 harg5 arg6 harg6 arg7 harg7 arg8 harg8 hc0 hc1 x0 x1 x2 x3 x4 xs0 (ix2 r e) = x0 (ix2 r e) + normed (fun k => xs0 (ix2 r k) + part x1 x2 x3 r k) (fun k => x4 (ix2 0 k)) e := by
  frame_open
  simp (disch := decide) only [↓ View.readCov_skip, ↓ View.readCov_cons_toLoadRect, ↓ View.readCov_fill]
  frame_out
  rw [out_tile]
  simp only [sum_tile]

end Kernel

end Cert.Ffn

end
-- ==== Proof.Ffn.Kernel.lean ====
/- The feed-forward network: what the kernel leaves (hand-written, untrusted). -/
module

public import proofs.«01_k».proof.Proof.Ffn.Block
public import Idealize.ShloMosaic.Lib.StableHlo.ReadAt

@[expose] public section

set_option maxRecDepth 16384

noncomputable section

namespace Cert.Ffn

open Idealize.ShloMosaic

/-- A hidden unit of a row, of the last layer's weights. -/
def hidden {R : ℕ} (x : (⟨2, ![R, 1024]⟩ : Shape).Idx → EReal) (u : (⟨3, ![2, 1024, 4096]⟩ : Shape).Idx → EReal)
    (r : Fin R) (n : Fin 4096) : EReal := unit (fun k => x (ix2 r k)) (fun k => u (ix3 1 k n))

/-- A row's sum over all the hidden units. -/
def summed {R : ℕ} (x : (⟨2, ![R, 1024]⟩ : Shape).Idx → EReal) (u : (⟨3, ![2, 1024, 4096]⟩ : Shape).Idx → EReal)
    (d : (⟨3, ![2, 4096, 1024]⟩ : Shape).Idx → EReal) (r : Fin R) (e : Fin 1024) : EReal :=
  ∑ n : Fin 4096, hidden x u r n * d (ix3 1 n e)

/-- The residual row with the normed sum added. -/
def layered {R : ℕ} (s : (⟨2, ![R, 1024]⟩ : Shape).Idx → EReal) (x : (⟨2, ![R, 1024]⟩ : Shape).Idx → EReal)
    (g : (⟨1, ![1024]⟩ : Shape).Idx → EReal) (u : (⟨3, ![2, 1024, 4096]⟩ : Shape).Idx → EReal)
    (d : (⟨3, ![2, 4096, 1024]⟩ : Shape).Idx → EReal) (r : Fin R) (e : Fin 1024) : EReal :=
  s (ix2 r e) + normed (summed x u d r) (fun k => g (ix1 k)) e

namespace Kernel

open Idealize.ShloMosaic.TcCoe Idealize.SL.Sem
open Cert.Kernel3Ideal Cert.Kernel3Ideal.Gen Cert.Kernel3Ideal.Value

set_option maxHeartbeats 1000000 in
/-- Which block each window holds at each point. -/
theorem place : ∀ t : Fin cfg0.N, win0_0.index t = ![t.val / 4, 0] ∧ win0_1.index t = ![t.val / 4, 0]
    ∧ win0_2.index t = ![1, 0, t.val % 4] ∧ win0_3.index t = ![1, t.val % 4, 0] ∧ win0_4.index t = ![0, 0] := by decide +kernel

variable (m : (ℓ : Loc nD τ sig) → Buf (Elt Ideal) ℓ) (c : Dev nD)

theorem lt64 (t : Fin cfg0.N) : t.val < 64 := lt_of_lt_of_eq t.isLt N_0

/-- The array's row that a point's tile row lies at. -/
def row (t : Fin cfg0.N) (r : Fin 1024) : Fin 16384 := ⟨t.val / 4 * 1024 + r.val, by have := lt64 t; omega⟩

/-- The hidden unit that a tile's unit is, the tiles counted by the grid's second axis. -/
def at_unit (q : ℕ) (n : Fin 1024) : Fin 4096 := ⟨q % 4 * 1024 + n.val, by omega⟩

theorem read0 (t : Fin cfg0.N) (r k : Fin 1024) : (iblk m c 0 t : Vec Ideal S1024x1024 .f32) (ix2 r k)
    = m ((c : Thread nD τ).loc main_arg0) (ix2 (row t r) k) := by
  have e := place t
  blk_ext [iblk, V_main_arg0, e, row]
theorem read1 (t : Fin cfg0.N) (r k : Fin 1024) : (iblk m c 1 t : Vec Ideal S1024x1024 .bf16) (ix2 r k)
    = m ((c : Thread nD τ).loc main_arg1) (ix2 (row t r) k) := by
  have e := place t
  blk_ext [iblk, V_main_arg1, e, row]
theorem read2 (t : Fin cfg0.N) (k n : Fin 1024) : (iblk m c 2 t : Vec Ideal S1x1024x1024 .f32) (ix3 0 k n)
    = m ((c : Thread nD τ).loc main_arg3) (ix3 1 k (at_unit t.val n)) := by
  have e := place t
  blk_ext [iblk, V_main_arg3, e, at_unit]
theorem read3 (t : Fin cfg0.N) (n e : Fin 1024) : (iblk m c 3 t : Vec Ideal S1x1024x1024 .f32) (ix3 0 n e)
    = m ((c : Thread nD τ).loc main_arg4) (ix3 1 (at_unit t.val n) e) := by
  have e := place t
  blk_ext [iblk, V_main_arg4, e, at_unit]
theorem host0 (k : Fin 1024) : (V m c main_v0 : Vec Ideal S1x1024 .f32) (ix2 0 k)
    = m ((c : Thread nD τ).loc main_arg2) (ix1 k) := by
  simp only [V, List.flatten_cons, List.flatten_nil, List.append_nil, List.cons_append, List.nil_append]
  after_reads_at
theorem read4 (t : Fin cfg0.N) (k : Fin 1024) : (iblk m c 4 t : Vec Ideal S1x1024 .f32) (ix2 0 k)
    = m ((c : Thread nD τ).loc main_arg2) (ix1 k) := by
  rw [← host0 m c]
  have e := place t
  blk_ext [iblk, e]

/-- What a tile of hidden units adds to an array row's sum. -/
def share (r : Fin 16384) (e : Fin 1024) (q : ℕ) : EReal :=
  ∑ n : Fin 1024, hidden (m ((c : Thread nD τ).loc main_arg1)) (m ((c : Thread nD τ).loc main_arg3)) r (at_unit q n)
    * m ((c : Thread nD τ).loc main_arg4) (ix3 1 (at_unit q n) e)

/-- A point's part is its tile's share. -/
theorem part_at (t : Fin cfg0.N) (r e : Fin 1024) :
    part (iblk m c 1 t) (iblk m c 2 t) (iblk m c 3 t) r e = share m c (row t r) e t.val := by
  unfold part share hidden
  refine Finset.sum_congr rfl fun n _ => congrArg₂ (fun a b : EReal => a * b) (congrArg₂ unit (funext fun k => read1 m c t r k)
    (funext fun k => read2 m c t k n)) (read3 m c t n e)

/-- What the scratch holds before a point counts for, nothing at a row block's first tile. -/
def found (t : ℕ) (acc : Vec Ideal S1024x1024 .f32 × Vec Ideal S1024x1024 .f32) (r e : Fin 1024) : EReal :=
  if t % 4 = 0 then 0 else acc.2 (ix2 r e)

set_option maxHeartbeats 2000000 in
/-- The scratch after a point. -/
theorem scratch_of (t : Fin cfg0.N) (acc : Vec Ideal S1024x1024 .f32 × Vec Ideal S1024x1024 .f32) (r e : Fin 1024) :
    (stAt0 m c t.val t.isLt acc).2 (ix2 r e) = found t.val acc r e + share m c (row t r) e t.val := by
  unfold found
  by_cases h0 : t.val % 4 = 0
  · have h1 : ¬t.val % 4 = 3 := by omega
    rw [if_pos h0, zero_add, stAt0_A m c t acc h0 h1]
    dsimp only
    rw [scratch_A, part_at]
  · rw [if_neg h0]
    by_cases h1 : t.val % 4 = 3
    · rw [stAt0_C m c t acc h0 h1]
      dsimp only
      rw [scratch_C, part_at]
    · rw [stAt0_B m c t acc h0 h1]
      dsimp only
      rw [scratch_B, part_at]

/-- An element of the residual stream. -/
def resid (r : Fin 16384) (e : Fin 1024) : EReal := m ((c : Thread nD τ).loc main_arg0) (ix2 r e)

/-- The norm's gain. -/
def gain (k : Fin 1024) : EReal := m ((c : Thread nD τ).loc main_arg2) (ix1 k)

set_option maxHeartbeats 2000000 in
/-- The output after a row block's last tile. -/
theorem out_of (t : Fin cfg0.N) (acc : Vec Ideal S1024x1024 .f32 × Vec Ideal S1024x1024 .f32) (h1 : t.val % 4 = 3) (r e : Fin 1024) :
    (stAt0 m c t.val t.isLt acc).1 (ix2 r e) = resid m c (row t r) e
      + normed (fun k => acc.2 (ix2 r k) + share m c (row t r) k t.val) (gain m c) e := by
  have h0 : ¬t.val % 4 = 0 := by omega
  rw [stAt0_C m c t acc h0 h1]
  dsimp only
  rw [out_C]
  exact congrArg₂ (fun a b : EReal => a + b) (read0 m c t r e) (congrArg₂ (fun v w => normed v w e)
    (funext fun k => congrArg (fun a : EReal => acc.2 (ix2 r k) + a) (part_at m c t r k)) (funext fun k => read4 m c t k))

/-- The scratch after a point holds the shares of its row block's tiles so far. -/
theorem scratch_at : ∀ (n : ℕ) (hn : n < cfg0.N) (r e : Fin 1024), (outsAt0 m c n hn).2 (ix2 r e)
    = ∑ q ∈ Finset.range (n % 4 + 1), share m c (row ⟨n, hn⟩ r) e q := by
  intro n
  induction n with
  | zero =>
    intro hn r e
    rw [outsAt0_zero m c hn, scratch_of m c ⟨0, hn⟩]
    simp [found]
  | succ k ih =>
    intro hn r e
    have hs : ∀ q : ℕ, share m c (row ⟨k + 1, hn⟩ r) e ((k + 1) % 4) = share m c (row ⟨k + 1, hn⟩ r) e (k + 1) := by
      intro q
      unfold share at_unit
      simp only [Nat.mod_mod]
    rw [outsAt0_succ m c k hn, scratch_of m c ⟨k + 1, hn⟩]
    unfold found
    by_cases h0 : (k + 1) % 4 = 0
    · rw [if_pos h0, ← hs 0, h0, zero_add, zero_add, Finset.sum_range_one]
    · rw [if_neg h0, ih, Finset.sum_range_succ _ ((k + 1) % 4), hs 0]
      have hr : row ⟨k, Nat.lt_of_succ_lt hn⟩ r = row ⟨k + 1, hn⟩ r := by
        apply Fin.ext
        show k / 4 * 1024 + r.val = (k + 1) / 4 * 1024 + r.val
        omega
      rw [hr, show k % 4 + 1 = (k + 1) % 4 by omega]

/-- The four tiles' shares are the whole sum. -/
theorem shares (r : Fin 16384) (e : Fin 1024) : ∑ q ∈ Finset.range 4, share m c r e q
    = summed (m ((c : Thread nD τ).loc main_arg1)) (m ((c : Thread nD τ).loc main_arg3)) (m ((c : Thread nD τ).loc main_arg4)) r e := by
  rw [Finset.sum_range]
  unfold share summed
  refine Fin.sum_mul_add_congr (S := 4) (n := 1024) (L := 4096) fun s n hl => ?_
  have hu : at_unit s.val n = ⟨s.val * 1024 + n.val, hl⟩ := by
    apply Fin.ext
    show s.val % 4 * 1024 + n.val = s.val * 1024 + n.val
    omega
  rw [hu]

/-- The array that the kernel leaves. -/
theorem final (r : Fin 16384) (e : Fin 1024) : (G5 m c : FVec Ideal S16384x1024 .f32) (ix2 r e)
    = layered (m ((c : Thread nD τ).loc main_arg0)) (m ((c : Thread nD τ).loc main_arg1)) (m ((c : Thread nD τ).loc main_arg2))
        (m ((c : Thread nD τ).loc main_arg3)) (m ((c : Thread nD τ).loc main_arg4)) r e := by
  have hp : pt5Of (ix2 r e) = 4 * (r.val / 1024) + 2 + 1 := by
    show 4 * (1 * (r.val / 1024 - 0) + 1 * (e.val / 1024 - 0)) + 3 = _
    omega
  have hN : 4 * (r.val / 1024) + 2 + 1 < cfg0.N := lt_of_lt_of_eq (by omega) N_0.symm
  have hl : loc5Of (ix2 r e) = ix2 ⟨r.val % 1024, Nat.mod_lt _ (by decide)⟩ e := by
    funext a
    apply Fin.ext
    fin_cases a
    · rfl
    · exact Nat.mod_eq_of_lt e.isLt
  have hr : row ⟨4 * (r.val / 1024) + 2 + 1, hN⟩ ⟨r.val % 1024, Nat.mod_lt _ (by decide)⟩ = r := by
    apply Fin.ext
    show (4 * (r.val / 1024) + 2 + 1) / 4 * 1024 + r.val % 1024 = r.val
    omega
  have hr' : row ⟨4 * (r.val / 1024) + 2, Nat.lt_of_succ_lt hN⟩ ⟨r.val % 1024, Nat.mod_lt _ (by decide)⟩ = r := by
    apply Fin.ext
    show (4 * (r.val / 1024) + 2) / 4 * 1024 + r.val % 1024 = r.val
    omega
  have h3 : (4 * (r.val / 1024) + 2 + 1) % 4 = 3 := by omega
  have h2 : (4 * (r.val / 1024) + 2) % 4 + 1 = 3 := by omega
  have hs : ∀ k, share m c r k (4 * (r.val / 1024) + 2 + 1) = share m c r k 3 := by
    intro k
    unfold share at_unit
    simp only [h3]
  unfold G5
  rw [dif_pos (by rw [hp]; exact hN), hl, fold0_congr m c _ _ _ (by rw [Nat.zero_add]; exact hN) hp, ← outsAt0_sweep m c _ hN,
    outsAt0_succ m c _ hN, out_of m c ⟨4 * (r.val / 1024) + 2 + 1, hN⟩ _ h3]
  unfold layered
  rw [hr]
  refine congrArg (fun v => resid m c r e + normed v (gain m c) e)
    (funext fun k => ?_)
  rw [scratch_at m c, hr', h2, hs, ← shares m c r k, Finset.sum_range_succ _ 3]

end Kernel

end Cert.Ffn

end
-- ==== Proof.Ffn.Equal.lean ====
/- The feed-forward network: the reference, the runs and the equality (hand-written, untrusted). -/
module

public import proofs.«01_k».proof.Defs
public import proofs.«01_k».proof.Proof.Ffn.Kernel
public import proofs.«01_k».proof.Proof.Gen.Kernel3.Frame
public import proofs.«01_k».proof.Proof.Gen.Reference3Ideal.Run
public import Idealize.ShloMosaic.Lib.Quiescent

@[expose] public section

set_option maxRecDepth 16384

noncomputable section

namespace Cert.Ffn

open Idealize.ShloMosaic Idealize.SL.Sem

/-- The printed kernel's run: arguments unchanged, every counter back at zero. -/
theorem run_kernel : Cert.quiescent_Kernel3 (hKernel3 := Cert.Kernel3.Gen.facts) := fun m ρ _ => Cert.Kernel3.Gen.frame m ρ

/-- The same of its idealization. -/
theorem run_kernelIdeal : Cert.quiescent_Kernel3Ideal (hKernel3Ideal := Cert.Kernel3Ideal.Gen.facts) :=
  fun m ρ _ => Cert.Kernel3Ideal.Gen.frame m ρ

/-- The reference's run: it declares no semaphore, so it need only keep the arguments. -/
theorem run_referenceIdeal : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

open Cert.Reference3Ideal Cert.Reference3Ideal.Gen in
set_option maxHeartbeats 1000000 in
/-- The reference's term: the whole products, row by row. -/
theorem layers (s : FVec Ideal S16384x1024 .f32) (x : FVec Ideal S16384x1024 .bf16) (g : FVec Ideal S1024 .f32)
    (u : FVec Ideal S2x1024x4096 .f32) (d : FVec Ideal S2x4096x1024 .f32) :
    (addf s (mulf (mulf (Host.dotGeneral dot_S16384x4096_S4096x1024_S16384x1024_1_0_0_1_n_n none (mulf (maximumf (Host.dotGeneral dot_S16384x1024_S1024x4096_S16384x4096_1_0_0_1_n_n none (extf .f32 x bitsLt_bf16_f32) (shapeCast _ (extractStridedSlice S1x1024x4096 ![1, 0, 0] u slices_S2x1024x4096_S1x1024x4096_1_0_0) shapeCasts_S1x1024x4096_S1024x4096)) (broadcastInDim S16384x4096 ![] bcast_S_S16384x4096 (constant S_ .f32 0x00000000#32))) (maximumf (Host.dotGeneral dot_S16384x1024_S1024x4096_S16384x4096_1_0_0_1_n_n none (extf .f32 x bitsLt_bf16_f32) (shapeCast _ (extractStridedSlice S1x1024x4096 ![1, 0, 0] u slices_S2x1024x4096_S1x1024x4096_1_0_0) shapeCasts_S1x1024x4096_S1024x4096)) (broadcastInDim S16384x4096 ![] bcast_S_S16384x4096 (constant S_ .f32 0x00000000#32)))) (shapeCast _ (extractStridedSlice S1x4096x1024 ![1, 0, 0] d slices_S2x4096x1024_S1x4096x1024_1_0_0) shapeCasts_S1x4096x1024_S4096x1024)) (broadcastInDim S16384x1024 ![0, 1] bcast_S16384x1_S16384x1024_0_1 (Host.rsqrt (addf (Host.divf (broadcastInDim S16384x1 ![0] bcast_S16384_S16384x1_0 (Host.reduceAdd (mulf (Host.dotGeneral dot_S16384x4096_S4096x1024_S16384x1024_1_0_0_1_n_n none (mulf (maximumf (Host.dotGeneral dot_S16384x1024_S1024x4096_S16384x4096_1_0_0_1_n_n none (extf .f32 x bitsLt_bf16_f32) (shapeCast _ (extractStridedSlice S1x1024x4096 ![1, 0, 0] u slices_S2x1024x4096_S1x1024x4096_1_0_0) shapeCasts_S1x1024x4096_S1024x4096)) (broadcastInDim S16384x4096 ![] bcast_S_S16384x4096 (constant S_ .f32 0x00000000#32))) (maximumf (Host.dotGeneral dot_S16384x1024_S1024x4096_S16384x4096_1_0_0_1_n_n none (extf .f32 x bitsLt_bf16_f32) (shapeCast _ (extractStridedSlice S1x1024x4096 ![1, 0, 0] u slices_S2x1024x4096_S1x1024x4096_1_0_0) shapeCasts_S1x1024x4096_S1024x4096)) (broadcastInDim S16384x4096 ![] bcast_S_S16384x4096 (constant S_ .f32 0x00000000#32)))) (shapeCast _ (extractStridedSlice S1x4096x1024 ![1, 0, 0] d slices_S2x4096x1024_S1x4096x1024_1_0_0) shapeCasts_S1x4096x1024_S4096x1024)) (Host.dotGeneral dot_S16384x4096_S4096x1024_S16384x1024_1_0_0_1_n_n none (mulf (maximumf (Host.dotGeneral dot_S16384x1024_S1024x4096_S16384x4096_1_0_0_1_n_n none (extf .f32 x bitsLt_bf16_f32) (shapeCast _ (extractStridedSlice S1x1024x4096 ![1, 0, 0] u slices_S2x1024x4096_S1x1024x4096_1_0_0) shapeCasts_S1x1024x4096_S1024x4096)) (broadcastInDim S16384x4096 ![] bcast_S_S16384x4096 (constant S_ .f32 0x00000000#32))) (maximumf (Host.dotGeneral dot_S16384x1024_S1024x4096_S16384x4096_1_0_0_1_n_n none (extf .f32 x bitsLt_bf16_f32) (shapeCast _ (extractStridedSlice S1x1024x4096 ![1, 0, 0] u slices_S2x1024x4096_S1x1024x4096_1_0_0) shapeCasts_S1x1024x4096_S1024x4096)) (broadcastInDim S16384x4096 ![] bcast_S_S16384x4096 (constant S_ .f32 0x00000000#32)))) (shapeCast _ (extractStridedSlice S1x4096x1024 ![1, 0, 0] d slices_S2x4096x1024_S1x4096x1024_1_0_0) shapeCasts_S1x4096x1024_S4096x1024))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) : FVec Ideal S16384x1024 .f32)
      = fun i => layered s x g u d (i 0) (i 1) := by
  funext i
  idx_vars i
  pointwise
  rfl

set_option maxHeartbeats 1000000 in
/-- Kernel and reference give the same rows. -/
theorem equal : Cert.algebraic_Kernel3Ideal_Reference3Ideal (hKernel3Ideal := Cert.Kernel3Ideal.Gen.facts)
    (hReference3Ideal := Cert.Reference3Ideal.Gen.facts) := by
  intro m ρ m' ρ' _ hargs
  refine ⟨fun c => Cert.Kernel3Ideal.Value.G5 m c, Cert.Kernel3Ideal.Value.run m ρ, ?_⟩
  refine (θ_run Cert.Reference3Ideal.defs _ _).mono (fun r h c => ?_) (Cert.Reference3Ideal.Value.run (F := Ideal) m' ρ')
  obtain ⟨h0, h⟩ := h c
  obtain ⟨a0, a1, a2, a3, a4⟩ := hargs c
  refine ⟨?_, h⟩
  refine h0.trans ((layers _ _ _ _ _).trans ?_)
  rw [a0, a1, a2, a3, a4]
  funext i
  idx_vars i
  exact (Kernel.final m c i0 i1).symm

end Cert.Ffn

end
-- ==== Proof.Merge.Kernel.lean ====
/- The merge: what the kernel leaves (hand-written, untrusted). -/
module

public import proofs.«01_k».proof.Proof.Gen.Kernel4Ideal.Value
public import proofs.«01_k».proof.Proof.Norm
public import Idealize.ShloMosaic.Lib.Pointwise
public import Idealize.ShloMosaic.Lib.IdealHost
public import Idealize.ShloMosaic.Lib.Pipeline.ValueKit
public import Idealize.ShloMosaic.Lib.StableHlo.ReadAt

@[expose] public section

set_option maxRecDepth 16384

noncomputable section

namespace Cert.Merge

open Idealize.ShloMosaic

/-- The logistic function. -/
def gate (g : EReal) : EReal := Ideal.div 1 (1 + Ideal.exp (-g))

/-- A row's three branches through their weights, each gated, added up. -/
def gathered (a b c : Fin 1024 → EReal) (g : Fin 3 → Fin 1024 → EReal) (w : Fin 3 → Fin 1024 → Fin 1024 → EReal)
    (d : Fin 1024) : EReal :=
  gate (g 0 d) * (∑ k, a k * w 0 k d) + gate (g 1 d) * (∑ k, b k * w 1 k d) + gate (g 2 d) * (∑ k, c k * w 2 k d)

/-- A row through the output weight. -/
def through (v : Fin 1024 → EReal) (w : Fin 1024 → Fin 1024 → EReal) (e : Fin 1024) : EReal := ∑ d, v d * w d e

/-- The residual row with the normed mixture added. -/
def added (x a b c : Fin 1024 → EReal) (g : Fin 3 → Fin 1024 → EReal) (w : Fin 3 → Fin 1024 → Fin 1024 → EReal)
    (wo : Fin 1024 → Fin 1024 → EReal) (gain : Fin 1024 → EReal) (e : Fin 1024) : EReal :=
  x e + normed (through (gathered a b c g w) wo) gain e

/-- The three gates of a row of the projection. -/
def gates (p : (⟨2, ![16384, 13312]⟩ : Shape).Idx → EReal) (r : Fin 16384) (s : Fin 3) (d : Fin 1024) : EReal :=
  p (ix2 r ⟨10240 + (s.val * 1024 + d.val), by omega⟩)

/-- The residual stream after the mixer, of the arrays. -/
def stream (x a b c : (⟨2, ![16384, 1024]⟩ : Shape).Idx → EReal) (p : (⟨2, ![16384, 13312]⟩ : Shape).Idx → EReal)
    (w : (⟨3, ![3, 1024, 1024]⟩ : Shape).Idx → EReal) (wo : (⟨2, ![1024, 1024]⟩ : Shape).Idx → EReal)
    (gain : (⟨1, ![1024]⟩ : Shape).Idx → EReal) (r : Fin 16384) (e : Fin 1024) : EReal :=
  added (fun k => x (ix2 r k)) (fun k => a (ix2 r k)) (fun k => b (ix2 r k)) (fun k => c (ix2 r k)) (gates p r)
    (fun s k d => w (ix3 s k d)) (fun d k => wo (ix2 d k)) (fun k => gain (ix1 k)) e

namespace Kernel

open Idealize.ShloMosaic.TcCoe Idealize.SL.Sem
open Cert.Kernel4Ideal Cert.Kernel4Ideal.Gen Cert.Kernel4Ideal.Value

section Tiles
variable (x0 : Vec Ideal S512x1024 .f32) (x1 x2 x3 x4 x5 x6 : Vec Ideal S512x1024 .bf16)
  (x7 : Vec Ideal S3x1024x1024 .bf16) (x8 : Vec Ideal S1024x1024 .bf16) (x9 x10 : Vec Ideal S1x1024 .f32)

/-- The three gates' tiles by number. -/
def gates3 (r : Fin 512) (s : Fin 3) (d : Fin 1024) : EReal := ![x4 (ix2 r d), x5 (ix2 r d), x6 (ix2 r d)] s

/-- The first two gated branches. -/
theorem two (r : Fin 512) (e : Fin 1024) : k0_pay7 x0 x1 x2 x3 x4 x5 x6 x7 x8 x9 x10 (ix2 r e)
    = gate (x4 (ix2 r e)) * (∑ k, x1 (ix2 r k) * x7 (ix3 0 k e)) + gate (x5 (ix2 r e)) * (∑ k, x2 (ix2 r k) * x7 (ix3 1 k e)) := by
  unfold_payloads
  pointwise
  simp only [gate, zero_sub]

/-- The third gate's exponential. -/
theorem third (r : Fin 512) (e : Fin 1024) : k0_pay8 x0 x1 x2 x3 x4 x5 x6 x7 x8 x9 x10 (ix2 r e)
    = Ideal.exp (-x6 (ix2 r e)) := by
  unfold_payloads
  pointwise
  simp only [zero_sub]

/-- The third branch's weight, one slab of the three. -/
theorem slab (k e : Fin 1024) : (View.ld x7 r0_3 : Vec Ideal S1x1024x1024 .bf16) (ix3 0 k e) = x7 (ix3 2 k e) := by
  pointwise

/-- A row of the tile with the normed mixture added. -/
theorem sum_tile (r : Fin 512) (e : Fin 1024) :
    k0_pay4 (k0_pay7 x0 x1 x2 x3 x4 x5 x6 x7 x8 x9 x10) (k0_pay8 x0 x1 x2 x3 x4 x5 x6 x7 x8 x9 x10) x3 (View.ld x7 r0_3) x8 x0 x9
        (ix2 r e)
      = added (fun k => x0 (ix2 r k)) (fun k => x1 (ix2 r k)) (fun k => x2 (ix2 r k)) (fun k => x3 (ix2 r k))
          (gates3 x4 x5 x6 r) (fun s k d => x7 (ix3 s k d)) (fun d k => x8 (ix2 d k)) (fun k => x9 (ix2 0 k)) e := by
  unfold k0_pay4
  pointwise
  simp only [two, third, slab]
  rfl

/-- The first output's tile. -/
theorem out_sum (r : Fin 512) (e : Fin 1024) : out0_11 x0 x1 x2 x3 x4 x5 x6 x7 x8 x9 x10 (ix2 r e)
      = added (fun k => x0 (ix2 r k)) (fun k => x1 (ix2 r k)) (fun k => x2 (ix2 r k)) (fun k => x3 (ix2 r k))
          (gates3 x4 x5 x6 r) (fun s k d => x7 (ix3 s k d)) (fun d k => x8 (ix2 d k)) (fun k => x9 (ix2 0 k)) e := by
  frame_out
  exact sum_tile x0 x1 x2 x3 x4 x5 x6 x7 x8 x9 x10 r e

/-- The second output's tile: the first one's rows normed. -/
theorem out_norm (r : Fin 512) (e : Fin 1024) : out0_12 x0 x1 x2 x3 x4 x5 x6 x7 x8 x9 x10 (ix2 r e)
      = normed (added (fun k => x0 (ix2 r k)) (fun k => x1 (ix2 r k)) (fun k => x2 (ix2 r k)) (fun k => x3 (ix2 r k))
          (gates3 x4 x5 x6 r) (fun s k d => x7 (ix3 s k d)) (fun d k => x8 (ix2 d k)) (fun k => x9 (ix2 0 k)))
          (fun k => x10 (ix2 0 k)) e := by
  frame_out
  unfold k0_pay1 k0_pay5 k0_pay6
  pointwise
  simp only [sum_tile]
  rfl

end Tiles

set_option maxHeartbeats 1000000 in
/-- Which block each window holds at each point. -/
theorem place : ∀ t : Fin cfg0.N, win0_0.index t = ![t.val, 0] ∧ win0_1.index t = ![t.val, 0] ∧ win0_2.index t = ![t.val, 0]
    ∧ win0_3.index t = ![t.val, 0] ∧ win0_4.index t = ![t.val, 10] ∧ win0_5.index t = ![t.val, 11] ∧ win0_6.index t = ![t.val, 12]
    ∧ win0_7.index t = ![0, 0, 0] ∧ win0_8.index t = ![0, 0] ∧ win0_9.index t = ![0, 0] ∧ win0_10.index t = ![0, 0]
    ∧ win0_11.index t = ![t.val, 0] ∧ win0_12.index t = ![t.val, 0] := by decide +kernel

variable (m : (ℓ : Loc nD τ sig) → Buf (Elt Ideal) ℓ) (c : Dev nD)

theorem lt32 (t : Fin cfg0.N) : t.val < 32 := lt_of_lt_of_eq t.isLt N_0

/-- The array's row that a point's tile row lies at. -/
def row (t : Fin cfg0.N) (r : Fin 512) : Fin 16384 := ⟨t.val * 512 + r.val, by have := lt32 t; omega⟩

theorem read0 (t : Fin cfg0.N) (r : Fin 512) (k : Fin 1024) : (iblk m c 0 t : Vec Ideal S512x1024 .f32) (ix2 r k)
    = m ((c : Thread nD τ).loc main_arg0) (ix2 (row t r) k) := by
  have e := place t
  blk_ext [iblk, V_main_arg0, e, row]
theorem read1 (t : Fin cfg0.N) (r : Fin 512) (k : Fin 1024) : (iblk m c 1 t : Vec Ideal S512x1024 .bf16) (ix2 r k)
    = m ((c : Thread nD τ).loc main_arg1) (ix2 (row t r) k) := by
  have e := place t
  blk_ext [iblk, V_main_arg1, e, row]
theorem read2 (t : Fin cfg0.N) (r : Fin 512) (k : Fin 1024) : (iblk m c 2 t : Vec Ideal S512x1024 .bf16) (ix2 r k)
    = m ((c : Thread nD τ).loc main_arg2) (ix2 (row t r) k) := by
  have e := place t
  blk_ext [iblk, V_main_arg2, e, row]
theorem read3 (t : Fin cfg0.N) (r : Fin 512) (k : Fin 1024) : (iblk m c 3 t : Vec Ideal S512x1024 .bf16) (ix2 r k)
    = m ((c : Thread nD τ).loc main_arg3) (ix2 (row t r) k) := by
  have e := place t
  blk_ext [iblk, V_main_arg3, e, row]
theorem read4 (t : Fin cfg0.N) (r : Fin 512) (k : Fin 1024) : (iblk m c 4 t : Vec Ideal S512x1024 .bf16) (ix2 r k)
    = gates (m ((c : Thread nD τ).loc main_arg4)) (row t r) 0 k := by
  have e := place t
  unfold gates
  blk_ext [iblk, V_main_arg4, e, row]
theorem read5 (t : Fin cfg0.N) (r : Fin 512) (k : Fin 1024) : (iblk m c 5 t : Vec Ideal S512x1024 .bf16) (ix2 r k)
    = gates (m ((c : Thread nD τ).loc main_arg4)) (row t r) 1 k := by
  have e := place t
  unfold gates
  blk_ext [iblk, V_main_arg4, e, row]
theorem read6 (t : Fin cfg0.N) (r : Fin 512) (k : Fin 1024) : (iblk m c 6 t : Vec Ideal S512x1024 .bf16) (ix2 r k)
    = gates (m ((c : Thread nD τ).loc main_arg4)) (row t r) 2 k := by
  have e := place t
  unfold gates
  blk_ext [iblk, V_main_arg4, e, row]

theorem host0 (s : Fin 3) (k d : Fin 1024) : (V m c main_v0 : Vec Ideal S3x1024x1024 .bf16) (ix3 s k d)
    = m ((c : Thread nD τ).loc main_arg5) (ix3 s k d) := by
  simp only [V, List.flatten_cons, List.flatten_nil, List.append_nil, List.cons_append, List.nil_append]
  after_reads_at
theorem host1 (k d : Fin 1024) : (V m c main_v1 : Vec Ideal S1024x1024 .bf16) (ix2 k d)
    = m ((c : Thread nD τ).loc main_arg6) (ix2 k d) := by
  simp only [V, List.flatten_cons, List.flatten_nil, List.append_nil, List.cons_append, List.nil_append]
  after_reads_at
theorem host2 (k : Fin 1024) : (V m c main_v2 : Vec Ideal S1x1024 .f32) (ix2 0 k)
    = m ((c : Thread nD τ).loc main_arg7) (ix1 k) := by
  simp only [V, List.flatten_cons, List.flatten_nil, List.append_nil, List.cons_append, List.nil_append]
  after_reads_at
theorem host3 (k : Fin 1024) : (V m c main_v3 : Vec Ideal S1x1024 .f32) (ix2 0 k)
    = m ((c : Thread nD τ).loc main_arg8) (ix1 k) := by
  simp only [V, List.flatten_cons, List.flatten_nil, List.append_nil, List.cons_append, List.nil_append]
  after_reads_at

theorem read7 (t : Fin cfg0.N) (s : Fin 3) (k d : Fin 1024) : (iblk m c 7 t : Vec Ideal S3x1024x1024 .bf16) (ix3 s k d)
    = m ((c : Thread nD τ).loc main_arg5) (ix3 s k d) := by
  rw [← host0 m c]
  have e := place t
  blk_ext [iblk, e]
theorem read8 (t : Fin cfg0.N) (k d : Fin 1024) : (iblk m c 8 t : Vec Ideal S1024x1024 .bf16) (ix2 k d)
    = m ((c : Thread nD τ).loc main_arg6) (ix2 k d) := by
  rw [← host1 m c]
  have e := place t
  blk_ext [iblk, e]
theorem read9 (t : Fin cfg0.N) (k : Fin 1024) : (iblk m c 9 t : Vec Ideal S1x1024 .f32) (ix2 0 k)
    = m ((c : Thread nD τ).loc main_arg7) (ix1 k) := by
  rw [← host2 m c]
  have e := place t
  blk_ext [iblk, e]
theorem read10 (t : Fin cfg0.N) (k : Fin 1024) : (iblk m c 10 t : Vec Ideal S1x1024 .f32) (ix2 0 k)
    = m ((c : Thread nD τ).loc main_arg8) (ix1 k) := by
  rw [← host3 m c]
  have e := place t
  blk_ext [iblk, e]

/-- The three gates of a tile's row are the array's. -/
theorem read_gates (t : Fin cfg0.N) (r : Fin 512) :
    gates3 (iblk m c 4 t) (iblk m c 5 t) (iblk m c 6 t) r = gates (m ((c : Thread nD τ).loc main_arg4)) (row t r) := by
  funext s d
  fin_cases s
  · exact read4 m c t r d
  · exact read5 m c t r d
  · exact read6 m c t r d

/-- A tile's row with the normed mixture added is the array's row. -/
theorem added_tile (t : Fin cfg0.N) (r : Fin 512) :
    added (fun k => (iblk m c 0 t : Vec Ideal S512x1024 .f32) (ix2 r k)) (fun k => (iblk m c 1 t : Vec Ideal S512x1024 .bf16) (ix2 r k))
        (fun k => (iblk m c 2 t : Vec Ideal S512x1024 .bf16) (ix2 r k)) (fun k => (iblk m c 3 t : Vec Ideal S512x1024 .bf16) (ix2 r k))
        (gates3 (iblk m c 4 t) (iblk m c 5 t) (iblk m c 6 t) r)
        (fun s k d => (iblk m c 7 t : Vec Ideal S3x1024x1024 .bf16) (ix3 s k d))
        (fun d k => (iblk m c 8 t : Vec Ideal S1024x1024 .bf16) (ix2 d k)) (fun k => (iblk m c 9 t : Vec Ideal S1x1024 .f32) (ix2 0 k))
      = stream (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (row t r) := by
  funext e
  unfold stream
  rw [read_gates]
  simp only [read0, read1, read2, read3, read7, read8, read9]

/-- Where an element of either output's tile lies in the array. -/
theorem at_row (t : Fin cfg0.N) (y : S512x1024.Idx) :
    (((View.whole main_v4_0).slice (win0_11.rect t)).emb y 0).val = t.val * 512 + (y 0).val := by
  have e : win0_11.index t 0 = t.val := congrFun (place t).2.2.2.2.2.2.2.2.2.2.2.1 0
  show win0_11.index t 0 * 512 + 1 * (y 0).val = _
  rw [e, one_mul]
theorem at_column (t : Fin cfg0.N) (y : S512x1024.Idx) :
    (((View.whole main_v4_0).slice (win0_11.rect t)).emb y 1).val = (y 1).val := by
  have e : win0_11.index t 1 = 0 := congrFun (place t).2.2.2.2.2.2.2.2.2.2.2.1 1
  show win0_11.index t 1 * 1024 + 1 * (y 1).val = _
  rw [e, one_mul, zero_mul, zero_add]
theorem at_row' (t : Fin cfg0.N) (y : S512x1024.Idx) :
    (((View.whole main_v4_1).slice (win0_12.rect t)).emb y 0).val = t.val * 512 + (y 0).val := by
  have e : win0_12.index t 0 = t.val := congrFun (place t).2.2.2.2.2.2.2.2.2.2.2.2 0
  show win0_12.index t 0 * 512 + 1 * (y 0).val = _
  rw [e, one_mul]
theorem at_column' (t : Fin cfg0.N) (y : S512x1024.Idx) :
    (((View.whole main_v4_1).slice (win0_12.rect t)).emb y 1).val = (y 1).val := by
  have e : win0_12.index t 1 = 0 := congrFun (place t).2.2.2.2.2.2.2.2.2.2.2.2 1
  show win0_12.index t 1 * 1024 + 1 * (y 1).val = _
  rw [e, one_mul, zero_mul, zero_add]

/-- The residual stream that the kernel's arguments give. -/
def result : Fin 16384 → Fin 1024 → EReal :=
  stream (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Its normed rows. -/
def result' (r : Fin 16384) : Fin 1024 → EReal := normed (result m c r) (fun k => m ((c : Thread nD τ).loc main_arg8) (ix1 k))

/-- What a point leaves in the first output's tile. -/
theorem tile (t : Fin cfg0.N) (r : Fin 512) (e : Fin 1024) :
    (out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) : Vec Ideal S512x1024 .f32) (ix2 r e) = result m c (row t r) e :=
  (out_sum _ _ _ _ _ _ _ _ _ _ _ r e).trans (congrFun (added_tile m c t r) e)

/-- What a point leaves in the second output's tile. -/
theorem tile' (t : Fin cfg0.N) (r : Fin 512) (e : Fin 1024) :
    (out0_12 (iblk m c 0 t) (iblk m c 1 t) (iblk m c 2 t) (iblk m c 3 t) (iblk m c 4 t) (iblk m c 5 t) (iblk m c 6 t) (iblk m c 7 t)
      (iblk m c 8 t) (iblk m c 9 t) (iblk m c 10 t) : Vec Ideal S512x1024 .bf16) (ix2 r e) = result' m c (row t r) e :=
  (out_norm _ _ _ _ _ _ _ _ _ _ _ r e).trans
    (congrArg₂ (fun v w => normed v w e) (added_tile m c t r) (funext fun k => read10 m c t k))

set_option maxHeartbeats 1000000 in
/-- The first output array after the run. -/
theorem final : (dats m 0 c).arrAt 11 cfg0.N = fun i => result m c (i 0) (i 1) := by
  refine (dats m 0 c).arrAt_eq_of_covers 11 _ (by decide +kernel) fun t hf y => ?_
  have e := place t
  blk_simp [e]
  rw [after0_11]
  idx_vars y
  exact (tile m c t y0 y1).trans (congrArg₂ (result m c) (Fin.ext (at_row t (ix2 y0 y1)).symm)
    (Fin.ext (at_column t (ix2 y0 y1)).symm))

set_option maxHeartbeats 1000000 in
/-- The second output array after the run. -/
theorem final' : (dats m 0 c).arrAt 12 cfg0.N = fun i => result' m c (i 0) (i 1) := by
  refine (dats m 0 c).arrAt_eq_of_covers 12 _ (by decide +kernel) fun t hf y => ?_
  have e := place t
  blk_simp [e]
  rw [after0_12]
  idx_vars y
  exact (tile' m c t y0 y1).trans (congrArg₂ (result' m c) (Fin.ext (at_row' t (ix2 y0 y1)).symm)
    (Fin.ext (at_column' t (ix2 y0 y1)).symm))

end Kernel

end Cert.Merge

end
-- ==== Proof.Merge.Equal.lean ====
/- The merge: the reference, the runs and the equality (hand-written, untrusted). -/
module

public import proofs.«01_k».proof.Defs
public import proofs.«01_k».proof.Proof.Merge.Kernel
public import proofs.«01_k».proof.Proof.Gen.Kernel4.Frame
public import proofs.«01_k».proof.Proof.Gen.Reference4Ideal.Run
public import Idealize.ShloMosaic.Lib.Quiescent

@[expose] public section

set_option maxRecDepth 16384

noncomputable section

namespace Cert.Merge

open Idealize.ShloMosaic Idealize.SL.Sem

/-- The printed kernel's run: arguments unchanged, every counter back at zero. -/
theorem run_kernel : Cert.quiescent_Kernel4 (hKernel4 := Cert.Kernel4.Gen.facts) := fun m ρ _ => Cert.Kernel4.Gen.frame m ρ

/-- The same of its idealization. -/
theorem run_kernelIdeal : Cert.quiescent_Kernel4Ideal (hKernel4Ideal := Cert.Kernel4Ideal.Gen.facts) :=
  fun m ρ _ => Cert.Kernel4Ideal.Gen.frame m ρ

/-- The reference's run: it declares no semaphore, so it need only keep the arguments. -/
theorem run_referenceIdeal : Cert.quiescent_Reference4Ideal (hReference4Ideal := Cert.Reference4Ideal.Gen.facts) := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

section Reference
open Cert.Reference4Ideal Cert.Reference4Ideal.Gen Cert.Reference4Ideal.Value Idealize.ShloMosaic.TcCoe

variable (m : (ℓ : Loc nD τ sig) → Buf (Elt Ideal) ℓ) (c : Dev nD)

/-- The gated branches with each product's factors the other way round. -/
def gathered' (a b c : Fin 1024 → EReal) (g : Fin 3 → Fin 1024 → EReal) (w : Fin 3 → Fin 1024 → Fin 1024 → EReal)
    (d : Fin 1024) : EReal :=
  gate (g 0 d) * (∑ k, w 0 k d * a k) + gate (g 1 d) * (∑ k, w 1 k d * b k) + gate (g 2 d) * (∑ k, w 2 k d * c k)

/-- The order of the factors does not matter. -/
theorem gathered_turned (a b c : Fin 1024 → EReal) (g : Fin 3 → Fin 1024 → EReal) (w : Fin 3 → Fin 1024 → Fin 1024 → EReal) :
    gathered a b c g w = gathered' a b c g w := by
  funext d
  unfold gathered gathered'
  simp only [mul_comm (a _), mul_comm (b _), mul_comm (c _)]

set_option maxHeartbeats 2000000 in
/-- The reference's first result: the residual stream after the mixer. -/
theorem ref_stream (r : Fin 16384) (e : Fin 1024) : (res_out0 m c : FVec Ideal S16384x1024 .f32) (ix2 r e)
    = stream (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) r e := by
  unfold res_out0 res_main_v32
  pointwise
  simp only [Fin.sum_univ_three, Fin.isValue, Fin.val_zero, Fin.val_one, Fin.val_two, Nat.zero_lt_one, dite_true, lt_self_iff_false, dite_false, Nat.reduceLT, Nat.sub_self, Nat.reduceSub]
  unfold stream added
  rw [gathered_turned]
  rfl

/-- The second result's term over the first's. -/
theorem ref_normed_eq : res_out1 m c = (fun x : FVec Ideal S16384x1024 .f32 => (truncf .bf16 (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (m ((c : Thread nD τ).loc main_arg8))))) bitsLt_bf16_f32 : FVec Ideal S16384x1024 .bf16)) (res_out0 m c) := rfl

/-- The reference's second result: the first one's rows normed. -/
theorem ref_normed (r : Fin 16384) (e : Fin 1024) : (res_out1 m c : FVec Ideal S16384x1024 .bf16) (ix2 r e)
    = normed (fun k => (res_out0 m c : FVec Ideal S16384x1024 .f32) (ix2 r k)) (fun k => m ((c : Thread nD τ).loc main_arg8) (ix1 k)) e := by
  rw [ref_normed_eq]
  generalize (res_out0 m c : FVec Ideal S16384x1024 .f32) = x
  pointwise
  rfl

end Reference

set_option maxHeartbeats 1000000 in
/-- Kernel and reference give the same residual stream and the same normed rows. -/
theorem equal : Cert.algebraic_Kernel4Ideal_Reference4Ideal (hKernel4Ideal := Cert.Kernel4Ideal.Gen.facts)
    (hReference4Ideal := Cert.Reference4Ideal.Gen.facts) := by
  intro m ρ m' ρ' _ hargs
  refine ⟨fun c => (Cert.Kernel4Ideal.Gen.dats m 0 c).arrAt 11 Cert.Kernel4Ideal.cfg0.N,
    fun c => (Cert.Kernel4Ideal.Gen.dats m 0 c).arrAt 12 Cert.Kernel4Ideal.cfg0.N, Cert.Kernel4Ideal.Value.run_blocks m ρ, ?_⟩
  refine (θ_run Cert.Reference4Ideal.defs _ _).mono (fun r h c => ?_) (Cert.Reference4Ideal.Value.run (F := Ideal) m' ρ')
  obtain ⟨h0, h1, h⟩ := h c
  obtain ⟨a0, a1, a2, a3, a4, a5, a6, a7, a8⟩ := hargs c
  have e : ∀ (r : Fin 16384) (k : Fin 1024), (Cert.Reference4Ideal.Value.res_out0 m' c : FVec Ideal Cert.Reference4Ideal.S16384x1024 .f32) (ix2 r k)
      = Kernel.result m c r k := by
    intro r k
    refine (ref_stream m' c r k).trans ?_
    rw [a0, a1, a2, a3, a4, a5, a6, a7]
    rfl
  refine ⟨h0.trans (Eq.trans ?_ (Kernel.final m c).symm), h1.trans (Eq.trans ?_ (Kernel.final' m c).symm), h⟩
  · funext i
    idx_vars i
    exact e i0 i1
  · funext i
    idx_vars i
    refine (ref_normed m' c i0 i1).trans ?_
    rw [a8]
    exact congrArg (fun v => normed v _ i1) (funext fun k => e i0 k)

end Cert.Merge

end
-- ==== Proof.RetDec.Block.lean ====
/- What one grid point of the retention's decoding step leaves, read off its blocks (hand-written, untrusted). -/
module

public import proofs.«01_k».proof.Proof.Gen.Kernel5Ideal.Value
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.RetDec

open Idealize.ShloMosaic Idealize.ShloMosaic.TcCoe Idealize.SL.Sem
open Cert.Kernel5Ideal Cert.Kernel5Ideal.Gen Cert.Kernel5Ideal.Value

/-- What a head keeps of its state from one token to the next. -/
def fade (h : Fin 4) : EReal :=
  Scalar.ofBits (F := Ideal) .f32 (![0x3F780000#32, 0x3F7C0000#32, 0x3F7E0000#32, 0x3F7F0000#32] h)

/-- Head `h`'s lane `d` among the 512 query columns, among the 512 key columns after them, and its lane `e` among the 1024 value columns. -/
def qlane (h : Fin 4) (d : Fin 128) : Fin 1024 := ⟨h.val * 128 + d.val, by omega⟩
def klane (h : Fin 4) (d : Fin 128) : Fin 1024 := ⟨512 + h.val * 128 + d.val, by omega⟩
def wide (h : Fin 4) (e : Fin 256) : Fin 1024 := ⟨h.val * 256 + e.val, by omega⟩

/-- The states that a grid point leaves for its eight tokens. -/
def moved (s : Vec Ideal S1x8x4x128x256 .f32) (ct : Vec Ideal S1x1024x8 .f32) (v : Vec Ideal S8x1024 .f32) (i : Fin 8) (h : Fin 4) (d : Fin 128) (e : Fin 256) : EReal :=
  fade h * s (ix5 0 i h d e) + ct (ix3 0 (klane h d) i) * v (ix2 i (wide h e))

/-- The same as one array. -/
def movedAll (s : Vec Ideal S1x8x4x128x256 .f32) (ct : Vec Ideal S1x1024x8 .f32) (v : Vec Ideal S8x1024 .f32) : Vec Ideal S1x8x4x128x256 .f32 :=
  fun y => moved s ct v (y 1) (y 2) (y 3) (y 4)

/-- Where a token's and a head's piece of the states' block lies. -/
theorem spot (a b : ℕ) (inb) (x0 x1 x2 : Fin 1) (x3 : Fin 128) (x4 : Fin 256) (ha : a < 8) (hb : b < 4) :
    (Rect.unit (s := S1x8x4x128x256) ![0, a, b, 0, 0] ![1, 1, 1, 128, 256] inb).emb (ix5 x0 x1 x2 x3 x4) = ix5 0 ⟨a, ha⟩ ⟨b, hb⟩ x3 x4 := by
  funext k
  apply Fin.ext
  rw [Rect.emb_apply]
  fin_cases k <;> simp [ix5]

set_option maxHeartbeats 8000000 in
/-- The states' block after a grid point. -/
theorem state_block (c : Dev nD) (i : grid0.Coords) (arg2 : Memref sig .tc .vmem S1x8x4x128x256 .f32) (harg2 : arg2.IsWhole) (arg4 : Memref sig .tc .vmem S1x1024x8 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S1x8x4x128x256 .f32) (harg9 : arg9.IsWhole) (arg10 : Memref sig .tc .vmem S8x1024 .f32) (harg10 : arg10.IsWhole)
    (x0 : Vec Ideal S1x8x4x128x256 .f32) (x1 : Vec Ideal S1x1024x8 .f32) (x2 : Vec Ideal S8x1024 .f32) (x3 : Vec Ideal S8x1024 .f32) (x4 : Vec Ideal S1x1024 .f32) (y : S1x8x4x128x256.Idx) :
    out0_A_6 (F := Ideal) c i arg2 harg2 arg4 harg4 arg5 harg5 arg6 harg6 arg7 harg7 arg8 harg8 arg9 harg9 arg10 harg10 x0 x1 x2 x3 x4 y = movedAll x0 x1 x2 y := by
  frame_open
  simp (disch := decide) only [↓ View.readCov_skip, ↓ View.readCov_cons_toLoadRect, ↓ View.readCov_fill]
  frame_out
  refine View.canon_apply_of_pieces (movedAll x0 x1 x2) _ (View.PiecesOf.mem ?_) y ?_
  swap
  · exact View.cover_of_tiledL (s := S1x8x4x128x256) _ S1x1x1x128x256.size (by sl_kernel_rfl) y
  repeat' apply And.intro
  all_goals first
    | exact trivial
    | (intro x
       idx_vars x
       unfold_payloads
       pointwise
       rw [spot _ _ _ _ _ _ _ _ (by decide) (by decide)]
       first
         | rfl
         | (simp only [movedAll, moved, fade, klane, wide]; simp; rfl)
         | (simp only [movedAll, moved, fade, klane, wide]; simp))

end Cert.RetDec

end
-- ==== Proof.Held.lean ====
/- Reading back a buffer that was written piece by piece (hand-written, untrusted). -/
module

public import Idealize.ShloMosaic.Lib.Pipeline.FrameBody
public import Idealize.ShloMosaic.Lib.Pipeline.Value
public import Idealize.ShloMosaic.Lib.Pipeline.ReadBack
public import Idealize.ShloMosaic.Lib.Pointwise
public import Idealize.ShloMosaic.Lib.IdealHost

@[expose] public section

noncomputable section

namespace Cert

open Idealize.ShloMosaic Idealize.ShloMosaic.TcCoe Idealize.SL.Sem

/-- What pieces written one over the other hold, under a name of its own. -/
def held {S : Shape} (L : List (View.Piece (Elt Ideal) S .f32)) : Vec Ideal S .f32 := View.canon L

/-- A read of such pieces. -/
theorem read_held {sig : RefSig} {κ : Kind} {sp : Space} {S : Shape} (v : View sig κ sp S .f32) (L : List (View.Piece (Elt Ideal) S .f32)) (B : LoadRect S) :
    v.readCov L B = fun j => held L (B.idx j) := View.readCov_eq_canon' v L B

/-- Pieces that agree with one array and cover it hold that array. -/
theorem held_eq {S : Shape} (G : Vec Ideal S .f32) (L : List (View.Piece (Elt Ideal) S .f32)) (h : View.PiecesOf G L)
    (hc : ∀ y, ∃ p ∈ L, y ∈ p.1.set) : held L = G := by
  funext y
  exact View.canon_apply_of_pieces G L (View.PiecesOf.mem h) y (hc y)

end Cert

end
-- ==== Proof.RetDec.BlockOut.lean ====
/- What one grid point of the retention's decoding step leaves, read off its blocks (hand-written, untrusted). -/
module

public import proofs.«01_k».proof.Proof.Gen.Kernel5Ideal.Value
public import proofs.«01_k».proof.Proof.RetDec.Block
public import proofs.«01_k».proof.Proof.Held
public import proofs.«01_k».proof.Proof.Ret.Spec
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.RetDec

open Idealize.ShloMosaic Idealize.ShloMosaic.TcCoe Idealize.SL.Sem
open Cert.Kernel5Ideal Cert.Kernel5Ideal.Gen Cert.Kernel5Ideal.Value

/-- A token's query against its moved state. -/
def spoken (s : Vec Ideal S1x8x4x128x256 .f32) (ct : Vec Ideal S1x1024x8 .f32) (v : Vec Ideal S8x1024 .f32) (i : Fin 8) (h : Fin 4) (e : Fin 256) : EReal :=
  ∑ d : Fin 128, ct (ix3 0 (qlane h d) i) * moved s ct v i h d e

/-- The head of a lane among the 1024, and the lane within it. -/
def headOf (j : Fin 1024) : Fin 4 := ⟨j.val / 256, by omega⟩
def laneOf (j : Fin 1024) : Fin 256 := ⟨j.val % 256, by omega⟩

theorem headOf_wide (h : Fin 4) (e : Fin 256) : headOf (wide h e) = h := by
  apply Fin.ext; simp only [headOf, wide]; omega
theorem laneOf_wide (h : Fin 4) (e : Fin 256) : laneOf (wide h e) = e := by
  apply Fin.ext; simp only [laneOf, wide]; omega

/-- The same as one array. -/
def spokenAll (s : Vec Ideal S1x8x4x128x256 .f32) (ct : Vec Ideal S1x1024x8 .f32) (v : Vec Ideal S8x1024 .f32) : Vec Ideal S8x1024 .f32 :=
  fun y => spoken s ct v (y 0) (headOf (y 1)) (laneOf (y 1))

theorem spokenAll_at (s : Vec Ideal S1x8x4x128x256 .f32) (ct : Vec Ideal S1x1024x8 .f32) (v : Vec Ideal S8x1024 .f32) (i : Fin 8) (h : Fin 4) (e : Fin 256) :
    spokenAll s ct v (ix2 i (wide h e)) = spoken s ct v i h e := by
  change spoken s ct v i (headOf (wide h e)) (laneOf (wide h e)) = _
  rw [headOf_wide, laneOf_wide]

/-- The output of a token, head and lane: the head's row normalised, times the gain and the gate. -/
def shown (s : Vec Ideal S1x8x4x128x256 .f32) (ct : Vec Ideal S1x1024x8 .f32) (v g : Vec Ideal S8x1024 .f32) (w : Vec Ideal S1x1024 .f32) (i : Fin 8) (h : Fin 4) (e : Fin 256) : EReal :=
  Ret.mixed (fun e => spokenAll s ct v (ix2 i (wide h e))) (g (ix2 i (wide h e))) (w (ix2 0 (wide h e))) e

/-- The same as one array. -/
def shownAll (s : Vec Ideal S1x8x4x128x256 .f32) (ct : Vec Ideal S1x1024x8 .f32) (v g : Vec Ideal S8x1024 .f32) (w : Vec Ideal S1x1024 .f32) : Vec Ideal S8x1024 .f32 :=
  fun y => shown s ct v g w (y 0) (headOf (y 1)) (laneOf (y 1))

theorem shownAll_at (s : Vec Ideal S1x8x4x128x256 .f32) (ct : Vec Ideal S1x1024x8 .f32) (v g : Vec Ideal S8x1024 .f32) (w : Vec Ideal S1x1024 .f32) (i : Fin 8) (h : Fin 4) (e : Fin 256) :
    shownAll s ct v g w (ix2 i (wide h e)) = shown s ct v g w i h e := by
  change shown s ct v g w i (headOf (wide h e)) (laneOf (wide h e)) = _
  rw [headOf_wide, laneOf_wide]

/-- Where a head's piece of the output block and where a token's and a head's piece of the scratch rows lie. -/
theorem tile_spot (o : ℕ) (inb) (x0 : Fin 8) (x1 : Fin 256) (ho : o / 256 < 4) (hr : o % 256 = 0) :
    (Rect.unit (s := S8x1024) ![0, o] ![8, 256] inb).emb (ix2 x0 x1) = ix2 x0 (wide ⟨o / 256, ho⟩ x1) := by
  have e : o / 256 * 256 = o := by omega
  funext k
  apply Fin.ext
  rw [Rect.emb_apply]
  fin_cases k <;> simp [ix2, wide, e]
theorem row_spot (a o : ℕ) (inb) (x0 : Fin 1) (x1 : Fin 256) (ha : a < 8) (ho : o / 256 < 4) (hr : o % 256 = 0) :
    (Rect.unit (s := S8x1024) ![a, o] ![1, 256] inb).emb (ix2 x0 x1) = ix2 ⟨a, ha⟩ (wide ⟨o / 256, ho⟩ x1) := by
  have e : o / 256 * 256 = o := by omega
  funext k
  apply Fin.ext
  rw [Rect.emb_apply]
  fin_cases k <;> simp [ix2, wide, e]

set_option maxHeartbeats 8000000 in
/-- The output's block after a grid point. -/
theorem y_block (c : Dev nD) (i : grid0.Coords) (arg2 : Memref sig .tc .vmem S1x8x4x128x256 .f32) (harg2 : arg2.IsWhole) (arg4 : Memref sig .tc .vmem S1x1024x8 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S1x8x4x128x256 .f32) (harg9 : arg9.IsWhole) (arg10 : Memref sig .tc .vmem S8x1024 .f32) (harg10 : arg10.IsWhole)
    (x0 : Vec Ideal S1x8x4x128x256 .f32) (x1 : Vec Ideal S1x1024x8 .f32) (x2 : Vec Ideal S8x1024 .f32) (x3 : Vec Ideal S8x1024 .f32) (x4 : Vec Ideal S1x1024 .f32) (y : S8x1024.Idx) :
    out0_A_5 (F := Ideal) c i arg2 harg2 arg4 harg4 arg5 harg5 arg6 harg6 arg7 harg7 arg8 harg8 arg9 harg9 arg10 harg10 x0 x1 x2 x3 x4 y = shownAll x0 x1 x2 x3 x4 y := by
  frame_open
  frame_out
  simp only [read_held]
  rw [held_eq (spokenAll x0 x1 x2)]
  rotate_left
  · repeat' apply And.intro
    all_goals first
      | exact trivial
      | (intro x
         idx_vars x
         unfold_payloads
         pointwise
         rw [row_spot _ _ _ _ _ (by decide) (by decide) (by decide), spokenAll_at]
         first
           | rfl
           | (simp only [spoken, moved, fade, qlane, klane, wide]; simp; rfl)
           | (simp only [spoken, moved, fade, qlane, klane, wide]; simp))
  · exact fun y => View.cover_of_tiledL (s := S8x1024) _ S1x256.size (by sl_kernel_rfl) y
  refine View.canon_apply_of_pieces (Val := Elt Ideal) (e := .f32) (shownAll x0 x1 x2 x3 x4) _ (View.PiecesOf.mem ?_) y ?_
  swap
  · exact View.cover_of_tiledL (s := S8x1024) _ S8x256.size (by sl_kernel_rfl) y
  repeat' apply And.intro
  all_goals first
    | exact trivial
    | (intro x
       idx_vars x
       unfold_payloads
       pointwise
       rw [tile_spot _ _ _ _ (by decide) (by decide), shownAll_at]
       first
         | (simp only [shown, Ret.mixed, wide, zero_sub]; done)
         | (simp only [shown, Ret.mixed, wide, zero_sub]; simp; done)
         | (simp only [shown, Ret.mixed, wide, zero_sub]; rfl))

end Cert.RetDec

end
-- ==== Proof.RetDec.Kernel.lean ====
/- The retention's decoding step: what the kernel leaves (hand-written, untrusted). -/
module

public import proofs.«01_k».proof.Proof.RetDec.BlockOut
public import Idealize.ShloMosaic.Lib.StableHlo.ReadAt

@[expose] public section

set_option maxRecDepth 16384

noncomputable section

namespace Cert.RetDec

open Idealize.ShloMosaic

/-- A token's state after its step, of the states before, the rotated queries and keys, and the projection. -/
def stepped (s : (⟨5, ![2, 128, 4, 128, 256]⟩ : Shape).Idx → EReal) (q : (⟨2, ![128, 1024]⟩ : Shape).Idx → EReal)
    (p : (⟨2, ![128, 13312]⟩ : Shape).Idx → EReal) (b : Fin 128) (h : Fin 4) (d : Fin 128) (e : Fin 256) : EReal :=
  fade h * s (ix5 1 b h d e) + q (ix2 b (klane h d)) * p (ix2 b ⟨1024 + (wide h e).val, by have := (wide h e).isLt; omega⟩)

/-- What a token's query reads off it. -/
def recalled (s : (⟨5, ![2, 128, 4, 128, 256]⟩ : Shape).Idx → EReal) (q : (⟨2, ![128, 1024]⟩ : Shape).Idx → EReal)
    (p : (⟨2, ![128, 13312]⟩ : Shape).Idx → EReal) (b : Fin 128) (h : Fin 4) (e : Fin 256) : EReal :=
  ∑ d : Fin 128, q (ix2 b (qlane h d)) * stepped s q p b h d e

/-- The step's output. -/
def output (s : (⟨5, ![2, 128, 4, 128, 256]⟩ : Shape).Idx → EReal) (q : (⟨2, ![128, 1024]⟩ : Shape).Idx → EReal)
    (p : (⟨2, ![128, 13312]⟩ : Shape).Idx → EReal) (w : (⟨2, ![1, 1024]⟩ : Shape).Idx → EReal) (b : Fin 128) (h : Fin 4) (e : Fin 256) : EReal :=
  Ret.mixed (recalled s q p b h) (p (ix2 b ⟨2048 + (wide h e).val, by have := (wide h e).isLt; omega⟩)) (w (ix2 0 (wide h e))) e

/-- The states of both layers: the first as they came, the second a step further. -/
def states (s n : (⟨5, ![2, 128, 4, 128, 256]⟩ : Shape).Idx → EReal) (q : (⟨2, ![128, 1024]⟩ : Shape).Idx → EReal)
    (p : (⟨2, ![128, 13312]⟩ : Shape).Idx → EReal) (l : Fin 2) (b : Fin 128) (h : Fin 4) (d : Fin 128) (e : Fin 256) : EReal :=
  if l.val = 0 then n (ix5 0 b h d e) else stepped s q p b h d e

theorem wide_split (j : Fin 1024) : wide (headOf j) (laneOf j) = j := by
  apply Fin.ext; simp only [headOf, laneOf, wide]; omega

namespace Kernel

open Idealize.ShloMosaic.TcCoe Idealize.SL.Sem
open Cert.Kernel5Ideal Cert.Kernel5Ideal.Gen Cert.Kernel5Ideal.Value

set_option maxHeartbeats 1000000 in
/-- Which block each window holds at each point. -/
theorem place : ∀ t : Fin cfg0.N, win0_0.index t = ![1, t.val, 0, 0, 0] ∧ win0_1.index t = ![t.val, 0, 0] ∧ win0_2.index t = ![t.val, 1]
    ∧ win0_3.index t = ![t.val, 2] ∧ win0_4.index t = ![0, 0] ∧ win0_5.index t = ![t.val, 0] ∧ win0_6.index t = ![1, t.val, 0, 0, 0] := by
  decide +kernel

variable (m : (ℓ : Loc nD τ sig) → Buf (Elt Ideal) ℓ) (c : Dev nD)

theorem lt16 (t : Fin cfg0.N) : t.val < 16 := lt_of_lt_of_eq t.isLt N_0

/-- The token that a point's block row is. -/
def token (t : Fin cfg0.N) (i : Fin 8) : Fin 128 := ⟨t.val * 8 + i.val, by have := lt16 t; omega⟩

theorem read0 (t : Fin cfg0.N) (i : Fin 8) (h : Fin 4) (d : Fin 128) (e : Fin 256) :
    (iblk m c 0 t : Vec Ideal S1x8x4x128x256 .f32) (ix5 0 i h d e) = m ((c : Thread nD τ).loc main_arg0) (ix5 1 (token t i) h d e) := by
  have e := place t
  blk_ext [iblk, V_main_arg0, e, token]
theorem read2 (t : Fin cfg0.N) (i : Fin 8) (k : Fin 1024) : (iblk m c 2 t : Vec Ideal S8x1024 .f32) (ix2 i k)
    = m ((c : Thread nD τ).loc main_arg3) (ix2 (token t i) ⟨1024 + k.val, by omega⟩) := by
  have e := place t
  blk_ext [iblk, V_main_arg3, e, token]
theorem read3 (t : Fin cfg0.N) (i : Fin 8) (k : Fin 1024) : (iblk m c 3 t : Vec Ideal S8x1024 .f32) (ix2 i k)
    = m ((c : Thread nD τ).loc main_arg3) (ix2 (token t i) ⟨2048 + k.val, by omega⟩) := by
  have e := place t
  blk_ext [iblk, V_main_arg3, e, token]
theorem read4 (t : Fin cfg0.N) (k : Fin 1024) : (iblk m c 4 t : Vec Ideal S1x1024 .f32) (ix2 0 k)
    = m ((c : Thread nD τ).loc main_arg4) (ix2 0 k) := by
  have e := place t
  blk_ext [iblk, V_main_arg4, e]

theorem host1 (t : Fin 16) (k : Fin 1024) (i : Fin 8) : (V m c main_v1 : Vec Ideal S16x1024x8 .f32) (ix3 t k i)
    = m ((c : Thread nD τ).loc main_arg2) (ix2 ⟨t.val * 8 + i.val, by omega⟩ k) := by
  simp only [V, List.flatten_cons, List.flatten_nil, List.append_nil, List.cons_append, List.nil_append]
  after_reads_at
theorem host2 (i : S2x128x4x128x256.Idx) : (V m c main_v2_1 : Vec Ideal S2x128x4x128x256 .f32) i
    = m ((c : Thread nD τ).loc main_arg1) i := by
  simp only [V, List.flatten_cons, List.flatten_nil, List.append_nil, List.cons_append, List.nil_append]
  idx_vars i
  after_reads_at
  rfl

theorem read1 (t : Fin cfg0.N) (k : Fin 1024) (i : Fin 8) : (iblk m c 1 t : Vec Ideal S1x1024x8 .f32) (ix3 0 k i)
    = m ((c : Thread nD τ).loc main_arg2) (ix2 (token t i) k) := by
  refine Eq.trans ?_ (host1 m c ⟨t.val, lt16 t⟩ k i)
  have e := place t
  blk_ext [iblk, e]

/-- What the kernel's arguments give: the moved states, the rows read off them, and the output. -/
def next := stepped (m ((c : Thread nD τ).loc main_arg0)) (m ((c : Thread nD τ).loc main_arg2)) (m ((c : Thread nD τ).loc main_arg3))
def result := output (m ((c : Thread nD τ).loc main_arg0)) (m ((c : Thread nD τ).loc main_arg2)) (m ((c : Thread nD τ).loc main_arg3))
  (m ((c : Thread nD τ).loc main_arg4))
def both := states (m ((c : Thread nD τ).loc main_arg0)) (m ((c : Thread nD τ).loc main_arg1)) (m ((c : Thread nD τ).loc main_arg2))
  (m ((c : Thread nD τ).loc main_arg3))

/-- A block's moved state is the token's. -/
theorem moved_eq (t : Fin cfg0.N) (i : Fin 8) (h : Fin 4) (d : Fin 128) (e : Fin 256) :
    moved (iblk m c 0 t) (iblk m c 1 t) (iblk m c 2 t) i h d e = next m c (token t i) h d e := by
  unfold moved next stepped
  rw [read0, read1, read2]

/-- A block's output is the token's. -/
theorem shown_eq (t : Fin cfg0.N) (i : Fin 8) (h : Fin 4) (e : Fin 256) :
    shown (iblk m c 0 t) (iblk m c 1 t) (iblk m c 2 t) (iblk m c 3 t) (iblk m c 4 t) i h e = result m c (token t i) h e := by
  unfold shown result output
  have o : (fun e => spokenAll (iblk m c 0 t) (iblk m c 1 t) (iblk m c 2 t) (ix2 i (wide h e)))
      = recalled (m ((c : Thread nD τ).loc main_arg0)) (m ((c : Thread nD τ).loc main_arg2)) (m ((c : Thread nD τ).loc main_arg3)) (token t i) h := by
    funext e
    rw [spokenAll_at]
    unfold spoken recalled
    refine Finset.sum_congr rfl fun d _ => ?_
    rw [read1, moved_eq]
    rfl
  rw [o, read3, read4]

/-- Where an element of the output's block lies in the array, and of the states' block. -/
theorem out_row (t : Fin cfg0.N) (y : S8x1024.Idx) :
    (((View.whole main_v2_0).slice (win0_5.rect t)).emb y 0).val = t.val * 8 + (y 0).val := by
  have e : win0_5.index t 0 = t.val := congrFun (place t).2.2.2.2.2.1 0
  show win0_5.index t 0 * 8 + 1 * (y 0).val = _
  rw [e, one_mul]
theorem out_column (t : Fin cfg0.N) (y : S8x1024.Idx) :
    (((View.whole main_v2_0).slice (win0_5.rect t)).emb y 1).val = (y 1).val := by
  have e : win0_5.index t 1 = 0 := congrFun (place t).2.2.2.2.2.1 1
  show win0_5.index t 1 * 1024 + 1 * (y 1).val = _
  rw [e, one_mul, zero_mul, zero_add]
theorem state_layer (t : Fin cfg0.N) (y : S1x8x4x128x256.Idx) :
    (((View.whole main_v2_1).slice (win0_6.rect t)).emb y 0).val = 1 := by
  have e : win0_6.index t 0 = 1 := congrFun (place t).2.2.2.2.2.2 0
  have z : (y 0).val = 0 := Nat.lt_one_iff.mp (y 0).isLt
  show win0_6.index t 0 * 1 + 1 * (y 0).val = _
  rw [e, z]
theorem state_at (t : Fin cfg0.N) (i : Fin 8) (h : Fin 4) (d : Fin 128) (e : Fin 256) :
    ((View.whole main_v2_1).slice (win0_6.rect t)).emb (ix5 0 i h d e) = ix5 1 (token t i) h d e := by
  have p := (place t).2.2.2.2.2.2
  funext k
  apply Fin.ext
  fin_cases k
  · exact state_layer t _
  · have e : win0_6.index t 1 = t.val := congrFun p 1
    show win0_6.index t 1 * 8 + 1 * i.val = _
    rw [e, one_mul]; rfl
  · have e : win0_6.index t 2 = 0 := congrFun p 2
    show win0_6.index t 2 * 4 + 1 * h.val = _
    rw [e, one_mul, zero_mul, zero_add]; rfl
  · have e : win0_6.index t 3 = 0 := congrFun p 3
    show win0_6.index t 3 * 128 + 1 * d.val = _
    rw [e, one_mul, zero_mul, zero_add]; rfl
  · have e' : win0_6.index t 4 = 0 := congrFun p 4
    show win0_6.index t 4 * 256 + 1 * e.val = _
    rw [e', one_mul, zero_mul, zero_add]; rfl

set_option maxHeartbeats 1000000 in
/-- The output array after the run. -/
theorem final : (dats m 0 c).arrAt 5 cfg0.N = fun i => result m c (i 0) (headOf (i 1)) (laneOf (i 1)) := by
  refine (dats m 0 c).arrAt_eq_of_covers 5 _ (by decide +kernel) fun t hf y => ?_
  have e := place t
  blk_simp [e]
  rw [after0_5, outsAt0]
  dsimp only
  rw [y_block]
  idx_vars y
  have er : (win0_5.blk t).view.emb (ix2 y0 y1) 0 = token t y0 := Fin.ext (out_row t (ix2 y0 y1))
  have ec : (win0_5.blk t).view.emb (ix2 y0 y1) 1 = y1 := Fin.ext (out_column t (ix2 y0 y1))
  rw [er, ec]
  exact shown_eq m c t y0 (headOf y1) (laneOf y1)

/-- Every point writes its states back. -/
theorem flushes : ∀ t : Fin cfg0.N, (cfg0.win 6).flush t = true := by decide +kernel

set_option maxHeartbeats 1000000 in
/-- The states' array after the run. -/
theorem final' : (dats m 0 c).arrAt 6 cfg0.N = fun i => both m c (i 0) (i 1) (i 2) (i 3) (i 4) := by
  funext i
  idx_vars i
  by_cases hl : i0.val = 0
  · obtain rfl : i0 = 0 := Fin.ext hl
    refine (entry6 m c _ fun t _ hm => ?_).trans ((host2 m c _).trans ?_)
    · obtain ⟨y, -, hy⟩ := Finset.mem_map.mp hm
      have h := (state_layer t y).symm.trans (congrArg Fin.val (congrFun hy 0))
      exact absurd (show (1 : ℕ) = 0 from h) (by decide)
    · unfold both states
      exact (if_pos rfl).symm
  · obtain rfl : i0 = 1 := by apply Fin.ext; show i0.val = 1; omega
    have hN : i1.val / 8 < cfg0.N := by rw [show cfg0.N = 16 from N_0]; omega
    have hi : token ⟨i1.val / 8, hN⟩ ⟨i1.val % 8, by omega⟩ = i1 := by
      apply Fin.ext; simp only [token]; omega
    have b := congrFun (blocks6 m c ⟨i1.val / 8, hN⟩ (flushes _)) (ix5 0 ⟨i1.val % 8, by omega⟩ i2 i3 i4)
    rw [flushed6_A] at b
    have b' : (dats m 0 c).arrAt 6 cfg0.N (((View.whole main_v2_1).slice (win0_6.rect ⟨i1.val / 8, hN⟩)).emb (ix5 0 ⟨i1.val % 8, by omega⟩ i2 i3 i4)) = _ := b
    rw [state_at, hi] at b'
    refine b'.trans ?_
    refine (state_block _ _ _ _ _ _ _ _ _ _ _ _ _ _ _ _ _ _ _ _ _ _ _ _).trans ?_
    refine (moved_eq m c ⟨i1.val / 8, hN⟩ ⟨i1.val % 8, by omega⟩ i2 i3 i4).trans ?_
    rw [hi]
    unfold both states
    exact (if_neg (by decide)).symm

end Kernel

end Cert.RetDec

end
-- ==== Proof.RetDec.Reference.lean ====
/- The retention's decoding step: the reference's terms (hand-written, untrusted). -/
module

public import proofs.«01_k».proof.Proof.RetDec.Kernel
public import proofs.«01_k».proof.Proof.Gen.Reference5Ideal.Run

@[expose] public section

set_option maxRecDepth 16384

noncomputable section

namespace Cert.RetDec.Reference

open Idealize.ShloMosaic Idealize.SL.Sem Idealize.ShloMosaic.TcCoe
open Cert.Reference5Ideal Cert.Reference5Ideal.Gen Cert.Reference5Ideal.Value

/-- What a head keeps of its state is the decay that the reference computes. -/
theorem fade_coe (h : Fin 4) : fade h = ((Ret.decay h : ℝ) : EReal) := by
  rw [Ret.decay_eq]
  fin_cases h <;>
    (simp [fade, Scalar.ofBits, FloatOps.ofBits, Ideal.ofBits, Ideal.ieee]; rw [← EReal.coe_mul]; congr 1; norm_num)

/-- The decay, as the reference computes it. -/
theorem decay_at (h : Fin 4) : Ideal.exp (Ideal.log1p (-Ideal.pow (Ideal.ofBits .f32 0x3F000000#32)
    (Ideal.ofBits .f32 0x40A00000#32 + FloatOps.sitofp (F := Ideal) FTy.f32 (BitVec.ofNat 32 h)))) = fade h := by
  rw [fade_coe, Ret.half_coe, Ret.five_coe]
  show Ideal.exp (Ideal.log1p (-Ideal.pow _ (_ + ((((BitVec.ofNat 32 h).toInt : ℝ)) : EReal)))) = _
  rw [Ret.count_coe _ (by omega), Ret.logDecay_coe, Ideal.exp_coe, Real.exp_log (Ret.decay_pos h)]

/-- The reference's moved states. -/
def moveTerm (s : FVec Ideal S2x128x4x128x256 .f32) (q : FVec Ideal S128x1024 .f32) (p : FVec Ideal S128x13312 .f32) : FVec Ideal S128x4x128x256 .f32 :=
  (addf (mulf (broadcastInDim S128x4x128x256 ![0, 1, 2, 3] bcast_S1x4x1x1_S128x4x128x256_0_1_2_3 (broadcastInDim S1x4x1x1 ![1] bcast_S4_S1x4x1x1_1 (Host.exp (Host.log1p (Host.negf (Host.powf (broadcastInDim S4 ![] bcast_S_S4 (constant S_ .f32 0x3F000000#32)) (addf (broadcastInDim S4 ![] bcast_S_S4 (constant S_ .f32 0x40A00000#32)) (sitofp .f32 (iotaInDim S4 32 0))))))))) (shapeCast _ (extractStridedSlice S1x128x4x128x256 ![1, 0, 0, 0, 0] s slices_S2x128x4x128x256_S1x128x4x128x256_1_0_0_0_0) shapeCasts_S1x128x4x128x256_S128x4x128x256)) (mulf (broadcastInDim S128x4x128x256 ![0, 1, 2, 3] bcast_S128x4x128x1_S128x4x128x256_0_1_2_3 (broadcastInDim S128x4x128x1 ![0, 1, 2] bcast_S128x4x128_S128x4x128x1_0_1_2 (shapeCast _ (extractStridedSlice S128x512 ![0, 512] q slices_S128x1024_S128x512_0_512) shapeCasts_S128x512_S128x4x128))) (broadcastInDim S128x4x128x256 ![0, 1, 2, 3] bcast_S128x4x1x256_S128x4x128x256_0_1_2_3 (broadcastInDim S128x4x1x256 ![0, 1, 3] bcast_S128x4x256_S128x4x1x256_0_1_3 (shapeCast _ (extractStridedSlice S128x1024 ![0, 1024] p slices_S128x13312_S128x1024_0_1024) shapeCasts_S128x1024_S128x4x256)))))

/-- The rows it reads off them. -/
def recallTerm (q : FVec Ideal S128x1024 .f32) (S : FVec Ideal S128x4x128x256 .f32) : FVec Ideal S128x4x256 .f32 :=
  (Host.dotGeneral dot_S128x4x128_S128x4x128x256_S128x4x256_2_2_n_3_01_01 none (shapeCast _ (extractStridedSlice S128x512 ![0, 0] q slices_S128x1024_S128x512_0_0) shapeCasts_S128x512_S128x4x128) S)

/-- Its output, of those rows. -/
def outTerm (p : FVec Ideal S128x13312 .f32) (w : FVec Ideal S1x1024 .f32) (o : FVec Ideal S128x4x256 .f32) : FVec Ideal S128x1024 .f32 :=
  mulf (mulf (extractStridedSlice S128x1024 ![0, 2048] p slices_S128x13312_S128x1024_0_2048) (Host.divf (broadcastInDim S128x1024 ![] bcast_S_S128x1024 (constant S_ .f32 0x3F800000#32)) (addf (broadcastInDim S128x1024 ![] bcast_S_S128x1024 (constant S_ .f32 0x3F800000#32)) (Host.exp (Host.negf (extractStridedSlice S128x1024 ![0, 2048] p slices_S128x13312_S128x1024_0_2048)))))) (shapeCast _ (mulf (mulf (subf (broadcastInDim S128x1x4x256 ![0, 2, 3] bcast_S128x4x256_S128x1x4x256_0_2_3 o) (broadcastInDim S128x1x4x256 ![0, 1, 2, 3] bcast_S128x1x4x1_S128x1x4x256_0_1_2_3 (Host.divf (broadcastInDim S128x1x4x1 ![0, 1, 2] bcast_S128x1x4_S128x1x4x1_0_1_2 (Host.reduceAdd (broadcastInDim S128x1x4x256 ![0, 2, 3] bcast_S128x4x256_S128x1x4x256_0_2_3 o) (constant S_ .f32 0x00000000#32) reducesTo_S128x1x4x256_S128x1x4_d3 h_S_)) (broadcastInDim S128x1x4x1 ![] bcast_S_S128x1x4x1 (constant S_ .f32 0x43800000#32))))) (broadcastInDim S128x1x4x256 ![0, 1, 2, 3] bcast_S128x1x4x1_S128x1x4x256_0_1_2_3 (Host.rsqrt (addf (Host.divf (broadcastInDim S128x1x4x1 ![0, 1, 2] bcast_S128x1x4_S128x1x4x1_0_1_2 (Host.reduceAdd (mulf (subf (broadcastInDim S128x1x4x256 ![0, 2, 3] bcast_S128x4x256_S128x1x4x256_0_2_3 o) (broadcastInDim S128x1x4x256 ![0, 1, 2, 3] bcast_S128x1x4x1_S128x1x4x256_0_1_2_3 (Host.divf (broadcastInDim S128x1x4x1 ![0, 1, 2] bcast_S128x1x4_S128x1x4x1_0_1_2 (Host.reduceAdd (broadcastInDim S128x1x4x256 ![0, 2, 3] bcast_S128x4x256_S128x1x4x256_0_2_3 o) (constant S_ .f32 0x00000000#32) reducesTo_S128x1x4x256_S128x1x4_d3 h_S_)) (broadcastInDim S128x1x4x1 ![] bcast_S_S128x1x4x1 (constant S_ .f32 0x43800000#32))))) (subf (broadcastInDim S128x1x4x256 ![0, 2, 3] bcast_S128x4x256_S128x1x4x256_0_2_3 o) (broadcastInDim S128x1x4x256 ![0, 1, 2, 3] bcast_S128x1x4x1_S128x1x4x256_0_1_2_3 (Host.divf (broadcastInDim S128x1x4x1 ![0, 1, 2] bcast_S128x1x4_S128x1x4x1_0_1_2 (Host.reduceAdd (broadcastInDim S128x1x4x256 ![0, 2, 3] bcast_S128x4x256_S128x1x4x256_0_2_3 o) (constant S_ .f32 0x00000000#32) reducesTo_S128x1x4x256_S128x1x4_d3 h_S_)) (broadcastInDim S128x1x4x1 ![] bcast_S_S128x1x4x1 (constant S_ .f32 0x43800000#32)))))) (constant S_ .f32 0x00000000#32) reducesTo_S128x1x4x256_S128x1x4_d3 h_S_)) (broadcastInDim S128x1x4x1 ![] bcast_S_S128x1x4x1 (constant S_ .f32 0x43800000#32))) (broadcastInDim S128x1x4x1 ![] bcast_S_S128x1x4x1 (constant S_ .f32 0x358637BD#32)))))) (broadcastInDim S128x1x4x256 ![0, 1, 2, 3] bcast_S1x1x4x256_S128x1x4x256_0_1_2_3 (broadcastInDim S1x1x4x256 ![2, 3] bcast_S4x256_S1x1x4x256_2_3 (shapeCast _ w shapeCasts_S1x1024_S4x256)))) shapeCasts_S128x1x4x256_S128x1024)

/-- Its states of both layers. -/
def statesTerm (n : FVec Ideal S2x128x4x128x256 .f32) (S : FVec Ideal S128x4x128x256 .f32) : FVec Ideal S2x128x4x128x256 .f32 :=
  concatenate S2x128x4x128x256 0 [⟨S1x128x4x128x256, (broadcastInDim S1x128x4x128x256 ![1, 2, 3, 4] bcast_S128x4x128x256_S1x128x4x128x256_1_2_3_4 (shapeCast _ (extractStridedSlice S1x128x4x128x256 ![0, 0, 0, 0, 0] n slices_S2x128x4x128x256_S1x128x4x128x256_0_0_0_0_0) shapeCasts_S1x128x4x128x256_S128x4x128x256))⟩, ⟨S1x128x4x128x256, (broadcastInDim S1x128x4x128x256 ![1, 2, 3, 4] bcast_S128x4x128x256_S1x128x4x128x256_1_2_3_4 S)⟩] concatenates_S1x128x4x128x256_S1x128x4x128x256_S2x128x4x128x256_d0

/-- The moved states at an index. -/
theorem move_at (s : FVec Ideal S2x128x4x128x256 .f32) (q : FVec Ideal S128x1024 .f32) (p : FVec Ideal S128x13312 .f32) (b : Fin 128) (h : Fin 4) (d : Fin 128) (e : Fin 256) :
    moveTerm s q p (ix4 b h d e) = stepped s q p b h d e := by
  unfold moveTerm
  pointwise
  rw [decay_at]
  unfold stepped klane wide
  simp only [Nat.add_assoc]

/-- The recalled rows at an index. -/
theorem recall_at (q : FVec Ideal S128x1024 .f32) (S : FVec Ideal S128x4x128x256 .f32) (b : Fin 128) (h : Fin 4) (e : Fin 256) :
    recallTerm q S (ix3 b h e) = ∑ d : Fin 128, q (ix2 b (qlane h d)) * S (ix4 b h d e) := by
  unfold recallTerm
  pointwise
  rfl

/-- The output at an index. -/
theorem out_at (p : FVec Ideal S128x13312 .f32) (w : FVec Ideal S1x1024 .f32) (o : FVec Ideal S128x4x256 .f32) (b : Fin 128) (j : Fin 1024) :
    outTerm p w o (ix2 b j) = Ret.mixed (fun e => o (ix3 b (headOf j) e)) (p (ix2 b ⟨2048 + j.val, by omega⟩)) (w (ix2 0 j)) (laneOf j) := by
  unfold outTerm
  pointwise
  rfl

/-- The states at an index. -/
theorem states_at (n : FVec Ideal S2x128x4x128x256 .f32) (S : FVec Ideal S128x4x128x256 .f32) (l : Fin 2) (b : Fin 128) (h : Fin 4) (d : Fin 128) (e : Fin 256) :
    statesTerm n S (ix5 l b h d e) = if l.val = 0 then n (ix5 0 b h d e) else S (ix4 b h d e) := by
  unfold statesTerm
  pointwise
  simp only [Nat.lt_one_iff, dite_eq_ite]

end Cert.RetDec.Reference

end
-- ==== Proof.RetDec.Equal.lean ====
/- The retention's decoding step: the runs and the equality (hand-written, untrusted). -/
module

public import proofs.«01_k».proof.Defs
public import proofs.«01_k».proof.Proof.RetDec.Reference
public import proofs.«01_k».proof.Proof.Gen.Kernel5.Frame
public import Idealize.ShloMosaic.Lib.Quiescent

@[expose] public section

set_option maxRecDepth 16384

noncomputable section

namespace Cert.RetDec

open Idealize.ShloMosaic Idealize.SL.Sem

/-- The printed kernel's run: arguments unchanged, every counter back at zero. -/
theorem run_kernel : Cert.quiescent_Kernel5 (hKernel5 := Cert.Kernel5.Gen.facts) := fun m ρ _ => Cert.Kernel5.Gen.frame m ρ

/-- The same of its idealization. -/
theorem run_kernelIdeal : Cert.quiescent_Kernel5Ideal (hKernel5Ideal := Cert.Kernel5Ideal.Gen.facts) :=
  fun m ρ _ => Cert.Kernel5Ideal.Gen.frame m ρ

/-- The reference's run: it declares no semaphore, so it need only keep the arguments. -/
theorem run_referenceIdeal : Cert.quiescent_Reference5Ideal (hReference5Ideal := Cert.Reference5Ideal.Gen.facts) := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

section Terms
open Cert.Reference5Ideal Cert.Reference5Ideal.Gen Cert.Reference5Ideal.Value Idealize.ShloMosaic.TcCoe

variable (m : (ℓ : Loc nD τ sig) → Buf (Elt Ideal) ℓ) (c : Dev nD)

/-- The reference's moved states, as one function. -/
theorem move_eq (s : FVec Ideal S2x128x4x128x256 .f32) (q : FVec Ideal S128x1024 .f32) (p : FVec Ideal S128x13312 .f32) :
    Reference.moveTerm s q p = fun i => stepped s q p (i 0) (i 1) (i 2) (i 3) := by
  funext i
  idx_vars i
  exact Reference.move_at s q p i0 i1 i2 i3

/-- The reference's first result is the output. -/
theorem ref_out (b : Fin 128) (j : Fin 1024) : (res_out0 m c : FVec Ideal S128x1024 .f32) (ix2 b j)
    = output (m ((c : Thread nD τ).loc main_arg0)) (m ((c : Thread nD τ).loc main_arg2)) (m ((c : Thread nD τ).loc main_arg3))
        (m ((c : Thread nD τ).loc main_arg4)) b (headOf j) (laneOf j) := by
  refine (show _ = Reference.outTerm (m ((c : Thread nD τ).loc main_arg3)) (m ((c : Thread nD τ).loc main_arg4))
      (Reference.recallTerm (m ((c : Thread nD τ).loc main_arg2)) (Reference.moveTerm (m ((c : Thread nD τ).loc main_arg0))
        (m ((c : Thread nD τ).loc main_arg2)) (m ((c : Thread nD τ).loc main_arg3)))) (ix2 b j) from rfl).trans ?_
  rw [Reference.out_at]
  simp only [Reference.recall_at, move_eq]
  simp only [output, wide_split]
  rfl

/-- The reference's second result is the states of both layers. -/
theorem ref_states (s n : FVec Ideal S2x128x4x128x256 .f32) (q : FVec Ideal S128x1024 .f32) (p : FVec Ideal S128x13312 .f32) (l : Fin 2) (b : Fin 128) (h : Fin 4) (d : Fin 128) (e : Fin 256) :
    Reference.statesTerm n (Reference.moveTerm s q p) (ix5 l b h d e) = states s n q p l b h d e := by
  rw [Reference.states_at, move_eq]
  rfl

end Terms

set_option maxHeartbeats 1000000 in
/-- Kernel and reference give the same output and the same states. -/
theorem equal : Cert.algebraic_Kernel5Ideal_Reference5Ideal (hKernel5Ideal := Cert.Kernel5Ideal.Gen.facts)
    (hReference5Ideal := Cert.Reference5Ideal.Gen.facts) := by
  intro m ρ m' ρ' _ hargs
  refine ⟨fun c => (Cert.Kernel5Ideal.Gen.dats m 0 c).arrAt 5 Cert.Kernel5Ideal.cfg0.N,
    fun c => (Cert.Kernel5Ideal.Gen.dats m 0 c).arrAt 6 Cert.Kernel5Ideal.cfg0.N, Cert.Kernel5Ideal.Value.run_blocks m ρ, ?_⟩
  refine (θ_run Cert.Reference5Ideal.defs _ _).mono (fun r h c => ?_) (Cert.Reference5Ideal.Value.run (F := Ideal) m' ρ')
  obtain ⟨h0, h1, h⟩ := h c
  obtain ⟨a0, a1, a2, a3, a4⟩ := hargs c
  refine ⟨h0.trans (Eq.trans ?_ (Kernel.final m c).symm), h1.trans (Eq.trans ?_ (Kernel.final' m c).symm), h⟩
  · funext i
    idx_vars i
    refine (ref_out m' c i0 i1).trans ?_
    rw [a0, a2, a3, a4]
    rfl
  · funext i
    idx_vars i
    refine (ref_states _ _ _ _ i0 i1 i2 i3 i4).trans ?_
    rw [a0, a1, a2, a3]
    rfl

end Cert.RetDec

end
-- ==== Proof.HgDec.Block.lean ====
/- What one grid point of the gated recurrence's decoding step leaves, read off its blocks (hand-written, untrusted). -/
module

public import proofs.«01_k».proof.Proof.Gen.Kernel6Ideal.Value
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.HgDec

open Idealize.ShloMosaic Idealize.ShloMosaic.TcCoe Idealize.SL.Sem
open Cert.Kernel6Ideal Cert.Kernel6Ideal.Gen Cert.Kernel6Ideal.Value

/-- Head `h`'s lane `d` among the 1024 query columns, among the 1024 forget columns after them, and its lane `e` among the 1024 value columns. -/
def qlane (h : Fin 8) (d : Fin 128) : Fin 2048 := ⟨h.val * 128 + d.val, by omega⟩
def klane (h : Fin 8) (d : Fin 128) : Fin 2048 := ⟨1024 + h.val * 128 + d.val, by omega⟩
def wide (h : Fin 8) (e : Fin 128) : Fin 1024 := ⟨h.val * 128 + e.val, by omega⟩

/-- The states that a grid point leaves for its eight tokens. -/
def moved (s : Vec Ideal S1x8x8x128x128 .f32) (ct : Vec Ideal S1x2048x8 .f32) (v : Vec Ideal S8x1024 .f32) (i : Fin 8) (h : Fin 8) (d : Fin 128) (e : Fin 128) : EReal :=
  ct (ix3 0 (klane h d) i) * s (ix5 0 i h d e) + (1 - ct (ix3 0 (klane h d) i)) * v (ix2 i (wide h e))

/-- The same as one array. -/
def movedAll (s : Vec Ideal S1x8x8x128x128 .f32) (ct : Vec Ideal S1x2048x8 .f32) (v : Vec Ideal S8x1024 .f32) : Vec Ideal S1x8x8x128x128 .f32 :=
  fun y => moved s ct v (y 1) (y 2) (y 3) (y 4)

/-- Where a token's and a head's piece of the states' block lies. -/
theorem spot (a b : ℕ) (inb) (x0 x1 x2 : Fin 1) (x3 : Fin 128) (x4 : Fin 128) (ha : a < 8) (hb : b < 8) :
    (Rect.unit (s := S1x8x8x128x128) ![0, a, b, 0, 0] ![1, 1, 1, 128, 128] inb).emb (ix5 x0 x1 x2 x3 x4) = ix5 0 ⟨a, ha⟩ ⟨b, hb⟩ x3 x4 := by
  funext k
  apply Fin.ext
  rw [Rect.emb_apply]
  fin_cases k <;> simp [ix5]

set_option maxHeartbeats 8000000 in
/-- The states' block after a grid point. -/
theorem state_block (c : Dev nD) (i : grid0.Coords) (arg2 : Memref sig .tc .vmem S1x8x8x128x128 .f32) (harg2 : arg2.IsWhole) (arg4 : Memref sig .tc .vmem S1x2048x8 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S1x8x8x128x128 .f32) (harg9 : arg9.IsWhole) (arg10 : Memref sig .tc .vmem S8x1024 .f32) (harg10 : arg10.IsWhole)
    (x0 : Vec Ideal S1x8x8x128x128 .f32) (x1 : Vec Ideal S1x2048x8 .f32) (x2 : Vec Ideal S8x1024 .f32) (x3 : Vec Ideal S8x1024 .f32) (x4 : Vec Ideal S1x1024 .f32) (y : S1x8x8x128x128.Idx) :
    out0_A_6 (F := Ideal) c i arg2 harg2 arg4 harg4 arg5 harg5 arg6 harg6 arg7 harg7 arg8 harg8 arg9 harg9 arg10 harg10 x0 x1 x2 x3 x4 y = movedAll x0 x1 x2 y := by
  frame_open
  simp (disch := decide) only [↓ View.readCov_skip, ↓ View.readCov_cons_toLoadRect, ↓ View.readCov_fill]
  frame_out
  refine View.canon_apply_of_pieces (movedAll x0 x1 x2) _ (View.PiecesOf.mem ?_) y ?_
  swap
  · exact View.cover_of_tiledL (s := S1x8x8x128x128) _ S1x1x1x128x128.size (by sl_kernel_rfl) y
  repeat' apply And.intro
  all_goals first
    | exact trivial
    | (intro x
       idx_vars x
       unfold_payloads
       pointwise
       rw [spot _ _ _ _ _ _ _ _ (by decide) (by decide)]
       first
         | rfl
         | (simp only [movedAll, moved, klane, wide]; simp; rfl)
         | (simp only [movedAll, moved, klane, wide]; simp))

end Cert.HgDec

end
-- ==== Proof.HgDec.BlockOut.lean ====
/- What one grid point of the gated recurrence's decoding step leaves, read off its blocks (hand-written, untrusted). -/
module

public import proofs.«01_k».proof.Proof.Gen.Kernel6Ideal.Value
public import proofs.«01_k».proof.Proof.HgDec.Block
public import proofs.«01_k».proof.Proof.Held
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.HgDec

open Idealize.ShloMosaic Idealize.ShloMosaic.TcCoe Idealize.SL.Sem
open Cert.Kernel6Ideal Cert.Kernel6Ideal.Gen Cert.Kernel6Ideal.Value

/-- A head's row normalised by its root mean square, times the gain, times the logistic function of the gate. -/
def gatedRow (o : Fin 128 → EReal) (gate gain : EReal) (e : Fin 128) : EReal :=
  o e * Ideal.rsqrt (Ideal.div (∑ j : Fin 128, o j * o j) (Ideal.ofBits .f32 0x43000000#32) + Ideal.ofBits .f32 0x358637BD#32) * gain
    * Ideal.div 1 (1 + Ideal.exp (-gate))

/-- A token's query against its moved state. -/
def spoken (s : Vec Ideal S1x8x8x128x128 .f32) (ct : Vec Ideal S1x2048x8 .f32) (v : Vec Ideal S8x1024 .f32) (i : Fin 8) (h : Fin 8) (e : Fin 128) : EReal :=
  ∑ d : Fin 128, ct (ix3 0 (qlane h d) i) * moved s ct v i h d e

/-- The head of a lane among the 1024, and the lane within it. -/
def headOf (j : Fin 1024) : Fin 8 := ⟨j.val / 128, by omega⟩
def laneOf (j : Fin 1024) : Fin 128 := ⟨j.val % 128, by omega⟩

theorem headOf_wide (h : Fin 8) (e : Fin 128) : headOf (wide h e) = h := by
  apply Fin.ext; simp only [headOf, wide]; omega
theorem laneOf_wide (h : Fin 8) (e : Fin 128) : laneOf (wide h e) = e := by
  apply Fin.ext; simp only [laneOf, wide]; omega

/-- The same as one array. -/
def spokenAll (s : Vec Ideal S1x8x8x128x128 .f32) (ct : Vec Ideal S1x2048x8 .f32) (v : Vec Ideal S8x1024 .f32) : Vec Ideal S8x1024 .f32 :=
  fun y => spoken s ct v (y 0) (headOf (y 1)) (laneOf (y 1))

theorem spokenAll_at (s : Vec Ideal S1x8x8x128x128 .f32) (ct : Vec Ideal S1x2048x8 .f32) (v : Vec Ideal S8x1024 .f32) (i : Fin 8) (h : Fin 8) (e : Fin 128) :
    spokenAll s ct v (ix2 i (wide h e)) = spoken s ct v i h e := by
  change spoken s ct v i (headOf (wide h e)) (laneOf (wide h e)) = _
  rw [headOf_wide, laneOf_wide]

/-- The output of a token, head and lane: the head's row normalised, times the gain, gated. -/
def shown (s : Vec Ideal S1x8x8x128x128 .f32) (ct : Vec Ideal S1x2048x8 .f32) (v g : Vec Ideal S8x1024 .f32) (w : Vec Ideal S1x1024 .f32) (i : Fin 8) (h : Fin 8) (e : Fin 128) : EReal :=
  gatedRow (fun e => spokenAll s ct v (ix2 i (wide h e))) (g (ix2 i (wide h e))) (w (ix2 0 (wide h e))) e

/-- The same as one array. -/
def shownAll (s : Vec Ideal S1x8x8x128x128 .f32) (ct : Vec Ideal S1x2048x8 .f32) (v g : Vec Ideal S8x1024 .f32) (w : Vec Ideal S1x1024 .f32) : Vec Ideal S8x1024 .f32 :=
  fun y => shown s ct v g w (y 0) (headOf (y 1)) (laneOf (y 1))

theorem shownAll_at (s : Vec Ideal S1x8x8x128x128 .f32) (ct : Vec Ideal S1x2048x8 .f32) (v g : Vec Ideal S8x1024 .f32) (w : Vec Ideal S1x1024 .f32) (i : Fin 8) (h : Fin 8) (e : Fin 128) :
    shownAll s ct v g w (ix2 i (wide h e)) = shown s ct v g w i h e := by
  change shown s ct v g w i (headOf (wide h e)) (laneOf (wide h e)) = _
  rw [headOf_wide, laneOf_wide]

/-- Where a head's piece of the output block and where a token's and a head's piece of the scratch rows lie. -/
theorem tile_spot (o : ℕ) (inb) (x0 : Fin 8) (x1 : Fin 128) (ho : o / 128 < 8) (hr : o % 128 = 0) :
    (Rect.unit (s := S8x1024) ![0, o] ![8, 128] inb).emb (ix2 x0 x1) = ix2 x0 (wide ⟨o / 128, ho⟩ x1) := by
  have e : o / 128 * 128 = o := by omega
  funext k
  apply Fin.ext
  rw [Rect.emb_apply]
  fin_cases k <;> simp [ix2, wide, e]
theorem row_spot (a o : ℕ) (inb) (x0 : Fin 1) (x1 : Fin 128) (ha : a < 8) (ho : o / 128 < 8) (hr : o % 128 = 0) :
    (Rect.unit (s := S8x1024) ![a, o] ![1, 128] inb).emb (ix2 x0 x1) = ix2 ⟨a, ha⟩ (wide ⟨o / 128, ho⟩ x1) := by
  have e : o / 128 * 128 = o := by omega
  funext k
  apply Fin.ext
  rw [Rect.emb_apply]
  fin_cases k <;> simp [ix2, wide, e]

set_option maxHeartbeats 8000000 in
/-- The output's block after a grid point. -/
theorem y_block (c : Dev nD) (i : grid0.Coords) (arg2 : Memref sig .tc .vmem S1x8x8x128x128 .f32) (harg2 : arg2.IsWhole) (arg4 : Memref sig .tc .vmem S1x2048x8 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S1x8x8x128x128 .f32) (harg9 : arg9.IsWhole) (arg10 : Memref sig .tc .vmem S8x1024 .f32) (harg10 : arg10.IsWhole)
    (x0 : Vec Ideal S1x8x8x128x128 .f32) (x1 : Vec Ideal S1x2048x8 .f32) (x2 : Vec Ideal S8x1024 .f32) (x3 : Vec Ideal S8x1024 .f32) (x4 : Vec Ideal S1x1024 .f32) (y : S8x1024.Idx) :
    out0_A_5 (F := Ideal) c i arg2 harg2 arg4 harg4 arg5 harg5 arg6 harg6 arg7 harg7 arg8 harg8 arg9 harg9 arg10 harg10 x0 x1 x2 x3 x4 y = shownAll x0 x1 x2 x3 x4 y := by
  frame_open
  frame_out
  simp only [read_held]
  rw [held_eq (spokenAll x0 x1 x2)]
  rotate_left
  · repeat' apply And.intro
    all_goals first
      | exact trivial
      | (intro x
         idx_vars x
         unfold_payloads
         pointwise
         rw [row_spot _ _ _ _ _ (by decide) (by decide) (by decide), spokenAll_at]
         first
           | rfl
           | (simp only [spoken, moved, qlane, klane, wide]; simp; rfl)
           | (simp only [spoken, moved, qlane, klane, wide]; simp))
  · exact fun y => View.cover_of_tiledL (s := S8x1024) _ S1x128.size (by sl_kernel_rfl) y
  refine View.canon_apply_of_pieces (Val := Elt Ideal) (e := .f32) (shownAll x0 x1 x2 x3 x4) _ (View.PiecesOf.mem ?_) y ?_
  swap
  · exact View.cover_of_tiledL (s := S8x1024) _ S8x128.size (by sl_kernel_rfl) y
  repeat' apply And.intro
  all_goals first
    | exact trivial
    | (intro x
       idx_vars x
       unfold_payloads
       pointwise
       rw [tile_spot _ _ _ _ (by decide) (by decide), shownAll_at]
       first
         | (simp only [shown, gatedRow, wide, zero_sub]; done)
         | (simp only [shown, gatedRow, wide, zero_sub]; simp; done)
         | (simp only [shown, gatedRow, wide, zero_sub]; rfl))

end Cert.HgDec

end
-- ==== Proof.HgDec.Kernel.lean ====
/- The gated recurrence's decoding step: what the kernel leaves (hand-written, untrusted). -/
module

public import proofs.«01_k».proof.Proof.HgDec.BlockOut
public import Idealize.ShloMosaic.Lib.StableHlo.ReadAt

@[expose] public section

set_option maxRecDepth 16384

noncomputable section

namespace Cert.HgDec

open Idealize.ShloMosaic

/-- A token's state after its step, of the states before, the queries and forget gates, and the projection. -/
def stepped (s : (⟨5, ![2, 128, 8, 128, 128]⟩ : Shape).Idx → EReal) (q : (⟨2, ![128, 2048]⟩ : Shape).Idx → EReal)
    (p : (⟨2, ![128, 13312]⟩ : Shape).Idx → EReal) (b : Fin 128) (h : Fin 8) (d : Fin 128) (e : Fin 128) : EReal :=
  q (ix2 b (klane h d)) * s (ix5 1 b h d e) + (1 - q (ix2 b (klane h d))) * p (ix2 b ⟨5120 + (wide h e).val, by have := (wide h e).isLt; omega⟩)

/-- What a token's query reads off it. -/
def recalled (s : (⟨5, ![2, 128, 8, 128, 128]⟩ : Shape).Idx → EReal) (q : (⟨2, ![128, 2048]⟩ : Shape).Idx → EReal)
    (p : (⟨2, ![128, 13312]⟩ : Shape).Idx → EReal) (b : Fin 128) (h : Fin 8) (e : Fin 128) : EReal :=
  ∑ d : Fin 128, q (ix2 b (qlane h d)) * stepped s q p b h d e

/-- The step's output. -/
def output (s : (⟨5, ![2, 128, 8, 128, 128]⟩ : Shape).Idx → EReal) (q : (⟨2, ![128, 2048]⟩ : Shape).Idx → EReal)
    (p : (⟨2, ![128, 13312]⟩ : Shape).Idx → EReal) (w : (⟨2, ![1, 1024]⟩ : Shape).Idx → EReal) (b : Fin 128) (h : Fin 8) (e : Fin 128) : EReal :=
  gatedRow (recalled s q p b h) (p (ix2 b ⟨6144 + (wide h e).val, by have := (wide h e).isLt; omega⟩)) (w (ix2 0 (wide h e))) e

/-- The states of both layers: the first as they came, the second a step further. -/
def states (s n : (⟨5, ![2, 128, 8, 128, 128]⟩ : Shape).Idx → EReal) (q : (⟨2, ![128, 2048]⟩ : Shape).Idx → EReal)
    (p : (⟨2, ![128, 13312]⟩ : Shape).Idx → EReal) (l : Fin 2) (b : Fin 128) (h : Fin 8) (d : Fin 128) (e : Fin 128) : EReal :=
  if l.val = 0 then n (ix5 0 b h d e) else stepped s q p b h d e

theorem wide_split (j : Fin 1024) : wide (headOf j) (laneOf j) = j := by
  apply Fin.ext; simp only [headOf, laneOf, wide]; omega

namespace Kernel

open Idealize.ShloMosaic.TcCoe Idealize.SL.Sem
open Cert.Kernel6Ideal Cert.Kernel6Ideal.Gen Cert.Kernel6Ideal.Value

set_option maxHeartbeats 1000000 in
/-- Which block each window holds at each point. -/
theorem place : ∀ t : Fin cfg0.N, win0_0.index t = ![1, t.val, 0, 0, 0] ∧ win0_1.index t = ![t.val, 0, 0] ∧ win0_2.index t = ![t.val, 5]
    ∧ win0_3.index t = ![t.val, 6] ∧ win0_4.index t = ![0, 0] ∧ win0_5.index t = ![t.val, 0] ∧ win0_6.index t = ![1, t.val, 0, 0, 0] := by
  decide +kernel

variable (m : (ℓ : Loc nD τ sig) → Buf (Elt Ideal) ℓ) (c : Dev nD)

theorem lt16 (t : Fin cfg0.N) : t.val < 16 := lt_of_lt_of_eq t.isLt N_0

/-- The token that a point's block row is. -/
def token (t : Fin cfg0.N) (i : Fin 8) : Fin 128 := ⟨t.val * 8 + i.val, by have := lt16 t; omega⟩

theorem read0 (t : Fin cfg0.N) (i : Fin 8) (h : Fin 8) (d : Fin 128) (e : Fin 128) :
    (iblk m c 0 t : Vec Ideal S1x8x8x128x128 .f32) (ix5 0 i h d e) = m ((c : Thread nD τ).loc main_arg0) (ix5 1 (token t i) h d e) := by
  have e := place t
  blk_ext [iblk, V_main_arg0, e, token]
theorem read2 (t : Fin cfg0.N) (i : Fin 8) (k : Fin 1024) : (iblk m c 2 t : Vec Ideal S8x1024 .f32) (ix2 i k)
    = m ((c : Thread nD τ).loc main_arg3) (ix2 (token t i) ⟨5120 + k.val, by omega⟩) := by
  have e := place t
  blk_ext [iblk, V_main_arg3, e, token]
theorem read3 (t : Fin cfg0.N) (i : Fin 8) (k : Fin 1024) : (iblk m c 3 t : Vec Ideal S8x1024 .f32) (ix2 i k)
    = m ((c : Thread nD τ).loc main_arg3) (ix2 (token t i) ⟨6144 + k.val, by omega⟩) := by
  have e := place t
  blk_ext [iblk, V_main_arg3, e, token]
theorem read4 (t : Fin cfg0.N) (k : Fin 1024) : (iblk m c 4 t : Vec Ideal S1x1024 .f32) (ix2 0 k)
    = m ((c : Thread nD τ).loc main_arg4) (ix2 0 k) := by
  have e := place t
  blk_ext [iblk, V_main_arg4, e]

theorem host1 (t : Fin 16) (k : Fin 2048) (i : Fin 8) : (V m c main_v1 : Vec Ideal S16x2048x8 .f32) (ix3 t k i)
    = m ((c : Thread nD τ).loc main_arg2) (ix2 ⟨t.val * 8 + i.val, by omega⟩ k) := by
  simp only [V, List.flatten_cons, List.flatten_nil, List.append_nil, List.cons_append, List.nil_append]
  after_reads_at
theorem host2 (i : S2x128x8x128x128.Idx) : (V m c main_v2_1 : Vec Ideal S2x128x8x128x128 .f32) i
    = m ((c : Thread nD τ).loc main_arg1) i := by
  simp only [V, List.flatten_cons, List.flatten_nil, List.append_nil, List.cons_append, List.nil_append]
  idx_vars i
  after_reads_at
  rfl

theorem read1 (t : Fin cfg0.N) (k : Fin 2048) (i : Fin 8) : (iblk m c 1 t : Vec Ideal S1x2048x8 .f32) (ix3 0 k i)
    = m ((c : Thread nD τ).loc main_arg2) (ix2 (token t i) k) := by
  refine Eq.trans ?_ (host1 m c ⟨t.val, lt16 t⟩ k i)
  have e := place t
  blk_ext [iblk, e]

/-- What the kernel's arguments give: the moved states, the rows read off them, and the output. -/
def next := stepped (m ((c : Thread nD τ).loc main_arg0)) (m ((c : Thread nD τ).loc main_arg2)) (m ((c : Thread nD τ).loc main_arg3))
def result := output (m ((c : Thread nD τ).loc main_arg0)) (m ((c : Thread nD τ).loc main_arg2)) (m ((c : Thread nD τ).loc main_arg3))
  (m ((c : Thread nD τ).loc main_arg4))
def both := states (m ((c : Thread nD τ).loc main_arg0)) (m ((c : Thread nD τ).loc main_arg1)) (m ((c : Thread nD τ).loc main_arg2))
  (m ((c : Thread nD τ).loc main_arg3))

/-- A block's moved state is the token's. -/
theorem moved_eq (t : Fin cfg0.N) (i : Fin 8) (h : Fin 8) (d : Fin 128) (e : Fin 128) :
    moved (iblk m c 0 t) (iblk m c 1 t) (iblk m c 2 t) i h d e = next m c (token t i) h d e := by
  unfold moved next stepped
  rw [read0, read1, read2]

/-- A block's output is the token's. -/
theorem shown_eq (t : Fin cfg0.N) (i : Fin 8) (h : Fin 8) (e : Fin 128) :
    shown (iblk m c 0 t) (iblk m c 1 t) (iblk m c 2 t) (iblk m c 3 t) (iblk m c 4 t) i h e = result m c (token t i) h e := by
  unfold shown result output
  have o : (fun e => spokenAll (iblk m c 0 t) (iblk m c 1 t) (iblk m c 2 t) (ix2 i (wide h e)))
      = recalled (m ((c : Thread nD τ).loc main_arg0)) (m ((c : Thread nD τ).loc main_arg2)) (m ((c : Thread nD τ).loc main_arg3)) (token t i) h := by
    funext e
    rw [spokenAll_at]
    unfold spoken recalled
    refine Finset.sum_congr rfl fun d _ => ?_
    rw [read1, moved_eq]
    rfl
  rw [o, read3, read4]

/-- Where an element of the output's block lies in the array, and of the states' block. -/
theorem out_row (t : Fin cfg0.N) (y : S8x1024.Idx) :
    (((View.whole main_v2_0).slice (win0_5.rect t)).emb y 0).val = t.val * 8 + (y 0).val := by
  have e : win0_5.index t 0 = t.val := congrFun (place t).2.2.2.2.2.1 0
  show win0_5.index t 0 * 8 + 1 * (y 0).val = _
  rw [e, one_mul]
theorem out_column (t : Fin cfg0.N) (y : S8x1024.Idx) :
    (((View.whole main_v2_0).slice (win0_5.rect t)).emb y 1).val = (y 1).val := by
  have e : win0_5.index t 1 = 0 := congrFun (place t).2.2.2.2.2.1 1
  show win0_5.index t 1 * 1024 + 1 * (y 1).val = _
  rw [e, one_mul, zero_mul, zero_add]
theorem state_layer (t : Fin cfg0.N) (y : S1x8x8x128x128.Idx) :
    (((View.whole main_v2_1).slice (win0_6.rect t)).emb y 0).val = 1 := by
  have e : win0_6.index t 0 = 1 := congrFun (place t).2.2.2.2.2.2 0
  have z : (y 0).val = 0 := Nat.lt_one_iff.mp (y 0).isLt
  show win0_6.index t 0 * 1 + 1 * (y 0).val = _
  rw [e, z]
theorem state_at (t : Fin cfg0.N) (i : Fin 8) (h : Fin 8) (d : Fin 128) (e : Fin 128) :
    ((View.whole main_v2_1).slice (win0_6.rect t)).emb (ix5 0 i h d e) = ix5 1 (token t i) h d e := by
  have p := (place t).2.2.2.2.2.2
  funext k
  apply Fin.ext
  fin_cases k
  · exact state_layer t _
  · have e : win0_6.index t 1 = t.val := congrFun p 1
    show win0_6.index t 1 * 8 + 1 * i.val = _
    rw [e, one_mul]; rfl
  · have e : win0_6.index t 2 = 0 := congrFun p 2
    show win0_6.index t 2 * 8 + 1 * h.val = _
    rw [e, one_mul, zero_mul, zero_add]; rfl
  · have e : win0_6.index t 3 = 0 := congrFun p 3
    show win0_6.index t 3 * 128 + 1 * d.val = _
    rw [e, one_mul, zero_mul, zero_add]; rfl
  · have e' : win0_6.index t 4 = 0 := congrFun p 4
    show win0_6.index t 4 * 128 + 1 * e.val = _
    rw [e', one_mul, zero_mul, zero_add]; rfl

set_option maxHeartbeats 1000000 in
/-- The output array after the run. -/
theorem final : (dats m 0 c).arrAt 5 cfg0.N = fun i => result m c (i 0) (headOf (i 1)) (laneOf (i 1)) := by
  refine (dats m 0 c).arrAt_eq_of_covers 5 _ (by decide +kernel) fun t hf y => ?_
  have e := place t
  blk_simp [e]
  rw [after0_5, outsAt0]
  dsimp only
  rw [y_block]
  idx_vars y
  have er : (win0_5.blk t).view.emb (ix2 y0 y1) 0 = token t y0 := Fin.ext (out_row t (ix2 y0 y1))
  have ec : (win0_5.blk t).view.emb (ix2 y0 y1) 1 = y1 := Fin.ext (out_column t (ix2 y0 y1))
  rw [er, ec]
  exact shown_eq m c t y0 (headOf y1) (laneOf y1)

/-- Every point writes its states back. -/
theorem flushes : ∀ t : Fin cfg0.N, (cfg0.win 6).flush t = true := by decide +kernel

set_option maxHeartbeats 1000000 in
/-- The states' array after the run. -/
theorem final' : (dats m 0 c).arrAt 6 cfg0.N = fun i => both m c (i 0) (i 1) (i 2) (i 3) (i 4) := by
  funext i
  idx_vars i
  by_cases hl : i0.val = 0
  · obtain rfl : i0 = 0 := Fin.ext hl
    refine (entry6 m c _ fun t _ hm => ?_).trans ((host2 m c _).trans ?_)
    · obtain ⟨y, -, hy⟩ := Finset.mem_map.mp hm
      have h := (state_layer t y).symm.trans (congrArg Fin.val (congrFun hy 0))
      exact absurd (show (1 : ℕ) = 0 from h) (by decide)
    · unfold both states
      exact (if_pos rfl).symm
  · obtain rfl : i0 = 1 := by apply Fin.ext; show i0.val = 1; omega
    have hN : i1.val / 8 < cfg0.N := by rw [show cfg0.N = 16 from N_0]; omega
    have hi : token ⟨i1.val / 8, hN⟩ ⟨i1.val % 8, by omega⟩ = i1 := by
      apply Fin.ext; simp only [token]; omega
    have b := congrFun (blocks6 m c ⟨i1.val / 8, hN⟩ (flushes _)) (ix5 0 ⟨i1.val % 8, by omega⟩ i2 i3 i4)
    rw [flushed6_A] at b
    have b' : (dats m 0 c).arrAt 6 cfg0.N (((View.whole main_v2_1).slice (win0_6.rect ⟨i1.val / 8, hN⟩)).emb (ix5 0 ⟨i1.val % 8, by omega⟩ i2 i3 i4)) = _ := b
    rw [state_at, hi] at b'
    refine b'.trans ?_
    refine (state_block _ _ _ _ _ _ _ _ _ _ _ _ _ _ _ _ _ _ _ _ _ _ _ _).trans ?_
    refine (moved_eq m c ⟨i1.val / 8, hN⟩ ⟨i1.val % 8, by omega⟩ i2 i3 i4).trans ?_
    rw [hi]
    unfold both states
    exact (if_neg (by decide)).symm

end Kernel

end Cert.HgDec

end
-- ==== Proof.HgDec.Reference.lean ====
/- The gated recurrence's decoding step: the reference's terms (hand-written, untrusted). -/
module

public import proofs.«01_k».proof.Proof.HgDec.Kernel
public import proofs.«01_k».proof.Proof.Gen.Reference6Ideal.Run

@[expose] public section

set_option maxRecDepth 16384

noncomputable section

namespace Cert.HgDec.Reference

open Idealize.ShloMosaic Idealize.SL.Sem Idealize.ShloMosaic.TcCoe
open Cert.Reference6Ideal Cert.Reference6Ideal.Gen Cert.Reference6Ideal.Value

/-- The reference's moved states. -/
def moveTerm (s : FVec Ideal S2x128x8x128x128 .f32) (q : FVec Ideal S128x2048 .f32) (p : FVec Ideal S128x13312 .f32) : FVec Ideal S128x8x128x128 .f32 :=
  (addf (mulf (broadcastInDim S128x8x128x128 ![0, 1, 2, 3] bcast_S128x8x128x1_S128x8x128x128_0_1_2_3 (broadcastInDim S128x8x128x1 ![0, 1, 2] bcast_S128x8x128_S128x8x128x1_0_1_2 (shapeCast _ (extractStridedSlice S128x1024 ![0, 1024] q slices_S128x2048_S128x1024_0_1024) shapeCasts_S128x1024_S128x8x128))) (shapeCast _ (extractStridedSlice S1x128x8x128x128 ![1, 0, 0, 0, 0] s slices_S2x128x8x128x128_S1x128x8x128x128_1_0_0_0_0) shapeCasts_S1x128x8x128x128_S128x8x128x128)) (mulf (broadcastInDim S128x8x128x128 ![0, 1, 2, 3] bcast_S128x8x128x1_S128x8x128x128_0_1_2_3 (broadcastInDim S128x8x128x1 ![0, 1, 2] bcast_S128x8x128_S128x8x128x1_0_1_2 (subf (broadcastInDim S128x8x128 ![] bcast_S_S128x8x128 (constant S_ .f32 0x3F800000#32)) (shapeCast _ (extractStridedSlice S128x1024 ![0, 1024] q slices_S128x2048_S128x1024_0_1024) shapeCasts_S128x1024_S128x8x128)))) (broadcastInDim S128x8x128x128 ![0, 1, 2, 3] bcast_S128x8x1x128_S128x8x128x128_0_1_2_3 (broadcastInDim S128x8x1x128 ![0, 1, 3] bcast_S128x8x128_S128x8x1x128_0_1_3 (shapeCast _ (extractStridedSlice S128x1024 ![0, 5120] p slices_S128x13312_S128x1024_0_5120) shapeCasts_S128x1024_S128x8x128)))))

/-- The rows it reads off them. -/
def recallTerm (q : FVec Ideal S128x2048 .f32) (S : FVec Ideal S128x8x128x128 .f32) : FVec Ideal S128x8x128 .f32 :=
  (Host.dotGeneral dot_S128x8x128_S128x8x128x128_S128x8x128_2_2_n_3_01_01 none (shapeCast _ (extractStridedSlice S128x1024 ![0, 0] q slices_S128x2048_S128x1024_0_0) shapeCasts_S128x1024_S128x8x128) S)

/-- Its output, of those rows. -/
def outTerm (p : FVec Ideal S128x13312 .f32) (w : FVec Ideal S1x1024 .f32) (o : FVec Ideal S128x8x128 .f32) : FVec Ideal S128x1024 .f32 :=
  mulf (shapeCast _ (mulf (mulf (broadcastInDim S128x1x8x128 ![0, 2, 3] bcast_S128x8x128_S128x1x8x128_0_2_3 o) (broadcastInDim S128x1x8x128 ![0, 1, 2, 3] bcast_S128x1x8x1_S128x1x8x128_0_1_2_3 (Host.rsqrt (addf (Host.divf (broadcastInDim S128x1x8x1 ![0, 1, 2] bcast_S128x1x8_S128x1x8x1_0_1_2 (Host.reduceAdd (mulf (broadcastInDim S128x1x8x128 ![0, 2, 3] bcast_S128x8x128_S128x1x8x128_0_2_3 o) (broadcastInDim S128x1x8x128 ![0, 2, 3] bcast_S128x8x128_S128x1x8x128_0_2_3 o)) (constant S_ .f32 0x00000000#32) reducesTo_S128x1x8x128_S128x1x8_d3 h_S_)) (broadcastInDim S128x1x8x1 ![] bcast_S_S128x1x8x1 (constant S_ .f32 0x43000000#32))) (broadcastInDim S128x1x8x1 ![] bcast_S_S128x1x8x1 (constant S_ .f32 0x358637BD#32)))))) (broadcastInDim S128x1x8x128 ![0, 1, 2, 3] bcast_S1x1x8x128_S128x1x8x128_0_1_2_3 (broadcastInDim S1x1x8x128 ![2, 3] bcast_S8x128_S1x1x8x128_2_3 (shapeCast _ w shapeCasts_S1x1024_S8x128)))) shapeCasts_S128x1x8x128_S128x1024) (Host.divf (broadcastInDim S128x1024 ![] bcast_S_S128x1024 (constant S_ .f32 0x3F800000#32)) (addf (broadcastInDim S128x1024 ![] bcast_S_S128x1024 (constant S_ .f32 0x3F800000#32)) (Host.exp (Host.negf (extractStridedSlice S128x1024 ![0, 6144] p slices_S128x13312_S128x1024_0_6144)))))

/-- Its states of both layers. -/
def statesTerm (n : FVec Ideal S2x128x8x128x128 .f32) (S : FVec Ideal S128x8x128x128 .f32) : FVec Ideal S2x128x8x128x128 .f32 :=
  concatenate S2x128x8x128x128 0 [⟨S1x128x8x128x128, (broadcastInDim S1x128x8x128x128 ![1, 2, 3, 4] bcast_S128x8x128x128_S1x128x8x128x128_1_2_3_4 (shapeCast _ (extractStridedSlice S1x128x8x128x128 ![0, 0, 0, 0, 0] n slices_S2x128x8x128x128_S1x128x8x128x128_0_0_0_0_0) shapeCasts_S1x128x8x128x128_S128x8x128x128))⟩, ⟨S1x128x8x128x128, (broadcastInDim S1x128x8x128x128 ![1, 2, 3, 4] bcast_S128x8x128x128_S1x128x8x128x128_1_2_3_4 S)⟩] concatenates_S1x128x8x128x128_S1x128x8x128x128_S2x128x8x128x128_d0

/-- The moved states at an index. -/
theorem move_at (s : FVec Ideal S2x128x8x128x128 .f32) (q : FVec Ideal S128x2048 .f32) (p : FVec Ideal S128x13312 .f32) (b : Fin 128) (h : Fin 8) (d : Fin 128) (e : Fin 128) :
    moveTerm s q p (ix4 b h d e) = stepped s q p b h d e := by
  unfold moveTerm
  pointwise
  unfold stepped klane wide
  simp only [Nat.add_assoc]

/-- The recalled rows at an index. -/
theorem recall_at (q : FVec Ideal S128x2048 .f32) (S : FVec Ideal S128x8x128x128 .f32) (b : Fin 128) (h : Fin 8) (e : Fin 128) :
    recallTerm q S (ix3 b h e) = ∑ d : Fin 128, q (ix2 b (qlane h d)) * S (ix4 b h d e) := by
  unfold recallTerm
  pointwise
  rfl

/-- The output at an index. -/
theorem out_at (p : FVec Ideal S128x13312 .f32) (w : FVec Ideal S1x1024 .f32) (o : FVec Ideal S128x8x128 .f32) (b : Fin 128) (j : Fin 1024) :
    outTerm p w o (ix2 b j) = gatedRow (fun e => o (ix3 b (headOf j) e)) (p (ix2 b ⟨6144 + j.val, by omega⟩)) (w (ix2 0 j)) (laneOf j) := by
  unfold outTerm
  pointwise
  rfl

/-- The states at an index. -/
theorem states_at (n : FVec Ideal S2x128x8x128x128 .f32) (S : FVec Ideal S128x8x128x128 .f32) (l : Fin 2) (b : Fin 128) (h : Fin 8) (d : Fin 128) (e : Fin 128) :
    statesTerm n S (ix5 l b h d e) = if l.val = 0 then n (ix5 0 b h d e) else S (ix4 b h d e) := by
  unfold statesTerm
  pointwise
  simp only [Nat.lt_one_iff, dite_eq_ite]

end Cert.HgDec.Reference

end
-- ==== Proof.HgDec.Equal.lean ====
/- The gated recurrence's decoding step: the runs and the equality (hand-written, untrusted). -/
module

public import proofs.«01_k».proof.Defs
public import proofs.«01_k».proof.Proof.HgDec.Reference
public import proofs.«01_k».proof.Proof.Gen.Kernel6.Frame
public import Idealize.ShloMosaic.Lib.Quiescent

@[expose] public section

set_option maxRecDepth 16384

noncomputable section

namespace Cert.HgDec

open Idealize.ShloMosaic Idealize.SL.Sem

/-- The printed kernel's run: arguments unchanged, every counter back at zero. -/
theorem run_kernel : Cert.quiescent_Kernel6 (hKernel6 := Cert.Kernel6.Gen.facts) := fun m ρ _ => Cert.Kernel6.Gen.frame m ρ

/-- The same of its idealization. -/
theorem run_kernelIdeal : Cert.quiescent_Kernel6Ideal (hKernel6Ideal := Cert.Kernel6Ideal.Gen.facts) :=
  fun m ρ _ => Cert.Kernel6Ideal.Gen.frame m ρ

/-- The reference's run: it declares no semaphore, so it need only keep the arguments. -/
theorem run_referenceIdeal : Cert.quiescent_Reference6Ideal (hReference6Ideal := Cert.Reference6Ideal.Gen.facts) := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

section Terms
open Cert.Reference6Ideal Cert.Reference6Ideal.Gen Cert.Reference6Ideal.Value Idealize.ShloMosaic.TcCoe

variable (m : (ℓ : Loc nD τ sig) → Buf (Elt Ideal) ℓ) (c : Dev nD)

/-- The reference's moved states, as one function. -/
theorem move_eq (s : FVec Ideal S2x128x8x128x128 .f32) (q : FVec Ideal S128x2048 .f32) (p : FVec Ideal S128x13312 .f32) :
    Reference.moveTerm s q p = fun i => stepped s q p (i 0) (i 1) (i 2) (i 3) := by
  funext i
  idx_vars i
  exact Reference.move_at s q p i0 i1 i2 i3

/-- The reference's first result is the output. -/
theorem ref_out (b : Fin 128) (j : Fin 1024) : (res_out0 m c : FVec Ideal S128x1024 .f32) (ix2 b j)
    = output (m ((c : Thread nD τ).loc main_arg0)) (m ((c : Thread nD τ).loc main_arg2)) (m ((c : Thread nD τ).loc main_arg3))
        (m ((c : Thread nD τ).loc main_arg4)) b (headOf j) (laneOf j) := by
  refine (show _ = Reference.outTerm (m ((c : Thread nD τ).loc main_arg3)) (m ((c : Thread nD τ).loc main_arg4))
      (Reference.recallTerm (m ((c : Thread nD τ).loc main_arg2)) (Reference.moveTerm (m ((c : Thread nD τ).loc main_arg0))
        (m ((c : Thread nD τ).loc main_arg2)) (m ((c : Thread nD τ).loc main_arg3)))) (ix2 b j) from rfl).trans ?_
  rw [Reference.out_at]
  simp only [Reference.recall_at, move_eq]
  simp only [output, wide_split]
  rfl

/-- The reference's second result is the states of both layers. -/
theorem ref_states (s n : FVec Ideal S2x128x8x128x128 .f32) (q : FVec Ideal S128x2048 .f32) (p : FVec Ideal S128x13312 .f32) (l : Fin 2) (b : Fin 128) (h : Fin 8) (d : Fin 128) (e : Fin 128) :
    Reference.statesTerm n (Reference.moveTerm s q p) (ix5 l b h d e) = states s n q p l b h d e := by
  rw [Reference.states_at, move_eq]
  rfl

end Terms

set_option maxHeartbeats 1000000 in
/-- Kernel and reference give the same output and the same states. -/
theorem equal : Cert.algebraic_Kernel6Ideal_Reference6Ideal (hKernel6Ideal := Cert.Kernel6Ideal.Gen.facts)
    (hReference6Ideal := Cert.Reference6Ideal.Gen.facts) := by
  intro m ρ m' ρ' _ hargs
  refine ⟨fun c => (Cert.Kernel6Ideal.Gen.dats m 0 c).arrAt 5 Cert.Kernel6Ideal.cfg0.N,
    fun c => (Cert.Kernel6Ideal.Gen.dats m 0 c).arrAt 6 Cert.Kernel6Ideal.cfg0.N, Cert.Kernel6Ideal.Value.run_blocks m ρ, ?_⟩
  refine (θ_run Cert.Reference6Ideal.defs _ _).mono (fun r h c => ?_) (Cert.Reference6Ideal.Value.run (F := Ideal) m' ρ')
  obtain ⟨h0, h1, h⟩ := h c
  obtain ⟨a0, a1, a2, a3, a4⟩ := hargs c
  refine ⟨h0.trans (Eq.trans ?_ (Kernel.final m c).symm), h1.trans (Eq.trans ?_ (Kernel.final' m c).symm), h⟩
  · funext i
    idx_vars i
    refine (ref_out m' c i0 i1).trans ?_
    rw [a0, a2, a3, a4]
    rfl
  · funext i
    idx_vars i
    refine (ref_states _ _ _ _ i0 i1 i2 i3 i4).trans ?_
    rw [a0, a1, a2, a3]
    rfl

end Cert.HgDec

end
-- ==== Proof.FfnDec.Block.lean ====
/- The feed-forward network at the sample's rows: what one grid point leaves (hand-written, untrusted). -/
module

public import proofs.«01_k».proof.Proof.Gen.Kernel7Ideal.Value
public import proofs.«01_k».proof.Proof.Ffn.Kernel
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.FfnDec

open Idealize.ShloMosaic Cert.Ffn

namespace Kernel

open Idealize.ShloMosaic.TcCoe Idealize.SL.Sem
open Cert.Kernel7Ideal Cert.Kernel7Ideal.Gen Cert.Kernel7Ideal.Value

/-- What a tile of 1024 hidden units adds to a row's sum. -/
def part (x : Vec Ideal S128x1024 .bf16) (u d : Vec Ideal S1x1024x1024 .f32) (r : Fin 128) (e : Fin 1024) : EReal :=
  ∑ n : Fin 1024, unit (fun k => x (ix2 r k)) (fun k => u (ix3 0 k n)) * d (ix3 0 n e)

/-- The body's sum: what the scratch held and the tile's part. -/
theorem sum_tile (x : Vec Ideal S128x1024 .bf16) (u d : Vec Ideal S1x1024x1024 .f32) (acc : Vec Ideal S128x1024 .f32) (r : Fin 128) (e : Fin 1024) :
    k0_pay2 x u acc d (ix2 r e) = acc (ix2 r e) + part x u d r e := by
  unfold_payloads
  pointwise
  rfl

/-- The body's zero. -/
theorem zero_tile (r : Fin 128) (e : Fin 1024) : (k0_pay1 : FVec Ideal S128x1024 .f32) (ix2 r e) = 0 := by
  unfold_payloads
  pointwise

/-- The body's result: the residual row with the normed sum added. -/
theorem out_tile (x acc : Vec Ideal S128x1024 .f32) (g : Vec Ideal S1x1024 .f32) (r : Fin 128) (e : Fin 1024) :
    k0_pay3 x acc g (ix2 r e) = x (ix2 r e) + normed (fun k => acc (ix2 r k)) (fun k => g (ix2 0 k)) e := by
  unfold_payloads
  pointwise
  rfl

set_option maxHeartbeats 2000000 in
/-- The scratch after a first tile. -/
theorem scratch_A (c : Dev nD) (i : grid0.Coords) (arg2 : Memref sig .tc .vmem S128x1024 .f32) (harg2 : arg2.IsWhole) (arg3 : Memref sig .tc .vmem S128x1024 .bf16) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (hc0 : cond0_0 i) (hc1 : ¬cond0_1 i)
    (x0 : Vec Ideal S128x1024 .f32) (x1 : Vec Ideal S128x1024 .bf16) (x2 : Vec Ideal S1x1024x1024 .f32) (x3 : Vec Ideal S1x1024x1024 .f32) (x4 : Vec Ideal S1x1024 .f32) (r : Fin 128) (e : Fin 1024) :
    sout0_A_0 (F := Ideal) c i arg2 harg2 arg3 harg3 arg4 harg4 arg5 harg5 arg6 harg6 arg7 harg7 arg8 harg8 hc0 hc1 x0 x1 x2 x3 x4 (ix2 r e) = part x1 x2 x3 r e := by
  frame_open
  simp (disch := decide) only [↓ View.readCov_skip, ↓ View.readCov_cons_toLoadRect, ↓ View.readCov_fill]
  frame_out
  rw [sum_tile, zero_tile, zero_add]

set_option maxHeartbeats 2000000 in
/-- The scratch after a middle tile. -/
theorem scratch_B (c : Dev nD) (i : grid0.Coords) (arg2 : Memref sig .tc .vmem S128x1024 .f32) (harg2 : arg2.IsWhole) (arg3 : Memref sig .tc .vmem S128x1024 .bf16) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (hc0 : ¬cond0_0 i) (hc1 : ¬cond0_1 i)
    (x0 : Vec Ideal S128x1024 .f32) (x1 : Vec Ideal S128x1024 .bf16) (x2 : Vec Ideal S1x1024x1024 .f32) (x3 : Vec Ideal S1x1024x1024 .f32) (x4 : Vec Ideal S1x1024 .f32) (xs0 : Vec Ideal S128x1024 .f32) (r : Fin 128) (e : Fin 1024) :
    sout0_B_0 (F := Ideal) c i arg2 harg2 arg3 harg3 arg4 harg4 arg5 harg5 arg6 harg6 arg7 harg7 arg8 harg8 hc0 hc1 x0 x1 x2 x3 x4 xs0 (ix2 r e) = xs0 (ix2 r e) + part x1 x2 x3 r e := by
  frame_open
  simp (disch := decide) only [↓ View.readCov_skip, ↓ View.readCov_cons_toLoadRect, ↓ View.readCov_fill]
  frame_out
  exact sum_tile x1 x2 x3 xs0 r e

set_option maxHeartbeats 2000000 in
/-- The scratch after a last tile. -/
theorem scratch_C (c : Dev nD) (i : grid0.Coords) (arg2 : Memref sig .tc .vmem S128x1024 .f32) (harg2 : arg2.IsWhole) (arg3 : Memref sig .tc .vmem S128x1024 .bf16) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (hc0 : ¬cond0_0 i) (hc1 : cond0_1 i)
    (x0 : Vec Ideal S128x1024 .f32) (x1 : Vec Ideal S128x1024 .bf16) (x2 : Vec Ideal S1x1024x1024 .f32) (x3 : Vec Ideal S1x1024x1024 .f32) (x4 : Vec Ideal S1x1024 .f32) (xs0 : Vec Ideal S128x1024 .f32) (r : Fin 128) (e : Fin 1024) :
    sout0_C_0 (F := Ideal) c i arg2 harg2 arg3 harg3 arg4 harg4 arg5 harg5 arg6 harg6 arg7 harg7 arg8 harg8 hc0 hc1 x0 x1 x2 x3 x4 xs0 (ix2 r e) = xs0 (ix2 r e) + part x1 x2 x3 r e := by
  frame_open
  simp (disch := decide) only [↓ View.readCov_skip, ↓ View.readCov_cons_toLoadRect, ↓ View.readCov_fill]
  frame_out
  exact sum_tile x1 x2 x3 xs0 r e

set_option maxHeartbeats 2000000 in
/-- The output after a last tile. -/
theorem out_C (c : Dev nD) (i : grid0.Coords) (arg2 : Memref sig .tc .vmem S128x1024 .f32) (harg2 : arg2.IsWhole) (arg3 : Memref sig .tc .vmem S128x1024 .bf16) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (hc0 : ¬cond0_0 i) (hc1 : cond0_1 i)
    (x0 : Vec Ideal S128x1024 .f32) (x1 : Vec Ideal S128x1024 .bf16) (x2 : Vec Ideal S1x1024x1024 .f32) (x3 : Vec Ideal S1x1024x1024 .f32) (x4 : Vec Ideal S1x1024 .f32) (xs0 : Vec Ideal S128x1024 .f32) (r : Fin 128) (e : Fin 1024) :
    out0_C_5 (F := Ideal) c i arg2 harg2 arg3 harg3 arg4 harg4 arg5 harg5 arg6 harg6 arg7 harg7 arg8 harg8 hc0 hc1 x0 x1 x2 x3 x4 xs0 (ix2 r e) = x0 (ix2 r e) + normed (fun k => xs0 (ix2 r k) + part x1 x2 x3 r k) (fun k => x4 (ix2 0 k)) e := by
  frame_open
  simp (disch := decide) only [↓ View.readCov_skip, ↓ View.readCov_cons_toLoadRect, ↓ View.readCov_fill]
  frame_out
  rw [out_tile]
  simp only [sum_tile]

end Kernel

end Cert.FfnDec

end
-- ==== Proof.FfnDec.Kernel.lean ====
/- The feed-forward network at the sample's rows: what the kernel leaves (hand-written, untrusted). -/
module

public import proofs.«01_k».proof.Proof.FfnDec.Block
public import Idealize.ShloMosaic.Lib.StableHlo.ReadAt

@[expose] public section

set_option maxRecDepth 16384

noncomputable section

namespace Cert.FfnDec

open Idealize.ShloMosaic Cert.Ffn

namespace Kernel

open Idealize.ShloMosaic.TcCoe Idealize.SL.Sem
open Cert.Kernel7Ideal Cert.Kernel7Ideal.Gen Cert.Kernel7Ideal.Value

set_option maxHeartbeats 1000000 in
/-- Which block each window holds at each point. -/
theorem place : ∀ t : Fin cfg0.N, win0_0.index t = ![t.val / 4, 0] ∧ win0_1.index t = ![t.val / 4, 0]
    ∧ win0_2.index t = ![1, 0, t.val % 4] ∧ win0_3.index t = ![1, t.val % 4, 0] ∧ win0_4.index t = ![0, 0] := by decide +kernel

variable (m : (ℓ : Loc nD τ sig) → Buf (Elt Ideal) ℓ) (c : Dev nD)

theorem lt4 (t : Fin cfg0.N) : t.val < 4 := lt_of_lt_of_eq t.isLt N_0

/-- The array's row that a point's tile row lies at. -/
def row (t : Fin cfg0.N) (r : Fin 128) : Fin 128 := ⟨t.val / 4 * 128 + r.val, by have := lt4 t; omega⟩

/-- The hidden unit that a tile's unit is, the tiles counted by the grid's second axis. -/
def at_unit (q : ℕ) (n : Fin 1024) : Fin 4096 := ⟨q % 4 * 1024 + n.val, by omega⟩

theorem read0 (t : Fin cfg0.N) (r : Fin 128) (k : Fin 1024) : (iblk m c 0 t : Vec Ideal S128x1024 .f32) (ix2 r k)
    = m ((c : Thread nD τ).loc main_arg0) (ix2 (row t r) k) := by
  have e := place t
  blk_ext [iblk, V_main_arg0, e, row]
theorem read1 (t : Fin cfg0.N) (r : Fin 128) (k : Fin 1024) : (iblk m c 1 t : Vec Ideal S128x1024 .bf16) (ix2 r k)
    = m ((c : Thread nD τ).loc main_arg1) (ix2 (row t r) k) := by
  have e := place t
  blk_ext [iblk, V_main_arg1, e, row]
theorem read2 (t : Fin cfg0.N) (k n : Fin 1024) : (iblk m c 2 t : Vec Ideal S1x1024x1024 .f32) (ix3 0 k n)
    = m ((c : Thread nD τ).loc main_arg3) (ix3 1 k (at_unit t.val n)) := by
  have e := place t
  blk_ext [iblk, V_main_arg3, e, at_unit]
theorem read3 (t : Fin cfg0.N) (n e : Fin 1024) : (iblk m c 3 t : Vec Ideal S1x1024x1024 .f32) (ix3 0 n e)
    = m ((c : Thread nD τ).loc main_arg4) (ix3 1 (at_unit t.val n) e) := by
  have e := place t
  blk_ext [iblk, V_main_arg4, e, at_unit]
theorem host0 (k : Fin 1024) : (V m c main_v0 : Vec Ideal S1x1024 .f32) (ix2 0 k)
    = m ((c : Thread nD τ).loc main_arg2) (ix1 k) := by
  simp only [V, List.flatten_cons, List.flatten_nil, List.append_nil, List.cons_append, List.nil_append]
  after_reads_at
theorem read4 (t : Fin cfg0.N) (k : Fin 1024) : (iblk m c 4 t : Vec Ideal S1x1024 .f32) (ix2 0 k)
    = m ((c : Thread nD τ).loc main_arg2) (ix1 k) := by
  rw [← host0 m c]
  have e := place t
  blk_ext [iblk, e]

/-- What a tile of hidden units adds to an array row's sum. -/
def share (r : Fin 128) (e : Fin 1024) (q : ℕ) : EReal :=
  ∑ n : Fin 1024, Ffn.hidden (m ((c : Thread nD τ).loc main_arg1)) (m ((c : Thread nD τ).loc main_arg3)) r (at_unit q n)
    * m ((c : Thread nD τ).loc main_arg4) (ix3 1 (at_unit q n) e)

/-- A point's part is its tile's share. -/
theorem part_at (t : Fin cfg0.N) (r : Fin 128) (e : Fin 1024) :
    part (iblk m c 1 t) (iblk m c 2 t) (iblk m c 3 t) r e = share m c (row t r) e t.val := by
  unfold part share Ffn.hidden
  refine Finset.sum_congr rfl fun n _ => congrArg₂ (fun a b : EReal => a * b) (congrArg₂ unit (funext fun k => read1 m c t r k)
    (funext fun k => read2 m c t k n)) (read3 m c t n e)

/-- What the scratch holds before a point counts for, nothing at a row block's first tile. -/
def found (t : ℕ) (acc : Vec Ideal S128x1024 .f32 × Vec Ideal S128x1024 .f32) (r : Fin 128) (e : Fin 1024) : EReal :=
  if t % 4 = 0 then 0 else acc.2 (ix2 r e)

set_option maxHeartbeats 2000000 in
/-- The scratch after a point. -/
theorem scratch_of (t : Fin cfg0.N) (acc : Vec Ideal S128x1024 .f32 × Vec Ideal S128x1024 .f32) (r : Fin 128) (e : Fin 1024) :
    (stAt0 m c t.val t.isLt acc).2 (ix2 r e) = found t.val acc r e + share m c (row t r) e t.val := by
  unfold found
  by_cases h0 : t.val % 4 = 0
  · have h1 : ¬t.val % 4 = 3 := by omega
    rw [if_pos h0, zero_add, stAt0_A m c t acc h0 h1]
    dsimp only
    rw [scratch_A, part_at]
  · rw [if_neg h0]
    by_cases h1 : t.val % 4 = 3
    · rw [stAt0_C m c t acc h0 h1]
      dsimp only
      rw [scratch_C, part_at]
    · rw [stAt0_B m c t acc h0 h1]
      dsimp only
      rw [scratch_B, part_at]

/-- An element of the residual stream. -/
def resid (r : Fin 128) (e : Fin 1024) : EReal := m ((c : Thread nD τ).loc main_arg0) (ix2 r e)

/-- The norm's gain. -/
def gain (k : Fin 1024) : EReal := m ((c : Thread nD τ).loc main_arg2) (ix1 k)

set_option maxHeartbeats 2000000 in
/-- The output after a row block's last tile. -/
theorem out_of (t : Fin cfg0.N) (acc : Vec Ideal S128x1024 .f32 × Vec Ideal S128x1024 .f32) (h1 : t.val % 4 = 3) (r : Fin 128) (e : Fin 1024) :
    (stAt0 m c t.val t.isLt acc).1 (ix2 r e) = resid m c (row t r) e
      + normed (fun k => acc.2 (ix2 r k) + share m c (row t r) k t.val) (gain m c) e := by
  have h0 : ¬t.val % 4 = 0 := by omega
  rw [stAt0_C m c t acc h0 h1]
  dsimp only
  rw [out_C]
  exact congrArg₂ (fun a b : EReal => a + b) (read0 m c t r e) (congrArg₂ (fun v w => normed v w e)
    (funext fun k => congrArg (fun a : EReal => acc.2 (ix2 r k) + a) (part_at m c t r k)) (funext fun k => read4 m c t k))

/-- The scratch after a point holds the shares of its row block's tiles so far. -/
theorem scratch_at : ∀ (n : ℕ) (hn : n < cfg0.N) (r : Fin 128) (e : Fin 1024), (outsAt0 m c n hn).2 (ix2 r e)
    = ∑ q ∈ Finset.range (n % 4 + 1), share m c (row ⟨n, hn⟩ r) e q := by
  intro n
  induction n with
  | zero =>
    intro hn r e
    rw [outsAt0_zero m c hn, scratch_of m c ⟨0, hn⟩]
    simp [found]
  | succ k ih =>
    intro hn r e
    have hs : ∀ q : ℕ, share m c (row ⟨k + 1, hn⟩ r) e ((k + 1) % 4) = share m c (row ⟨k + 1, hn⟩ r) e (k + 1) := by
      intro q
      unfold share at_unit
      simp only [Nat.mod_mod]
    rw [outsAt0_succ m c k hn, scratch_of m c ⟨k + 1, hn⟩]
    unfold found
    by_cases h0 : (k + 1) % 4 = 0
    · rw [if_pos h0, ← hs 0, h0, zero_add, zero_add, Finset.sum_range_one]
    · rw [if_neg h0, ih, Finset.sum_range_succ _ ((k + 1) % 4), hs 0]
      have hr : row ⟨k, Nat.lt_of_succ_lt hn⟩ r = row ⟨k + 1, hn⟩ r := by
        apply Fin.ext
        show k / 4 * 128 + r.val = (k + 1) / 4 * 128 + r.val
        omega
      rw [hr, show k % 4 + 1 = (k + 1) % 4 by omega]

/-- The four tiles' shares are the whole sum. -/
theorem shares (r : Fin 128) (e : Fin 1024) : ∑ q ∈ Finset.range 4, share m c r e q
    = summed (m ((c : Thread nD τ).loc main_arg1)) (m ((c : Thread nD τ).loc main_arg3)) (m ((c : Thread nD τ).loc main_arg4)) r e := by
  rw [Finset.sum_range]
  unfold share summed
  refine Fin.sum_mul_add_congr (S := 4) (n := 1024) (L := 4096) fun s n hl => ?_
  have hu : at_unit s.val n = ⟨s.val * 1024 + n.val, hl⟩ := by
    apply Fin.ext
    show s.val % 4 * 1024 + n.val = s.val * 1024 + n.val
    omega
  rw [hu]

/-- The array that the kernel leaves. -/
theorem final (r : Fin 128) (e : Fin 1024) : (G5 m c : FVec Ideal S128x1024 .f32) (ix2 r e)
    = layered (m ((c : Thread nD τ).loc main_arg0)) (m ((c : Thread nD τ).loc main_arg1)) (m ((c : Thread nD τ).loc main_arg2))
        (m ((c : Thread nD τ).loc main_arg3)) (m ((c : Thread nD τ).loc main_arg4)) r e := by
  have hp : pt5Of (ix2 r e) = 4 * (r.val / 128) + 2 + 1 := by
    show 4 * (1 * (r.val / 128 - 0) + 1 * (e.val / 1024 - 0)) + 3 = _
    omega
  have hN : 4 * (r.val / 128) + 2 + 1 < cfg0.N := lt_of_lt_of_eq (by omega) N_0.symm
  have hl : loc5Of (ix2 r e) = ix2 ⟨r.val % 128, Nat.mod_lt _ (by decide)⟩ e := by
    funext a
    apply Fin.ext
    fin_cases a
    · rfl
    · exact Nat.mod_eq_of_lt e.isLt
  have hr : row ⟨4 * (r.val / 128) + 2 + 1, hN⟩ ⟨r.val % 128, Nat.mod_lt _ (by decide)⟩ = r := by
    apply Fin.ext
    show (4 * (r.val / 128) + 2 + 1) / 4 * 128 + r.val % 128 = r.val
    omega
  have hr' : row ⟨4 * (r.val / 128) + 2, Nat.lt_of_succ_lt hN⟩ ⟨r.val % 128, Nat.mod_lt _ (by decide)⟩ = r := by
    apply Fin.ext
    show (4 * (r.val / 128) + 2) / 4 * 128 + r.val % 128 = r.val
    omega
  have h3 : (4 * (r.val / 128) + 2 + 1) % 4 = 3 := by omega
  have h2 : (4 * (r.val / 128) + 2) % 4 + 1 = 3 := by omega
  have hs : ∀ k, share m c r k (4 * (r.val / 128) + 2 + 1) = share m c r k 3 := by
    intro k
    unfold share at_unit
    simp only [h3]
  unfold G5
  rw [dif_pos (by rw [hp]; exact hN), hl, fold0_congr m c _ _ _ (by rw [Nat.zero_add]; exact hN) hp, ← outsAt0_sweep m c _ hN,
    outsAt0_succ m c _ hN, out_of m c ⟨4 * (r.val / 128) + 2 + 1, hN⟩ _ h3]
  unfold layered
  rw [hr]
  refine congrArg (fun v => resid m c r e + normed v (gain m c) e)
    (funext fun k => ?_)
  rw [scratch_at m c, hr', h2, hs, ← shares m c r k, Finset.sum_range_succ _ 3]

end Kernel

end Cert.FfnDec

end
-- ==== Proof.FfnDec.Equal.lean ====
/- The feed-forward network at the sample's rows: the reference, the runs and the equality (hand-written, untrusted). -/
module

public import proofs.«01_k».proof.Defs
public import proofs.«01_k».proof.Proof.FfnDec.Kernel
public import proofs.«01_k».proof.Proof.Gen.Kernel7.Frame
public import proofs.«01_k».proof.Proof.Gen.Reference7Ideal.Run
public import Idealize.ShloMosaic.Lib.Quiescent

@[expose] public section

set_option maxRecDepth 16384

noncomputable section

namespace Cert.FfnDec

open Idealize.ShloMosaic Idealize.SL.Sem Cert.Ffn

/-- The printed kernel's run: arguments unchanged, every counter back at zero. -/
theorem run_kernel : Cert.quiescent_Kernel7 (hKernel7 := Cert.Kernel7.Gen.facts) := fun m ρ _ => Cert.Kernel7.Gen.frame m ρ

/-- The same of its idealization. -/
theorem run_kernelIdeal : Cert.quiescent_Kernel7Ideal (hKernel7Ideal := Cert.Kernel7Ideal.Gen.facts) :=
  fun m ρ _ => Cert.Kernel7Ideal.Gen.frame m ρ

/-- The reference's run: it declares no semaphore, so it need only keep the arguments. -/
theorem run_referenceIdeal : Cert.quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

open Cert.Reference7Ideal Cert.Reference7Ideal.Gen in
set_option maxHeartbeats 1000000 in
/-- The reference's term: the whole products, row by row. -/
theorem layers (s : FVec Ideal S128x1024 .f32) (x : FVec Ideal S128x1024 .bf16) (g : FVec Ideal S1024 .f32)
    (u : FVec Ideal S2x1024x4096 .f32) (d : FVec Ideal S2x4096x1024 .f32) :
    (addf s (mulf (mulf (Host.dotGeneral dot_S128x4096_S4096x1024_S128x1024_1_0_0_1_n_n none (mulf (maximumf (Host.dotGeneral dot_S128x1024_S1024x4096_S128x4096_1_0_0_1_n_n none (extf .f32 x bitsLt_bf16_f32) (shapeCast _ (extractStridedSlice S1x1024x4096 ![1, 0, 0] u slices_S2x1024x4096_S1x1024x4096_1_0_0) shapeCasts_S1x1024x4096_S1024x4096)) (broadcastInDim S128x4096 ![] bcast_S_S128x4096 (constant S_ .f32 0x00000000#32))) (maximumf (Host.dotGeneral dot_S128x1024_S1024x4096_S128x4096_1_0_0_1_n_n none (extf .f32 x bitsLt_bf16_f32) (shapeCast _ (extractStridedSlice S1x1024x4096 ![1, 0, 0] u slices_S2x1024x4096_S1x1024x4096_1_0_0) shapeCasts_S1x1024x4096_S1024x4096)) (broadcastInDim S128x4096 ![] bcast_S_S128x4096 (constant S_ .f32 0x00000000#32)))) (shapeCast _ (extractStridedSlice S1x4096x1024 ![1, 0, 0] d slices_S2x4096x1024_S1x4096x1024_1_0_0) shapeCasts_S1x4096x1024_S4096x1024)) (broadcastInDim S128x1024 ![0, 1] bcast_S128x1_S128x1024_0_1 (Host.rsqrt (addf (Host.divf (broadcastInDim S128x1 ![0] bcast_S128_S128x1_0 (Host.reduceAdd (mulf (Host.dotGeneral dot_S128x4096_S4096x1024_S128x1024_1_0_0_1_n_n none (mulf (maximumf (Host.dotGeneral dot_S128x1024_S1024x4096_S128x4096_1_0_0_1_n_n none (extf .f32 x bitsLt_bf16_f32) (shapeCast _ (extractStridedSlice S1x1024x4096 ![1, 0, 0] u slices_S2x1024x4096_S1x1024x4096_1_0_0) shapeCasts_S1x1024x4096_S1024x4096)) (broadcastInDim S128x4096 ![] bcast_S_S128x4096 (constant S_ .f32 0x00000000#32))) (maximumf (Host.dotGeneral dot_S128x1024_S1024x4096_S128x4096_1_0_0_1_n_n none (extf .f32 x bitsLt_bf16_f32) (shapeCast _ (extractStridedSlice S1x1024x4096 ![1, 0, 0] u slices_S2x1024x4096_S1x1024x4096_1_0_0) shapeCasts_S1x1024x4096_S1024x4096)) (broadcastInDim S128x4096 ![] bcast_S_S128x4096 (constant S_ .f32 0x00000000#32)))) (shapeCast _ (extractStridedSlice S1x4096x1024 ![1, 0, 0] d slices_S2x4096x1024_S1x4096x1024_1_0_0) shapeCasts_S1x4096x1024_S4096x1024)) (Host.dotGeneral dot_S128x4096_S4096x1024_S128x1024_1_0_0_1_n_n none (mulf (maximumf (Host.dotGeneral dot_S128x1024_S1024x4096_S128x4096_1_0_0_1_n_n none (extf .f32 x bitsLt_bf16_f32) (shapeCast _ (extractStridedSlice S1x1024x4096 ![1, 0, 0] u slices_S2x1024x4096_S1x1024x4096_1_0_0) shapeCasts_S1x1024x4096_S1024x4096)) (broadcastInDim S128x4096 ![] bcast_S_S128x4096 (constant S_ .f32 0x00000000#32))) (maximumf (Host.dotGeneral dot_S128x1024_S1024x4096_S128x4096_1_0_0_1_n_n none (extf .f32 x bitsLt_bf16_f32) (shapeCast _ (extractStridedSlice S1x1024x4096 ![1, 0, 0] u slices_S2x1024x4096_S1x1024x4096_1_0_0) shapeCasts_S1x1024x4096_S1024x4096)) (broadcastInDim S128x4096 ![] bcast_S_S128x4096 (constant S_ .f32 0x00000000#32)))) (shapeCast _ (extractStridedSlice S1x4096x1024 ![1, 0, 0] d slices_S2x4096x1024_S1x4096x1024_1_0_0) shapeCasts_S1x4096x1024_S4096x1024))) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 g))) : FVec Ideal S128x1024 .f32)
      = fun i => layered s x g u d (i 0) (i 1) := by
  funext i
  idx_vars i
  pointwise
  rfl

set_option maxHeartbeats 1000000 in
/-- Kernel and reference give the same rows. -/
theorem equal : Cert.algebraic_Kernel7Ideal_Reference7Ideal (hKernel7Ideal := Cert.Kernel7Ideal.Gen.facts)
    (hReference7Ideal := Cert.Reference7Ideal.Gen.facts) := by
  intro m ρ m' ρ' _ hargs
  refine ⟨fun c => Cert.Kernel7Ideal.Value.G5 m c, Cert.Kernel7Ideal.Value.run m ρ, ?_⟩
  refine (θ_run Cert.Reference7Ideal.defs _ _).mono (fun r h c => ?_) (Cert.Reference7Ideal.Value.run (F := Ideal) m' ρ')
  obtain ⟨h0, h⟩ := h c
  obtain ⟨a0, a1, a2, a3, a4⟩ := hargs c
  refine ⟨?_, h⟩
  refine h0.trans ((layers _ _ _ _ _).trans ?_)
  rw [a0, a1, a2, a3, a4]
  funext i
  idx_vars i
  exact (Kernel.final m c i0 i1).symm

end Cert.FfnDec

end
-- ==== Proof.SsdDec.Block.lean ====
/- What one grid point of the state-space decoding step leaves in its states (hand-written, untrusted). -/
module

public import proofs.«01_k».proof.Proof.Gen.Kernel8Ideal.Value
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.SsdDec

open Idealize.ShloMosaic Idealize.ShloMosaic.TcCoe Idealize.SL.Sem
open Cert.Kernel8Ideal Cert.Kernel8Ideal.Gen Cert.Kernel8Ideal.Value

/-- Head `h`'s lane `p` among the 1024, and lane `k` of its group among the 512. -/
def lane (h : Fin 16) (p : Fin 64) : Fin 1024 := ⟨h.val * 64 + p.val, by omega⟩
def glane (h : Fin 16) (k : Fin 128) : Fin 512 := ⟨h.val / 4 * 128 + k.val, by omega⟩

/-- The states that a grid point leaves for its eight tokens. -/
def moved (s : Vec Ideal S1x8x16x64x128 .f32) (b : Vec Ideal S8x512 .f32) (xd : Vec Ideal S1x1024x8 .f32) (dr : Vec Ideal S8x1024 .f32) (i : Fin 8) (h : Fin 16) (p : Fin 64) (k : Fin 128) : EReal :=
  dr (ix2 i (lane h 0)) * s (ix5 0 i h p k) + xd (ix3 0 (lane h p) i) * b (ix2 i (glane h k))

/-- The same as one array. -/
def movedAll (s : Vec Ideal S1x8x16x64x128 .f32) (b : Vec Ideal S8x512 .f32) (xd : Vec Ideal S1x1024x8 .f32) (dr : Vec Ideal S8x1024 .f32) : Vec Ideal S1x8x16x64x128 .f32 :=
  fun y => moved s b xd dr (y 1) (y 2) (y 3) (y 4)

/-- Where a token's and a head's piece of the states' block lies. -/
theorem spot (a b : ℕ) (inb) (x0 x1 x2 : Fin 1) (x3 : Fin 64) (x4 : Fin 128) (ha : a < 8) (hb : b < 16) :
    (Rect.unit (s := S1x8x16x64x128) ![0, a, b, 0, 0] ![1, 1, 1, 64, 128] inb).emb (ix5 x0 x1 x2 x3 x4) = ix5 0 ⟨a, ha⟩ ⟨b, hb⟩ x3 x4 := by
  funext k
  apply Fin.ext
  rw [Rect.emb_apply]
  fin_cases k <;> simp [ix5]

set_option maxHeartbeats 16000000 in
/-- The states' block after a grid point. -/
theorem state_block (c : Dev nD) (i : grid0.Coords) (arg2 : Memref sig .tc .vmem S1x8x16x64x128 .f32) (harg2 : arg2.IsWhole) (arg4 : Memref sig .tc .vmem S8x512 .f32) (harg4 : arg4.IsWhole) (arg5 : Memref sig .tc .vmem S8x512 .f32) (harg5 : arg5.IsWhole) (arg6 : Memref sig .tc .vmem S1x1024x8 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x1024 .f32) (harg12 : arg12.IsWhole) (arg13 : Memref sig .tc .vmem S1x8x16x64x128 .f32) (harg13 : arg13.IsWhole) (arg14 : Memref sig .tc .vmem S8x1024 .f32) (harg14 : arg14.IsWhole)
    (x0 : Vec Ideal S1x8x16x64x128 .f32) (x1 : Vec Ideal S8x512 .f32) (x2 : Vec Ideal S8x512 .f32) (x3 : Vec Ideal S1x1024x8 .f32) (x4 : Vec Ideal S8x1024 .f32) (x5 : Vec Ideal S8x1024 .f32) (x6 : Vec Ideal S8x1024 .f32) (x7 : Vec Ideal S1x1024 .f32) (x8 : Vec Ideal S1x1024 .f32) (y : S1x8x16x64x128.Idx) :
    out0_A_10 (F := Ideal) c i arg2 harg2 arg4 harg4 arg5 harg5 arg6 harg6 arg7 harg7 arg8 harg8 arg9 harg9 arg10 harg10 arg11 harg11 arg12 harg12 arg13 harg13 arg14 harg14 x0 x1 x2 x3 x4 x5 x6 x7 x8 y = movedAll x0 x2 x3 x4 y := by
  frame_open
  simp (disch := decide) only [↓ View.readCov_skip, ↓ View.readCov_cons_toLoadRect, ↓ View.readCov_fill]
  frame_out
  refine View.canon_apply_of_pieces (movedAll x0 x2 x3 x4) _ (View.PiecesOf.mem ?_) y ?_
  swap
  · exact View.cover_of_tiledL (s := S1x8x16x64x128) _ S1x1x1x64x128.size (by sl_kernel_rfl) y
  repeat' apply And.intro
  all_goals first
    | exact trivial
    | (intro x
       idx_vars x
       unfold_payloads
       pointwise
       rw [spot _ _ _ _ _ _ _ _ (by decide) (by decide)]
       first
         | rfl
         | (simp only [movedAll, moved, lane, glane]; simp; rfl)
         | (simp only [movedAll, moved, lane, glane]; simp))

end Cert.SsdDec

end
-- ==== Proof.SsdDec.BlockOut.lean ====
/- What one grid point of the state-space decoding step leaves in its output (hand-written, untrusted). -/
module

public import proofs.«01_k».proof.Proof.Gen.Kernel8Ideal.Value
public import proofs.«01_k».proof.Proof.SsdDec.Block
public import proofs.«01_k».proof.Proof.Held
public import proofs.«01_k».proof.Proof.Norm
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.SsdDec

open Idealize.ShloMosaic Idealize.ShloMosaic.TcCoe Idealize.SL.Sem
open Cert.Kernel8Ideal Cert.Kernel8Ideal.Gen Cert.Kernel8Ideal.Value

/-- A token's query against its moved state. -/
def spoken (s : Vec Ideal S1x8x16x64x128 .f32) (q b : Vec Ideal S8x512 .f32) (xd : Vec Ideal S1x1024x8 .f32) (dr : Vec Ideal S8x1024 .f32) (i : Fin 8) (h : Fin 16) (p : Fin 64) : EReal :=
  ∑ k : Fin 128, q (ix2 i (glane h k)) * moved s b xd dr i h p k

/-- The head of a lane among the 1024, and the lane within it. -/
def headOf (j : Fin 1024) : Fin 16 := ⟨j.val / 64, by omega⟩
def laneOf (j : Fin 1024) : Fin 64 := ⟨j.val % 64, by omega⟩

/-- The same as one array. -/
def spokenAll (s : Vec Ideal S1x8x16x64x128 .f32) (q b : Vec Ideal S8x512 .f32) (xd : Vec Ideal S1x1024x8 .f32) (dr : Vec Ideal S8x1024 .f32) : Vec Ideal S8x1024 .f32 :=
  fun y => spoken s q b xd dr (y 0) (headOf (y 1)) (laneOf (y 1))

theorem spokenAll_at (s : Vec Ideal S1x8x16x64x128 .f32) (q b : Vec Ideal S8x512 .f32) (xd : Vec Ideal S1x1024x8 .f32) (dr : Vec Ideal S8x1024 .f32) (i : Fin 8) (j : Fin 1024) :
    spokenAll s q b xd dr (ix2 i j) = ∑ k : Fin 128, q (ix2 i (glane (headOf j) k)) * moved s b xd dr i (headOf j) (laneOf j) k := rfl

/-- A term of a token's product, with its places named: the group's, the head's and the lane's are those of lane `j`. -/
theorem term_at (s : Vec Ideal S1x8x16x64x128 .f32) (q b : Vec Ideal S8x512 .f32) (xd : Vec Ideal S1x1024x8 .f32) (dr : Vec Ideal S8x1024 .f32) (i : Fin 8) (j : Fin 1024) (k : Fin 128) (a l : Fin 1024)
    (g g' : Fin 512) (h : Fin 16) (p : Fin 64) (hg : g.val = j.val / 256 * 128 + k.val) (hg' : g'.val = j.val / 256 * 128 + k.val)
    (ha : a.val = j.val / 64 * 64) (hh : h.val = j.val / 64) (hp : p.val = j.val % 64) (hl : l.val = j.val) :
    q (ix2 i g) * (dr (ix2 i a) * s (ix5 0 i h p k) + xd (ix3 0 l i) * b (ix2 i g'))
      = q (ix2 i (glane (headOf j) k)) * moved s b xd dr i (headOf j) (laneOf j) k := by
  have e1 : g = glane (headOf j) k := by apply Fin.ext; simp only [glane, headOf]; omega
  have e2 : g' = glane (headOf j) k := by apply Fin.ext; simp only [glane, headOf]; omega
  have e3 : a = lane (headOf j) 0 := by apply Fin.ext; simp only [lane, headOf]; omega
  have e4 : h = headOf j := Fin.ext hh
  have e5 : p = laneOf j := Fin.ext hp
  have e6 : l = lane (headOf j) (laneOf j) := by apply Fin.ext; simp only [lane, headOf, laneOf]; omega
  rw [e1, e2, e3, e4, e5, e6]
  rfl

/-- Where a token's and a group's piece of the scratch rows lies. -/
theorem row_spot (a o : ℕ) (inb) (x0 : Fin 1) (x1 : Fin 256) (ha : a < 8) (ho : o + 256 ≤ 1024) :
    (Rect.unit (s := S8x1024) ![a, o] ![1, 256] inb).emb (ix2 x0 x1) = ix2 ⟨a, ha⟩ ⟨o + x1.val, by omega⟩ := by
  funext k
  apply Fin.ext
  rw [Rect.emb_apply]
  fin_cases k <;> simp [ix2]

/-- The output of a token: the rows read off the states, the skipped input added, gated and normed. -/
def shown (s : Vec Ideal S1x8x16x64x128 .f32) (q b : Vec Ideal S8x512 .f32) (xd : Vec Ideal S1x1024x8 .f32) (dr : Vec Ideal S8x1024 .f32) (x z : Vec Ideal S8x1024 .f32) (d w : Vec Ideal S1x1024 .f32) (i : Fin 8) (j : Fin 1024) : EReal :=
  normed (fun j => (spokenAll s q b xd dr (ix2 i j) + d (ix2 0 j) * x (ix2 i j)) * (z (ix2 i j) * Ideal.div 1 (1 + Ideal.exp (-z (ix2 i j)))))
    (fun j => w (ix2 0 j)) j

set_option maxHeartbeats 16000000 in
/-- The output's block after a grid point. -/
theorem y_block (c : Dev nD) (i : grid0.Coords) (arg2 : Memref sig .tc .vmem S1x8x16x64x128 .f32) (harg2 : arg2.IsWhole) (arg4 : Memref sig .tc .vmem S8x512 .f32) (harg4 : arg4.IsWhole) (arg5 : Memref sig .tc .vmem S8x512 .f32) (harg5 : arg5.IsWhole) (arg6 : Memref sig .tc .vmem S1x1024x8 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x1024 .f32) (harg12 : arg12.IsWhole) (arg13 : Memref sig .tc .vmem S1x8x16x64x128 .f32) (harg13 : arg13.IsWhole) (arg14 : Memref sig .tc .vmem S8x1024 .f32) (harg14 : arg14.IsWhole)
    (x0 : Vec Ideal S1x8x16x64x128 .f32) (x1 : Vec Ideal S8x512 .f32) (x2 : Vec Ideal S8x512 .f32) (x3 : Vec Ideal S1x1024x8 .f32) (x4 : Vec Ideal S8x1024 .f32) (x5 : Vec Ideal S8x1024 .f32) (x6 : Vec Ideal S8x1024 .f32) (x7 : Vec Ideal S1x1024 .f32) (x8 : Vec Ideal S1x1024 .f32) (y0 : Fin 8) (y1 : Fin 1024) :
    out0_A_9 (F := Ideal) c i arg2 harg2 arg4 harg4 arg5 harg5 arg6 harg6 arg7 harg7 arg8 harg8 arg9 harg9 arg10 harg10 arg11 harg11 arg12 harg12 arg13 harg13 arg14 harg14 x0 x1 x2 x3 x4 x5 x6 x7 x8 (ix2 y0 y1) = shown x0 x1 x2 x3 x4 x5 x6 x7 x8 y0 y1 := by
  frame_open
  frame_out
  simp only [read_held]
  rw [held_eq (spokenAll x0 x1 x2 x3 x4)]
  rotate_left
  · repeat' apply And.intro
    all_goals first
      | exact trivial
      | (intro x
         idx_vars x
         unfold_payloads
         pointwise
         rw [row_spot _ _ _ _ _ (by decide) (by decide)]
         rw [spokenAll_at]
         refine Finset.sum_congr rfl fun k _ => ?_
         split_ifs
         all_goals exact term_at _ _ _ _ _ _ _ _ _ _ _ _ _ _ (by first | omega | (simp; omega) | (simp; done)) (by first | omega | (simp; omega) | (simp; done)) (by first | omega | (simp; omega) | (simp; done)) (by first | omega | (simp; omega) | (simp; done)) (by first | omega | (simp; omega) | (simp; done)) (by first | omega | (simp; omega) | (simp; done)))
  · exact fun y => View.cover_of_tiledL (s := S8x1024) _ S1x256.size (by sl_kernel_rfl) y
  unfold_payloads
  pointwise
  simp only [shown, normed, zero_sub]

end Cert.SsdDec

end
-- ==== Proof.SsdDec.Kernel.lean ====
/- The state-space decoding step: what the kernel leaves (hand-written, untrusted). -/
module

public import proofs.«01_k».proof.Proof.SsdDec.BlockOut
public import Idealize.ShloMosaic.Lib.StableHlo.ReadAt

@[expose] public section

set_option maxRecDepth 16384

noncomputable section

namespace Cert.SsdDec

open Idealize.ShloMosaic

/-- Lane `k` of a head's group among the columns of the input vectors, which follow the 512 columns of the output vectors. -/
def inlane (h : Fin 16) (k : Fin 128) : Fin 1024 := ⟨512 + (glane h k).val, by have := (glane h k).isLt; omega⟩

/-- The same among the columns of the output vectors. -/
def outlane (h : Fin 16) (k : Fin 128) : Fin 1024 := ⟨(glane h k).val, by have := (glane h k).isLt; omega⟩

/-- A token's state after its step, of the states before, the input and output vectors, the scaled inputs and the decays. -/
def stepped (s : (⟨5, ![2, 128, 16, 128, 64]⟩ : Shape).Idx → EReal) (q xd dr : (⟨2, ![128, 1024]⟩ : Shape).Idx → EReal)
    (b : Fin 128) (h : Fin 16) (k : Fin 128) (p : Fin 64) : EReal :=
  dr (ix2 b (lane h 0)) * s (ix5 1 b h k p) + xd (ix2 b (lane h p)) * q (ix2 b (inlane h k))

/-- What a token's output vector reads off it. -/
def recalled (s : (⟨5, ![2, 128, 16, 128, 64]⟩ : Shape).Idx → EReal) (q xd dr : (⟨2, ![128, 1024]⟩ : Shape).Idx → EReal)
    (b : Fin 128) (h : Fin 16) (p : Fin 64) : EReal :=
  ∑ k : Fin 128, q (ix2 b (outlane h k)) * stepped s q xd dr b h k p

/-- A row of what was read, the skipped input added, gated. -/
def gatedRow (o : Fin 16 → Fin 64 → EReal) (x : Fin 1024 → EReal) (z : Fin 1024 → EReal) (d : Fin 16 → EReal) (j : Fin 1024) : EReal :=
  (o (headOf j) (laneOf j) + d (headOf j) * x j) * (z j * Ideal.div 1 (1 + Ideal.exp (-z j)))

/-- The step's output: that row, normed. -/
def output (s : (⟨5, ![2, 128, 16, 128, 64]⟩ : Shape).Idx → EReal) (q xd dr : (⟨2, ![128, 1024]⟩ : Shape).Idx → EReal) (x : (⟨2, ![128, 1024]⟩ : Shape).Idx → EReal)
    (p : (⟨2, ![128, 13312]⟩ : Shape).Idx → EReal) (d : (⟨1, ![16]⟩ : Shape).Idx → EReal) (w : (⟨1, ![1024]⟩ : Shape).Idx → EReal) (b : Fin 128) (j : Fin 1024) : EReal :=
  normed (gatedRow (recalled s q xd dr b) (fun j => x (ix2 b j)) (fun j => p (ix2 b ⟨7168 + j.val, by omega⟩)) (fun h => d (ix1 h)))
    (fun j => w (ix1 j)) j

/-- The states of both layers, lane before state: the first as they came, the second a step further. -/
def states (s n : (⟨5, ![2, 128, 16, 128, 64]⟩ : Shape).Idx → EReal) (q xd dr : (⟨2, ![128, 1024]⟩ : Shape).Idx → EReal)
    (l : Fin 2) (b : Fin 128) (h : Fin 16) (p : Fin 64) (k : Fin 128) : EReal :=
  if l.val = 0 then n (ix5 0 b h k p) else stepped s q xd dr b h k p

namespace Kernel

open Idealize.ShloMosaic.TcCoe Idealize.SL.Sem
open Cert.Kernel8Ideal Cert.Kernel8Ideal.Gen Cert.Kernel8Ideal.Value

set_option maxHeartbeats 1000000 in
/-- Which block each window holds at each point. -/
theorem place : ∀ t : Fin cfg0.N, win0_0.index t = ![1, t.val, 0, 0, 0] ∧ win0_1.index t = ![t.val, 0] ∧ win0_2.index t = ![t.val, 1]
    ∧ win0_3.index t = ![t.val, 0, 0] ∧ win0_4.index t = ![t.val, 0] ∧ win0_5.index t = ![t.val, 0] ∧ win0_6.index t = ![t.val, 7]
    ∧ win0_7.index t = ![0, 0] ∧ win0_8.index t = ![0, 0] := by
  decide +kernel

set_option maxHeartbeats 1000000 in
/-- The same of the results' windows. -/
theorem place_out : ∀ t : Fin cfg0.N, win0_9.index t = ![t.val, 0] ∧ win0_10.index t = ![1, t.val, 0, 0, 0] := by
  decide +kernel

variable (m : (ℓ : Loc nD τ sig) → Buf (Elt Ideal) ℓ) (c : Dev nD)

theorem lt16 (t : Fin cfg0.N) : t.val < 16 := lt_of_lt_of_eq t.isLt N_0

/-- The token that a point's block row is. -/
def token (t : Fin cfg0.N) (i : Fin 8) : Fin 128 := ⟨t.val * 8 + i.val, by have := lt16 t; omega⟩

theorem host0 (l : Fin 2) (b : Fin 128) (h : Fin 16) (p : Fin 64) (k : Fin 128) :
    (V m c main_v3 : Vec Ideal S2x128x16x64x128 .f32) (ix5 l b h p k) = m ((c : Thread nD τ).loc main_arg0) (ix5 l b h k p) := by
  simp only [V, List.flatten_cons, List.flatten_nil, List.append_nil, List.cons_append, List.nil_append]
  after_reads_at
theorem host10 (l : Fin 2) (b : Fin 128) (h : Fin 16) (p : Fin 64) (k : Fin 128) :
    (V m c main_v8_1 : Vec Ideal S2x128x16x64x128 .f32) (ix5 l b h p k) = m ((c : Thread nD τ).loc main_arg1) (ix5 l b h k p) := by
  simp only [V, List.flatten_cons, List.flatten_nil, List.append_nil, List.cons_append, List.nil_append]
  after_reads_at
  rw [id_eq]
  pointwise
theorem host3 (t : Fin 16) (k : Fin 1024) (i : Fin 8) : (V m c main_v7 : Vec Ideal S16x1024x8 .f32) (ix3 t k i)
    = m ((c : Thread nD τ).loc main_arg4) (ix2 ⟨t.val * 8 + i.val, by omega⟩ k) := by
  simp only [V, List.flatten_cons, List.flatten_nil, List.append_nil, List.cons_append, List.nil_append]
  after_reads_at
theorem host7 (j : Fin 1024) : (V m c main_v2 : Vec Ideal S1x1024 .f32) (ix2 0 j)
    = m ((c : Thread nD τ).loc main_arg7) (ix1 (headOf j)) := by
  simp only [V, List.flatten_cons, List.flatten_nil, List.append_nil, List.cons_append, List.nil_append]
  after_reads_at
  rfl
theorem host8 (j : Fin 1024) : (V m c main_v5 : Vec Ideal S1x1024 .f32) (ix2 0 j)
    = m ((c : Thread nD τ).loc main_arg8) (ix1 j) := by
  simp only [V, List.flatten_cons, List.flatten_nil, List.append_nil, List.cons_append, List.nil_append]
  after_reads_at

theorem read0 (t : Fin cfg0.N) (i : Fin 8) (h : Fin 16) (p : Fin 64) (k : Fin 128) :
    (iblk m c 0 t : Vec Ideal S1x8x16x64x128 .f32) (ix5 0 i h p k) = m ((c : Thread nD τ).loc main_arg0) (ix5 1 (token t i) h k p) := by
  refine Eq.trans ?_ (host0 m c 1 (token t i) h p k)
  have e := place t
  blk_ext [iblk, e, token]
theorem read1 (t : Fin cfg0.N) (i : Fin 8) (h : Fin 16) (k : Fin 128) : (iblk m c 1 t : Vec Ideal S8x512 .f32) (ix2 i (glane h k))
    = m ((c : Thread nD τ).loc main_arg2) (ix2 (token t i) (outlane h k)) := by
  have e := place t
  blk_ext [iblk, V_main_arg2, e, token, outlane]
theorem read2 (t : Fin cfg0.N) (i : Fin 8) (h : Fin 16) (k : Fin 128) : (iblk m c 2 t : Vec Ideal S8x512 .f32) (ix2 i (glane h k))
    = m ((c : Thread nD τ).loc main_arg2) (ix2 (token t i) (inlane h k)) := by
  have e := place t
  blk_ext [iblk, V_main_arg2, e, token, inlane]
theorem read3 (t : Fin cfg0.N) (k : Fin 1024) (i : Fin 8) : (iblk m c 3 t : Vec Ideal S1x1024x8 .f32) (ix3 0 k i)
    = m ((c : Thread nD τ).loc main_arg4) (ix2 (token t i) k) := by
  refine Eq.trans ?_ (host3 m c ⟨t.val, lt16 t⟩ k i)
  have e := place t
  blk_ext [iblk, e]
theorem read4 (t : Fin cfg0.N) (i : Fin 8) (k : Fin 1024) : (iblk m c 4 t : Vec Ideal S8x1024 .f32) (ix2 i k)
    = m ((c : Thread nD τ).loc main_arg5) (ix2 (token t i) k) := by
  have e := place t
  blk_ext [iblk, V_main_arg5, e, token]
theorem read5 (t : Fin cfg0.N) (i : Fin 8) (k : Fin 1024) : (iblk m c 5 t : Vec Ideal S8x1024 .f32) (ix2 i k)
    = m ((c : Thread nD τ).loc main_arg3) (ix2 (token t i) k) := by
  have e := place t
  blk_ext [iblk, V_main_arg3, e, token]
theorem read6 (t : Fin cfg0.N) (i : Fin 8) (k : Fin 1024) : (iblk m c 6 t : Vec Ideal S8x1024 .f32) (ix2 i k)
    = m ((c : Thread nD τ).loc main_arg6) (ix2 (token t i) ⟨7168 + k.val, by omega⟩) := by
  have e := place t
  blk_ext [iblk, V_main_arg6, e, token]
theorem read7 (t : Fin cfg0.N) (k : Fin 1024) : (iblk m c 7 t : Vec Ideal S1x1024 .f32) (ix2 0 k)
    = m ((c : Thread nD τ).loc main_arg7) (ix1 (headOf k)) := by
  rw [← host7 m c]
  have e := place t
  blk_ext [iblk, e]
theorem read8 (t : Fin cfg0.N) (k : Fin 1024) : (iblk m c 8 t : Vec Ideal S1x1024 .f32) (ix2 0 k)
    = m ((c : Thread nD τ).loc main_arg8) (ix1 k) := by
  rw [← host8 m c]
  have e := place t
  blk_ext [iblk, e]

/-- What the kernel's arguments give: the moved states, the output, and the states of both layers. -/
def next := stepped (m ((c : Thread nD τ).loc main_arg0)) (m ((c : Thread nD τ).loc main_arg2)) (m ((c : Thread nD τ).loc main_arg4)) (m ((c : Thread nD τ).loc main_arg5))
def result := output (m ((c : Thread nD τ).loc main_arg0)) (m ((c : Thread nD τ).loc main_arg2)) (m ((c : Thread nD τ).loc main_arg4)) (m ((c : Thread nD τ).loc main_arg5))
  (m ((c : Thread nD τ).loc main_arg3)) (m ((c : Thread nD τ).loc main_arg6)) (m ((c : Thread nD τ).loc main_arg7)) (m ((c : Thread nD τ).loc main_arg8))
def both := states (m ((c : Thread nD τ).loc main_arg0)) (m ((c : Thread nD τ).loc main_arg1)) (m ((c : Thread nD τ).loc main_arg2)) (m ((c : Thread nD τ).loc main_arg4)) (m ((c : Thread nD τ).loc main_arg5))

/-- A block's moved state is the token's. -/
theorem moved_eq (t : Fin cfg0.N) (i : Fin 8) (h : Fin 16) (p : Fin 64) (k : Fin 128) :
    moved (iblk m c 0 t) (iblk m c 2 t) (iblk m c 3 t) (iblk m c 4 t) i h p k = next m c (token t i) h k p := by
  unfold moved next stepped
  rw [read0, read2, read3, read4]

/-- What a block's rows read off is what the token's read off. -/
theorem spoken_eq (t : Fin cfg0.N) (i : Fin 8) (j : Fin 1024) :
    spokenAll (iblk m c 0 t) (iblk m c 1 t) (iblk m c 2 t) (iblk m c 3 t) (iblk m c 4 t) (ix2 i j)
      = recalled (m ((c : Thread nD τ).loc main_arg0)) (m ((c : Thread nD τ).loc main_arg2)) (m ((c : Thread nD τ).loc main_arg4)) (m ((c : Thread nD τ).loc main_arg5)) (token t i) (headOf j) (laneOf j) := by
  change spoken _ _ _ _ _ i (headOf j) (laneOf j) = _
  unfold spoken recalled
  refine Finset.sum_congr rfl fun k _ => ?_
  rw [read1, moved_eq]
  rfl

/-- A block's output is the token's. -/
theorem shown_eq (t : Fin cfg0.N) (i : Fin 8) (j : Fin 1024) :
    shown (iblk m c 0 t) (iblk m c 1 t) (iblk m c 2 t) (iblk m c 3 t) (iblk m c 4 t) (iblk m c 5 t) (iblk m c 6 t) (iblk m c 7 t) (iblk m c 8 t) i j
      = result m c (token t i) j := by
  unfold shown result output
  refine congrArg₂ (fun v w => normed v w j) (funext fun j => ?_) (funext fun j => read8 m c t j)
  unfold gatedRow
  rw [spoken_eq, read5, read6, read7]

/-- Where an element of the output's block lies in the array, and of the states' block. -/
theorem out_row (t : Fin cfg0.N) (y : S8x1024.Idx) :
    (((View.whole main_v8_0).slice (win0_9.rect t)).emb y 0).val = t.val * 8 + (y 0).val := by
  have e : win0_9.index t 0 = t.val := congrFun (place_out t).1 0
  show win0_9.index t 0 * 8 + 1 * (y 0).val = _
  rw [e, one_mul]
theorem out_column (t : Fin cfg0.N) (y : S8x1024.Idx) :
    (((View.whole main_v8_0).slice (win0_9.rect t)).emb y 1).val = (y 1).val := by
  have e : win0_9.index t 1 = 0 := congrFun (place_out t).1 1
  show win0_9.index t 1 * 1024 + 1 * (y 1).val = _
  rw [e, one_mul, zero_mul, zero_add]
theorem state_layer (t : Fin cfg0.N) (y : S1x8x16x64x128.Idx) :
    (((View.whole main_v8_1).slice (win0_10.rect t)).emb y 0).val = 1 := by
  have e : win0_10.index t 0 = 1 := congrFun (place_out t).2 0
  have z : (y 0).val = 0 := Nat.lt_one_iff.mp (y 0).isLt
  show win0_10.index t 0 * 1 + 1 * (y 0).val = _
  rw [e, z]
theorem state_at (t : Fin cfg0.N) (i : Fin 8) (h : Fin 16) (p : Fin 64) (k : Fin 128) :
    ((View.whole main_v8_1).slice (win0_10.rect t)).emb (ix5 0 i h p k) = ix5 1 (token t i) h p k := by
  have q := (place_out t).2
  funext a
  apply Fin.ext
  fin_cases a
  · exact state_layer t _
  · have e : win0_10.index t 1 = t.val := congrFun q 1
    show win0_10.index t 1 * 8 + 1 * i.val = _
    rw [e, one_mul]; rfl
  · have e : win0_10.index t 2 = 0 := congrFun q 2
    show win0_10.index t 2 * 16 + 1 * h.val = _
    rw [e, one_mul, zero_mul, zero_add]; rfl
  · have e : win0_10.index t 3 = 0 := congrFun q 3
    show win0_10.index t 3 * 64 + 1 * p.val = _
    rw [e, one_mul, zero_mul, zero_add]; rfl
  · have e : win0_10.index t 4 = 0 := congrFun q 4
    show win0_10.index t 4 * 128 + 1 * k.val = _
    rw [e, one_mul, zero_mul, zero_add]; rfl

set_option maxHeartbeats 1000000 in
/-- The output array after the run. -/
theorem final : (dats m 0 c).arrAt 9 cfg0.N = fun i => result m c (i 0) (i 1) := by
  refine (dats m 0 c).arrAt_eq_of_covers 9 _ (by decide +kernel) fun t hf y => ?_
  have e := place_out t
  blk_simp [e]
  rw [after0_9, outsAt0]
  dsimp only
  idx_vars y
  rw [y_block]
  have er : (win0_9.blk t).view.emb (ix2 y0 y1) 0 = token t y0 := Fin.ext (out_row t (ix2 y0 y1))
  have ec : (win0_9.blk t).view.emb (ix2 y0 y1) 1 = y1 := Fin.ext (out_column t (ix2 y0 y1))
  rw [er, ec]
  exact shown_eq m c t y0 y1

/-- Every point writes its states back. -/
theorem flushes : ∀ t : Fin cfg0.N, (cfg0.win 10).flush t = true := by decide +kernel

set_option maxHeartbeats 1000000 in
/-- The states' array after the run. -/
theorem final' : (dats m 0 c).arrAt 10 cfg0.N = fun i => both m c (i 0) (i 1) (i 2) (i 3) (i 4) := by
  funext i
  idx_vars i
  by_cases hl : i0.val = 0
  · obtain rfl : i0 = 0 := Fin.ext hl
    refine (entry10 m c _ fun t _ hm => ?_).trans ((host10 m c 0 i1 i2 i3 i4).trans ?_)
    · obtain ⟨y, -, hy⟩ := Finset.mem_map.mp hm
      have h := (state_layer t y).symm.trans (congrArg Fin.val (congrFun hy 0))
      exact absurd (show (1 : ℕ) = 0 from h) (by decide)
    · unfold both states
      exact (if_pos rfl).symm
  · obtain rfl : i0 = 1 := by apply Fin.ext; show i0.val = 1; omega
    have hN : i1.val / 8 < cfg0.N := by rw [show cfg0.N = 16 from N_0]; omega
    have hi : token ⟨i1.val / 8, hN⟩ ⟨i1.val % 8, by omega⟩ = i1 := by
      apply Fin.ext; simp only [token]; omega
    have b := congrFun (blocks10 m c ⟨i1.val / 8, hN⟩ (flushes _)) (ix5 0 ⟨i1.val % 8, by omega⟩ i2 i3 i4)
    rw [flushed10_A] at b
    have b' : (dats m 0 c).arrAt 10 cfg0.N (((View.whole main_v8_1).slice (win0_10.rect ⟨i1.val / 8, hN⟩)).emb (ix5 0 ⟨i1.val % 8, by omega⟩ i2 i3 i4)) = _ := b
    rw [state_at, hi] at b'
    refine b'.trans ?_
    refine (state_block _ _ _ _ _ _ _ _ _ _ _ _ _ _ _ _ _ _ _ _ _ _ _ _ _ _ _ _ _ _ _ _ _ _ _ _).trans ?_
    refine (moved_eq m c ⟨i1.val / 8, hN⟩ ⟨i1.val % 8, by omega⟩ i2 i3 i4).trans ?_
    rw [hi]
    unfold both states
    exact (if_neg (by decide)).symm

end Kernel

end Cert.SsdDec

end
-- ==== Proof.SsdDec.Reference.lean ====
/- The state-space decoding step: the reference's terms (hand-written, untrusted). -/
module

public import proofs.«01_k».proof.Proof.SsdDec.Kernel
public import proofs.«01_k».proof.Proof.Gen.Reference8Ideal.Run

@[expose] public section

set_option maxRecDepth 16384

noncomputable section

namespace Cert.SsdDec.Reference

open Idealize.ShloMosaic Idealize.SL.Sem Idealize.ShloMosaic.TcCoe
open Cert.Reference8Ideal Cert.Reference8Ideal.Gen Cert.Reference8Ideal.Value

/-- The reference's moved states. -/
def moveTerm (s : FVec Ideal S2x128x16x128x64 .f32) (q xd dr : FVec Ideal S128x1024 .f32) : FVec Ideal S128x16x128x64 .f32 :=
  (addf (mulf (broadcastInDim S128x16x128x64 ![0, 1, 2, 3] bcast_S128x16x1x1_S128x16x128x64_0_1_2_3 (broadcastInDim S128x16x1x1 ![0, 1] bcast_S128x16_S128x16x1x1_0_1 (shapeCast _ (extractStridedSlice S128x16x1 ![0, 0, 0] (shapeCast _ dr shapeCasts_S128x1024_S128x16x64) slices_S128x16x64_S128x16x1_0_0_0) shapeCasts_S128x16x1_S128x16))) (shapeCast _ (extractStridedSlice S1x128x16x128x64 ![1, 0, 0, 0, 0] s slices_S2x128x16x128x64_S1x128x16x128x64_1_0_0_0_0) shapeCasts_S1x128x16x128x64_S128x16x128x64)) (mulf (broadcastInDim S128x16x128x64 ![0, 1, 2, 3] bcast_S128x16x128x1_S128x16x128x64_0_1_2_3 (broadcastInDim S128x16x128x1 ![0, 1, 2] bcast_S128x16x128_S128x16x128x1_0_1_2 (shapeCast _ (broadcastInDim S128x4x4x128 ![0, 1, 3] bcast_S128x4x128_S128x4x4x128_0_1_3 (shapeCast _ (extractStridedSlice S128x512 ![0, 512] q slices_S128x1024_S128x512_0_512) shapeCasts_S128x512_S128x4x128)) shapeCasts_S128x4x4x128_S128x16x128))) (broadcastInDim S128x16x128x64 ![0, 1, 2, 3] bcast_S128x16x1x64_S128x16x128x64_0_1_2_3 (broadcastInDim S128x16x1x64 ![0, 1, 3] bcast_S128x16x64_S128x16x1x64_0_1_3 (shapeCast _ xd shapeCasts_S128x1024_S128x16x64)))))

/-- The rows it reads off them. -/
def recallTerm (q : FVec Ideal S128x1024 .f32) (S : FVec Ideal S128x16x128x64 .f32) : FVec Ideal S128x16x64 .f32 :=
  (Host.dotGeneral dot_S128x16x128_S128x16x128x64_S128x16x64_2_2_n_3_01_01 none (shapeCast _ (broadcastInDim S128x4x4x128 ![0, 1, 3] bcast_S128x4x128_S128x4x4x128_0_1_3 (shapeCast _ (extractStridedSlice S128x512 ![0, 0] q slices_S128x1024_S128x512_0_0) shapeCasts_S128x512_S128x4x128)) shapeCasts_S128x4x4x128_S128x16x128) S)

/-- Those rows with the skipped input, gated. -/
def gatedTerm (x : FVec Ideal S128x1024 .f32) (p : FVec Ideal S128x13312 .f32) (d : FVec Ideal S16 .f32) (o : FVec Ideal S128x16x64 .f32) : FVec Ideal S128x1024 .f32 :=
  (mulf (shapeCast _ (addf o (mulf (broadcastInDim S128x16x64 ![0, 1, 2] bcast_S1x16x1_S128x16x64_0_1_2 (broadcastInDim S1x16x1 ![1, 2] bcast_S16x1_S1x16x1_1_2 (broadcastInDim S16x1 ![0] bcast_S16_S16x1_0 d))) (shapeCast _ x shapeCasts_S128x1024_S128x16x64))) shapeCasts_S128x16x64_S128x1024) (mulf (extractStridedSlice S128x1024 ![0, 7168] p slices_S128x13312_S128x1024_0_7168) (Host.divf (broadcastInDim S128x1024 ![] bcast_S_S128x1024 (constant S_ .f32 0x3F800000#32)) (addf (broadcastInDim S128x1024 ![] bcast_S_S128x1024 (constant S_ .f32 0x3F800000#32)) (Host.exp (Host.negf (extractStridedSlice S128x1024 ![0, 7168] p slices_S128x13312_S128x1024_0_7168)))))))

/-- The norm of its rows. -/
def normTerm (w : FVec Ideal S1024 .f32) (v : FVec Ideal S128x1024 .f32) : FVec Ideal S128x1024 .f32 :=
  mulf (mulf v (broadcastInDim S128x1024 ![0, 1] bcast_S128x1_S128x1024_0_1 (Host.rsqrt (addf (Host.divf (broadcastInDim S128x1 ![0] bcast_S128_S128x1_0 (Host.reduceAdd (mulf v v) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 w))

/-- Its states of both layers, lane before state. -/
def statesTerm (n : FVec Ideal S2x128x16x128x64 .f32) (S : FVec Ideal S128x16x128x64 .f32) : FVec Ideal S2x128x16x64x128 .f32 :=
  transpose S2x128x16x64x128 [0, 1, 2, 4, 3] (concatenate S2x128x16x128x64 0 [⟨S1x128x16x128x64, (broadcastInDim S1x128x16x128x64 ![1, 2, 3, 4] bcast_S128x16x128x64_S1x128x16x128x64_1_2_3_4 (shapeCast _ (extractStridedSlice S1x128x16x128x64 ![0, 0, 0, 0, 0] n slices_S2x128x16x128x64_S1x128x16x128x64_0_0_0_0_0) shapeCasts_S1x128x16x128x64_S128x16x128x64))⟩, ⟨S1x128x16x128x64, (broadcastInDim S1x128x16x128x64 ![1, 2, 3, 4] bcast_S128x16x128x64_S1x128x16x128x64_1_2_3_4 S)⟩] concatenates_S1x128x16x128x64_S1x128x16x128x64_S2x128x16x128x64_d0) transposes_S2x128x16x128x64_S2x128x16x64x128_0_1_2_4_3

/-- The moved states at an index. -/
theorem move_at (s : FVec Ideal S2x128x16x128x64 .f32) (q xd dr : FVec Ideal S128x1024 .f32) (b : Fin 128) (h : Fin 16) (k : Fin 128) (p : Fin 64) :
    moveTerm s q xd dr (ix4 b h k p) = stepped s q xd dr b h k p := by
  unfold moveTerm
  pointwise
  unfold stepped
  rw [mul_comm (xd _)]
  first
    | rfl
    | (simp only [lane, inlane, glane, Nat.add_assoc]; done)
    | (simp only [lane, inlane, glane, Nat.add_assoc]; simp; done)
    | (simp only [lane, inlane, glane, Nat.add_assoc]; rfl)

/-- The recalled rows at an index. -/
theorem recall_at (q : FVec Ideal S128x1024 .f32) (S : FVec Ideal S128x16x128x64 .f32) (b : Fin 128) (h : Fin 16) (p : Fin 64) :
    recallTerm q S (ix3 b h p) = ∑ k : Fin 128, q (ix2 b (outlane h k)) * S (ix4 b h k p) := by
  unfold recallTerm
  pointwise
  rfl

/-- The gated rows at an index. -/
theorem gated_at (x : FVec Ideal S128x1024 .f32) (p : FVec Ideal S128x13312 .f32) (d : FVec Ideal S16 .f32) (o : FVec Ideal S128x16x64 .f32) (b : Fin 128) (j : Fin 1024) :
    gatedTerm x p d o (ix2 b j) = gatedRow (fun h p => o (ix3 b h p)) (fun j => x (ix2 b j)) (fun j => p (ix2 b ⟨7168 + j.val, by omega⟩)) (fun h => d (ix1 h)) j := by
  unfold gatedTerm
  pointwise
  unfold gatedRow
  have e : (⟨j.val / 64 * 64 + j.val % 64, by omega⟩ : Fin 1024) = j := Fin.ext (Nat.div_add_mod' _ _)
  first
    | rfl
    | (rw [e]; rfl)
    | (simp only [headOf, laneOf, Nat.div_add_mod', Fin.eta]; done)
    | (simp only [headOf, laneOf, Nat.div_add_mod', Fin.eta]; rfl)

/-- The norm at an index. -/
theorem norm_at (w : FVec Ideal S1024 .f32) (v : FVec Ideal S128x1024 .f32) (b : Fin 128) (j : Fin 1024) :
    normTerm w v (ix2 b j) = normed (fun j => v (ix2 b j)) (fun j => w (ix1 j)) j := by
  unfold normTerm
  pointwise
  rfl

/-- The states at an index. -/
theorem states_at (n : FVec Ideal S2x128x16x128x64 .f32) (S : FVec Ideal S128x16x128x64 .f32) (l : Fin 2) (b : Fin 128) (h : Fin 16) (p : Fin 64) (k : Fin 128) :
    statesTerm n S (ix5 l b h p k) = if l.val = 0 then n (ix5 0 b h k p) else S (ix4 b h k p) := by
  unfold statesTerm
  pointwise
  simp only [Nat.lt_one_iff, dite_eq_ite]

end Cert.SsdDec.Reference

end
-- ==== Proof.SsdDec.Equal.lean ====
/- The state-space decoding step: the runs and the equality (hand-written, untrusted). -/
module

public import proofs.«01_k».proof.Defs
public import proofs.«01_k».proof.Proof.SsdDec.Reference
public import proofs.«01_k».proof.Proof.Gen.Kernel8.Frame
public import Idealize.ShloMosaic.Lib.Quiescent

@[expose] public section

set_option maxRecDepth 16384

noncomputable section

namespace Cert.SsdDec

open Idealize.ShloMosaic Idealize.SL.Sem

/-- The printed kernel's run: arguments unchanged, every counter back at zero. -/
theorem run_kernel : Cert.quiescent_Kernel8 (hKernel8 := Cert.Kernel8.Gen.facts) := fun m ρ _ => Cert.Kernel8.Gen.frame m ρ

/-- The same of its idealization. -/
theorem run_kernelIdeal : Cert.quiescent_Kernel8Ideal (hKernel8Ideal := Cert.Kernel8Ideal.Gen.facts) :=
  fun m ρ _ => Cert.Kernel8Ideal.Gen.frame m ρ

/-- The reference's run: it declares no semaphore, so it need only keep the arguments. -/
theorem run_referenceIdeal : Cert.quiescent_Reference8Ideal (hReference8Ideal := Cert.Reference8Ideal.Gen.facts) := fun m ρ _ =>
  (θ_run Cert.Reference8Ideal.defs _ _).mono
    (fun r h => ⟨fun c => (h c).2.2, Idealize.ShloMosaic.sem_eq_zero_of_no_sems (by decide) r.2⟩)
    (Cert.Reference8Ideal.Value.run (F := Ideal) m ρ)

section Terms
open Cert.Reference8Ideal Cert.Reference8Ideal.Gen Cert.Reference8Ideal.Value Idealize.ShloMosaic.TcCoe

variable (m : (ℓ : Loc nD τ sig) → Buf (Elt Ideal) ℓ) (c : Dev nD)

/-- The reference's moved states, as one function. -/
theorem move_eq (s : FVec Ideal S2x128x16x128x64 .f32) (q xd dr : FVec Ideal S128x1024 .f32) :
    Reference.moveTerm s q xd dr = fun i => stepped s q xd dr (i 0) (i 1) (i 2) (i 3) := by
  funext i
  idx_vars i
  exact Reference.move_at s q xd dr i0 i1 i2 i3

/-- The reference's first result is the output. -/
theorem ref_out (b : Fin 128) (j : Fin 1024) : (res_out0 m c : FVec Ideal S128x1024 .f32) (ix2 b j)
    = output (m ((c : Thread nD τ).loc main_arg0)) (m ((c : Thread nD τ).loc main_arg2)) (m ((c : Thread nD τ).loc main_arg4)) (m ((c : Thread nD τ).loc main_arg5)) (m ((c : Thread nD τ).loc main_arg3)) (m ((c : Thread nD τ).loc main_arg6)) (m ((c : Thread nD τ).loc main_arg7)) (m ((c : Thread nD τ).loc main_arg8)) b j := by
  refine (show _ = Reference.normTerm (m ((c : Thread nD τ).loc main_arg8)) (Reference.gatedTerm (m ((c : Thread nD τ).loc main_arg3)) (m ((c : Thread nD τ).loc main_arg6)) (m ((c : Thread nD τ).loc main_arg7))
      (Reference.recallTerm (m ((c : Thread nD τ).loc main_arg2)) (Reference.moveTerm (m ((c : Thread nD τ).loc main_arg0)) (m ((c : Thread nD τ).loc main_arg2)) (m ((c : Thread nD τ).loc main_arg4)) (m ((c : Thread nD τ).loc main_arg5))))) (ix2 b j) from rfl).trans ?_
  rw [Reference.norm_at]
  simp only [Reference.gated_at, Reference.recall_at, move_eq]
  rfl

/-- The reference's second result is the states of both layers. -/
theorem ref_states (s n : FVec Ideal S2x128x16x128x64 .f32) (q xd dr : FVec Ideal S128x1024 .f32) (l : Fin 2) (b : Fin 128) (h : Fin 16) (p : Fin 64) (k : Fin 128) :
    Reference.statesTerm n (Reference.moveTerm s q xd dr) (ix5 l b h p k) = states s n q xd dr l b h p k := by
  rw [Reference.states_at, move_eq]
  rfl

end Terms

set_option maxHeartbeats 1000000 in
/-- Kernel and reference give the same output and the same states. -/
theorem equal : Cert.algebraic_Kernel8Ideal_Reference8Ideal (hKernel8Ideal := Cert.Kernel8Ideal.Gen.facts)
    (hReference8Ideal := Cert.Reference8Ideal.Gen.facts) := by
  intro m ρ m' ρ' _ hargs
  refine ⟨fun c => (Cert.Kernel8Ideal.Gen.dats m 0 c).arrAt 9 Cert.Kernel8Ideal.cfg0.N,
    fun c => (Cert.Kernel8Ideal.Gen.dats m 0 c).arrAt 10 Cert.Kernel8Ideal.cfg0.N, Cert.Kernel8Ideal.Value.run_blocks m ρ, ?_⟩
  refine (θ_run Cert.Reference8Ideal.defs _ _).mono (fun r h c => ?_) (Cert.Reference8Ideal.Value.run (F := Ideal) m' ρ')
  obtain ⟨h0, h1, h⟩ := h c
  obtain ⟨a0, a1, a2, a3, a4, a5, a6, a7, a8⟩ := hargs c
  refine ⟨h0.trans (Eq.trans ?_ (Kernel.final m c).symm), h1.trans (Eq.trans ?_ (Kernel.final' m c).symm), h⟩
  · funext i
    idx_vars i
    refine (ref_out m' c i0 i1).trans ?_
    rw [a0, a2, a3, a4, a5, a6, a7, a8]
    rfl
  · funext i
    idx_vars i
    refine (ref_states _ _ _ _ _ i0 i1 i2 i3 i4).trans ?_
    rw [a0, a1, a2, a4, a5]
    rfl

end Cert.SsdDec

end
-- ==== Proof.Prep.Block.lean ====
/- What the decoding step's preparation leaves, read off its blocks (hand-written, untrusted). -/
module

public import proofs.«01_k».proof.Proof.Gen.Kernel9Ideal.Value
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Prep

open Idealize.ShloMosaic

/-- The sigmoid-weighted linear unit. -/
def silu (x : EReal) : EReal := x * Ideal.div 1 (1 + Ideal.exp (-x))

/-- The forget gate of a logit above its lower bound, clipped. -/
def forget (bound x : EReal) : EReal :=
  min 1 (max (Ideal.ofBits .f32 0x358637BD#32) (bound + (1 - bound) * Ideal.div 1 (1 + Ideal.exp (-x))))

/-- The causal convolution's value at a channel: the three kept inputs and the new one, weighted, with the bias. -/
def convolved (kept : Fin 3 → EReal) (u : EReal) (w : Fin 4 → EReal) (bias : EReal) : EReal :=
  bias + w 3 * u + w 0 * kept 0 + w 1 * kept 1 + w 2 * kept 2

/-- The inputs kept for the next token. -/
def shifted (kept : Fin 3 → EReal) (u : EReal) : Fin 3 → EReal := ![kept 1, kept 2, u]

/-- A column of the eight heads turned: the lane times the first table, plus the lane half a head away times the second. -/
def turned (x : Fin 1024 → EReal) (a b : Fin 8 → Fin 128 → EReal) (j : Fin 1024) : EReal :=
  x j * a ⟨j.val / 128, by omega⟩ ⟨j.val % 128, by omega⟩
    + x ⟨j.val / 128 * 128 + (j.val % 128 + 128 - 64) % 128, by omega⟩ * b ⟨j.val / 128, by omega⟩ ⟨j.val % 128, by omega⟩

/-- Lane `d` of head `g`. -/
def lane (g : Fin 8) (d : Fin 128) : Fin 1024 := ⟨g.val * 128 + d.val, by omega⟩

theorem turned_lane (x : Fin 1024 → EReal) (a b : Fin 8 → Fin 128 → EReal) (g : Fin 8) (d : Fin 128) : turned x a b (lane g d)
    = x (lane g d) * a g d + x (lane g ⟨(d.val + 128 - 64) % 128, Nat.mod_lt _ (by decide)⟩) * b g d := by
  have h1 : (g.val * 128 + d.val) / 128 = g.val := by omega
  have h2 : (g.val * 128 + d.val) % 128 = d.val := by omega
  simp only [turned, lane, h1, h2, Fin.eta]

/-- The keys' heads follow the queries'. -/
def ofHead (q k : EReal) (g : Fin 8) : EReal := if g.val < 4 then q else k

namespace Kernel

open Idealize.ShloMosaic.TcCoe Idealize.SL.Sem
open Cert.Kernel9Ideal Cert.Kernel9Ideal.Gen Cert.Kernel9Ideal.Value

/-- Where a piece over the rows lies among the columns. -/
theorem spot {n k : ℕ} (a : ℕ) (inb) (r : Fin 128) (d : Fin k) (h : a + d.val < n) :
    (Rect.unit (s := ⟨2, ![128, n]⟩) ![0, a] ![128, k] inb).emb (ix2 r d) = ix2 r ⟨a + d.val, h⟩ := by
  funext i
  apply Fin.ext
  rw [Rect.emb_apply]
  fin_cases i <;> simp [ix2]

/-- Where a slab of the kept inputs lies. -/
theorem spot3 (a : ℕ) (ha : a < 3) (inb) (x : Fin 1) (b : Fin 128) (j : Fin 2048) :
    (Rect.unit (s := S3x128x2048) ![a, 0, 0] ![1, 128, 2048] inb).emb (ix3 x b j) = ix3 ⟨a, ha⟩ b j := by
  funext i
  apply Fin.ext
  rw [Rect.emb_apply]
  fin_cases i <;> simp [ix3]

section Tiles
variable (x0 : Vec Ideal S128x13312 .f32) (x1 : Vec Ideal S128x1024 .bf16) (x2 : Vec Ideal S128x1024 .f32) (x3 : Vec Ideal S3x128x2048 .f32)
  (x4 x5 x6 x7 : Vec Ideal S128x128 .f32) (x8 : Vec Ideal S1x1024 .f32) (x9 : Vec Ideal S4x2048 .f32) (x10 : Vec Ideal S1x2048 .f32)
  (x11 x12 : Vec Ideal S1x128 .f32) (x13 : Vec Ideal S128x1024 .bf16)

/-- The new input of the convolution. -/
def fresh (b : Fin 128) (j : Fin 2048) : EReal := x0 (ix2 b ⟨8192 + j.val, by omega⟩)

/-- The convolution at a channel. -/
def conv (b : Fin 128) (j : Fin 2048) : EReal :=
  convolved (fun s => x3 (ix3 s b j)) (fresh x0 b j) (fun s => x9 (ix2 s j)) (x10 (ix2 0 j))

theorem conv_tile (b : Fin 128) (j : Fin 2048) :
    k0_pay33 x0 x1 x2 x3 x4 x5 x6 x7 x8 x9 x10 x11 x12 x13 (ix2 b j) = conv x0 x3 x9 x10 b j := by
  unfold_payloads
  pointwise
  rfl

/-- The convolution after its activation. -/
theorem silu_tile (b : Fin 128) (j : Fin 2048) :
    k0_pay23 (k0_pay33 x0 x1 x2 x3 x4 x5 x6 x7 x8 x9 x10 x11 x12 x13) (ix2 b j) = silu (conv x0 x3 x9 x10 b j) := by
  rw [← conv_tile x0 x1 x2 x3 x4 x5 x6 x7 x8 x9 x10 x11 x12 x13]
  generalize k0_pay33 x0 x1 x2 x3 x4 x5 x6 x7 x8 x9 x10 x11 x12 x13 = v
  unfold k0_pay23
  pointwise
  simp only [silu, zero_sub]

/-- The recurrence's inputs come first among the channels. -/
def first (j : Fin 1024) : Fin 2048 := ⟨j.val, by omega⟩

theorem out_inputs (b : Fin 128) (j : Fin 1024) : out0_17 x0 x1 x2 x3 x4 x5 x6 x7 x8 x9 x10 x11 x12 x13 (ix2 b j)
    = silu (conv x0 x3 x9 x10 b (first j)) := by
  rw [← silu_tile x0 x1 x2 x3 x4 x5 x6 x7 x8 x9 x10 x11 x12 x13]
  unfold out0_17
  generalize k0_pay33 x0 x1 x2 x3 x4 x5 x6 x7 x8 x9 x10 x11 x12 x13 = v
  frame_out
  unfold k0_pay24
  pointwise
  rfl

/-- The recurrence's two projections, the second group's channels first. -/
def swapped (j : Fin 1024) : Fin 2048 := if h : j.val < 512 then ⟨1536 + j.val, by omega⟩ else ⟨1024 + (j.val - 512), by omega⟩

/-- Those channels of a row of channels. -/
def pairAll (v : Vec Ideal S128x2048 .f32) : Vec Ideal S128x1024 .f32 := fun y => k0_pay23 (F := Ideal) v (ix2 (y 0) (swapped (y 1)))

theorem out_pair (y : S128x1024.Idx) : out0_16 x0 x1 x2 x3 x4 x5 x6 x7 x8 x9 x10 x11 x12 x13 y
    = silu (conv x0 x3 x9 x10 (y 0) (swapped (y 1))) := by
  refine Eq.trans ?_ (silu_tile x0 x1 x2 x3 x4 x5 x6 x7 x8 x9 x10 x11 x12 x13 (y 0) (swapped (y 1)))
  unfold out0_16
  generalize k0_pay33 x0 x1 x2 x3 x4 x5 x6 x7 x8 x9 x10 x11 x12 x13 = v
  refine View.canon_apply_of_pieces (pairAll v) _ (View.PiecesOf.mem ?_) y (cover0_16 _ _ y)
  refine ⟨?_, ?_, trivial⟩
  · intro z
    idx_vars z
    rw [spot 512 _ _ _ (by omega)]
    have e : swapped (⟨512 + z1.val, by omega⟩ : Fin 1024) = ⟨1024 + z1.val, by omega⟩ := by
      simp only [swapped]; rw [dif_neg (by omega)]; apply Fin.ext; show 1024 + (512 + z1.val - 512) = 1024 + z1.val; omega
    show _ = k0_pay23 v (ix2 z0 (swapped (⟨512 + z1.val, by omega⟩ : Fin 1024)))
    rw [e]
    unfold k0_pay26
    pointwise
  · intro z
    idx_vars z
    rw [spot 0 _ _ _ (by omega)]
    have e : swapped (⟨0 + z1.val, by omega⟩ : Fin 1024) = ⟨1536 + z1.val, by omega⟩ := by
      simp only [swapped]; rw [dif_pos (by omega)]; apply Fin.ext; show 1536 + (0 + z1.val) = 1536 + z1.val; omega
    show _ = k0_pay23 v (ix2 z0 (swapped (⟨0 + z1.val, by omega⟩ : Fin 1024)))
    rw [e]
    unfold k0_pay25
    pointwise

/-- The gated recurrence's queries and forget gates. -/
def gated (b : Fin 128) (j : Fin 2048) : EReal :=
  if h : j.val < 1024 then silu (x0 (ix2 b ⟨3072 + j.val, by omega⟩))
  else forget (x8 (ix2 0 ⟨j.val - 1024, by omega⟩)) (x0 (ix2 b ⟨3072 + j.val, by omega⟩))

/-- The same as one array. -/
def gatedAll : Vec Ideal S128x2048 .f32 := fun y => gated x0 x8 (y 0) (y 1)

theorem out_gated (y : S128x2048.Idx) : out0_15 x0 x1 x2 x3 x4 x5 x6 x7 x8 x9 x10 x11 x12 x13 y = gated x0 x8 (y 0) (y 1) := by
  unfold out0_15
  refine View.canon_apply_of_pieces (gatedAll x0 x8) _ (View.PiecesOf.mem ?_) y (cover0_15 _ _ y)
  refine ⟨?_, ?_, trivial⟩
  · intro z
    idx_vars z
    rw [spot 1024 _ _ _ (by omega)]
    have e : gated x0 x8 z0 (⟨1024 + z1.val, by omega⟩ : Fin 2048) = forget (x8 (ix2 0 z1)) (x0 (ix2 z0 ⟨4096 + z1.val, by omega⟩)) := by
      have h1 : 1024 + z1.val - 1024 = z1.val := by omega
      have h2 : 3072 + (1024 + z1.val) = 4096 + z1.val := by omega
      simp only [gated]; rw [dif_neg (by omega)]; simp only [h1, h2, Fin.eta]
    refine Eq.trans ?_ e.symm
    unfold_payloads
    pointwise
    simp only [forget, zero_sub]
  · intro z
    idx_vars z
    rw [spot 0 _ _ _ (by omega)]
    have e : gated x0 x8 z0 (⟨0 + z1.val, by omega⟩ : Fin 2048) = silu (x0 (ix2 z0 ⟨3072 + z1.val, by omega⟩)) := by
      simp only [gated]; rw [dif_pos (by omega)]; simp only [zero_add]
    refine Eq.trans ?_ e.symm
    unfold_payloads
    pointwise
    simp only [silu, zero_sub]

/-- The inputs kept for the next token, as one array. -/
def keptAll : Vec Ideal S3x128x2048 .f32 := fun y => shifted (fun s => x3 (ix3 s (y 1) (y 2))) (fresh x0 (y 1) (y 2)) (y 0)

theorem out_kept (y : S3x128x2048.Idx) : out0_20 x0 x1 x2 x3 x4 x5 x6 x7 x8 x9 x10 x11 x12 x13 y
    = shifted (fun s => x3 (ix3 s (y 1) (y 2))) (fresh x0 (y 1) (y 2)) (y 0) := by
  unfold out0_20
  refine View.canon_apply_of_pieces (keptAll x0 x3) _
    (View.PiecesOf.mem ?_) y (cover0_20 _ _ _ y)
  refine ⟨?_, ?_, ?_, trivial⟩
  all_goals
    intro z
    idx_vars z
    rw [spot3 _ (by decide)]
    unfold_payloads
    pointwise
    rfl

/-- The queries' and keys' columns, all eight heads. -/
def columns (b : Fin 128) (j : Fin 1024) : EReal := x0 (ix2 b ⟨j.val, by omega⟩)

/-- The turned queries and keys. -/
def turnedAll : Vec Ideal S128x1024 .f32 := fun y => turned (columns x0 (y 0)) (fun g d => ofHead (x4 (ix2 (y 0) d)) (x6 (ix2 (y 0) d)) g)
  (fun g d => ofHead (x5 (ix2 (y 0) d)) (x7 (ix2 (y 0) d)) g) (y 1)

theorem turned_at (b : Fin 128) (g : Fin 8) (d : Fin 128) : turnedAll x0 x4 x5 x6 x7 (ix2 b (lane g d))
    = columns x0 b (lane g d) * ofHead (x4 (ix2 b d)) (x6 (ix2 b d)) g
      + columns x0 b (lane g ⟨(d.val + 128 - 64) % 128, Nat.mod_lt _ (by decide)⟩) * ofHead (x5 (ix2 b d)) (x7 (ix2 b d)) g :=
  turned_lane _ _ _ g d

theorem out_turned (y : S128x1024.Idx) : out0_14 x0 x1 x2 x3 x4 x5 x6 x7 x8 x9 x10 x11 x12 x13 y
    = turned (columns x0 (y 0)) (fun g d => ofHead (x4 (ix2 (y 0) d)) (x6 (ix2 (y 0) d)) g)
        (fun g d => ofHead (x5 (ix2 (y 0) d)) (x7 (ix2 (y 0) d)) g) (y 1) := by
  unfold out0_14
  refine View.canon_apply_of_pieces (turnedAll x0 x4 x5 x6 x7) _
    (View.PiecesOf.mem ?_) y (cover0_14 _ _ _ _ _ _ _ _ y)
  refine ⟨?_, ?_, ?_, ?_, ?_, ?_, ?_, ?_, trivial⟩
  all_goals
    intro z
    idx_vars z
    rw [spot _ _ _ _ (by omega)]
    unfold_payloads
    pointwise
  · exact (turned_at x0 x4 x5 x6 x7 z0 7 z1).symm
  · exact (turned_at x0 x4 x5 x6 x7 z0 3 z1).symm
  · exact (turned_at x0 x4 x5 x6 x7 z0 6 z1).symm
  · exact (turned_at x0 x4 x5 x6 x7 z0 2 z1).symm
  · exact (turned_at x0 x4 x5 x6 x7 z0 5 z1).symm
  · exact (turned_at x0 x4 x5 x6 x7 z0 1 z1).symm
  · exact (turned_at x0 x4 x5 x6 x7 z0 4 z1).symm
  · have h := turned_at x0 x4 x5 x6 x7 z0 0 z1
    simp only [lane, Fin.val_zero, zero_mul, zero_add] at h
    exact h.symm

end Tiles

end Kernel

end Cert.Prep

end
-- ==== Proof.Prep.Kernel.lean ====
/- What the decoding step's preparation leaves, of its arguments (hand-written, untrusted). -/
module

public import proofs.«01_k».proof.Proof.Prep.Block
public import proofs.«01_k».proof.Proof.Ret.Tables
public import Idealize.ShloMosaic.Lib.StableHlo.ReadAt

@[expose] public section

set_option maxRecDepth 16384

noncomputable section

namespace Cert.Prep

open Idealize.ShloMosaic
open Cert.Ret Cert.Ret.Tables

/-- The decoded token's rotation tables, the keys' with their scale. -/
def cosNow (g : Fin 8) (d : Fin 128) : EReal := ofHead ((cosines 16384 d : ℝ) : EReal) ((cosines 16384 d * keyScale : ℝ) : EReal) g
def sinNow (g : Fin 8) (d : Fin 128) : EReal := ofHead ((sines 16384 d : ℝ) : EReal) ((sines 16384 d * keyScale : ℝ) : EReal) g

/-- The printed position of the decoded token. -/
theorem position_coe : Ideal.ofBits .f32 0x46800000#32 = ((16384 : ℝ) : EReal) := by
  simp [Ideal.ofBits, Ideal.ieee]; rw [← EReal.coe_mul]; congr 1; norm_num

/-- The decoded token's angle, as the kernel's host code computes it. -/
theorem now_at (d : ℕ) (hd : d < 64) : ((16384 : ℝ) : EReal) *
    Ideal.pow ((10000 : ℝ) : EReal) (-Ideal.div (FloatOps.sitofp (F := Ideal) FTy.f32 (BitVec.ofNat 32 d)) ((64 : ℝ) : EReal)) = ((angle 16384 d : ℝ) : EReal) := by
  show _ * Ideal.pow _ (-Ideal.div ((((BitVec.ofNat 32 d).toInt : ℝ)) : EReal) _) = _
  rw [count_coe _ (by omega), Ideal.div_coe (by norm_num), ← EReal.coe_mul, ← EReal.coe_neg,
    Ideal.pow_coe_coe, ← EReal.coe_mul, angle, show -((d : ℝ) * (1 / 64)) = -((d : ℝ) / 64) by ring]
  norm_num

namespace Kernel

open Idealize.ShloMosaic.TcCoe Idealize.SL.Sem
open Cert.Kernel9Ideal Cert.Kernel9Ideal.Gen Cert.Kernel9Ideal.Value

/-- Every input window's block begins at its array's origin. -/
theorem place : ∀ t : Fin cfg0.N, win0_0.index t = ![0, 0] ∧ win0_3.index t = ![0, 0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![0, 0] := by decide +kernel

variable (m : (ℓ : Loc nD τ sig) → Buf (Elt Ideal) ℓ) (c : Dev nD)

theorem host_kept (s : Fin 3) (b : Fin 128) (j : Fin 2048) : (V m c main_v5 : Vec Ideal S3x128x2048 .f32) (ix3 s b j)
    = m ((c : Thread nD τ).loc main_arg3) (ix3 b s j) := by
  simp only [V, List.flatten_cons, List.flatten_nil, List.append_nil, List.cons_append, List.nil_append]
  after_reads_at
theorem host_bound (j : Fin 1024) : (V m c main_v6 : Vec Ideal S1x1024 .f32) (ix2 0 j)
    = m ((c : Thread nD τ).loc main_arg4) (ix1 j) := by
  simp only [V, List.flatten_cons, List.flatten_nil, List.append_nil, List.cons_append, List.nil_append]
  after_reads_at
theorem host_bias (j : Fin 2048) : (V m c main_v26 : Vec Ideal S1x2048 .f32) (ix2 0 j)
    = m ((c : Thread nD τ).loc main_arg6) (ix1 j) := by
  simp only [V, List.flatten_cons, List.flatten_nil, List.append_nil, List.cons_append, List.nil_append]
  after_reads_at

set_option maxHeartbeats 4000000 in
theorem host_cos (b d : Fin 128) : V m c main_v19 (ix2 b d) = ((cosines 16384 d : ℝ) : EReal) := by
  simp only [V, List.flatten_cons, List.flatten_nil, List.append_nil, List.cons_append, List.nil_append]
  after_reads_at
  rw [base_coe, sixtyFour_coe, position_coe]
  unfold cosines
  by_cases hd : d.val < 64
  · rw [dif_pos hd, if_pos hd, now_at _ hd, Ideal.cos_coe]
  · rw [dif_neg hd, if_neg hd, now_at _ (by omega), Ideal.cos_coe]

set_option maxHeartbeats 4000000 in
theorem host_sin (b d : Fin 128) : V m c main_v21 (ix2 b d) = ((sines 16384 d : ℝ) : EReal) := by
  simp only [V, List.flatten_cons, List.flatten_nil, List.append_nil, List.cons_append, List.nil_append]
  after_reads_at
  rw [base_coe, sixtyFour_coe, position_coe]
  unfold sines
  by_cases hd : d.val < 64
  · rw [dif_pos hd, if_pos hd, now_at _ hd, Ideal.sin_coe, EReal.coe_neg]
  · rw [dif_neg hd, if_neg hd, now_at _ (by omega), Ideal.sin_coe]

set_option maxHeartbeats 4000000 in
theorem host_cos_scaled (b d : Fin 128) : V m c main_v23 (ix2 b d) = ((cosines 16384 d * keyScale : ℝ) : EReal) := by
  simp only [V, List.flatten_cons, List.flatten_nil, List.append_nil, List.cons_append, List.nil_append]
  after_reads_at
  after_reads_at
  rw [base_coe, sixtyFour_coe, position_coe, keyScale_coe, EReal.coe_mul]
  unfold cosines
  by_cases hd : d.val < 64
  · rw [dif_pos hd, if_pos hd, now_at _ hd, Ideal.cos_coe]
  · rw [dif_neg hd, if_neg hd, now_at _ (by omega), Ideal.cos_coe]

set_option maxHeartbeats 4000000 in
theorem host_sin_scaled (b d : Fin 128) : V m c main_v25 (ix2 b d) = ((sines 16384 d * keyScale : ℝ) : EReal) := by
  simp only [V, List.flatten_cons, List.flatten_nil, List.append_nil, List.cons_append, List.nil_append]
  after_reads_at
  after_reads_at
  rw [base_coe, sixtyFour_coe, position_coe, keyScale_coe, EReal.coe_mul]
  unfold sines
  by_cases hd : d.val < 64
  · rw [dif_pos hd, if_pos hd, now_at _ hd, Ideal.sin_coe, EReal.coe_neg]
  · rw [dif_neg hd, if_neg hd, now_at _ (by omega), Ideal.sin_coe]

theorem read_proj (t : Fin cfg0.N) (b : Fin 128) (j : Fin 13312) : (iblk m c 0 t : Vec Ideal S128x13312 .f32) (ix2 b j)
    = m ((c : Thread nD τ).loc main_arg0) (ix2 b j) := by
  have e := place t
  blk_ext [iblk, V_main_arg0, e]
theorem read_kept (t : Fin cfg0.N) (s : Fin 3) (b : Fin 128) (j : Fin 2048) : (iblk m c 3 t : Vec Ideal S3x128x2048 .f32) (ix3 s b j)
    = m ((c : Thread nD τ).loc main_arg3) (ix3 b s j) := by
  rw [← host_kept m c]
  have e := place t
  blk_ext [iblk, e]
theorem read_cos (t : Fin cfg0.N) (b d : Fin 128) : (iblk m c 4 t : Vec Ideal S128x128 .f32) (ix2 b d) = ((cosines 16384 d : ℝ) : EReal) := by
  rw [← host_cos m c b]
  have e := place t
  blk_ext [iblk, e]
theorem read_sin (t : Fin cfg0.N) (b d : Fin 128) : (iblk m c 5 t : Vec Ideal S128x128 .f32) (ix2 b d) = ((sines 16384 d : ℝ) : EReal) := by
  rw [← host_sin m c b]
  have e := place t
  blk_ext [iblk, e]
theorem read_cos_scaled (t : Fin cfg0.N) (b d : Fin 128) : (iblk m c 6 t : Vec Ideal S128x128 .f32) (ix2 b d)
    = ((cosines 16384 d * keyScale : ℝ) : EReal) := by
  rw [← host_cos_scaled m c b]
  have e := place t
  blk_ext [iblk, e]
theorem read_sin_scaled (t : Fin cfg0.N) (b d : Fin 128) : (iblk m c 7 t : Vec Ideal S128x128 .f32) (ix2 b d)
    = ((sines 16384 d * keyScale : ℝ) : EReal) := by
  rw [← host_sin_scaled m c b]
  have e := place t
  blk_ext [iblk, e]
theorem read_bound (t : Fin cfg0.N) (j : Fin 1024) : (iblk m c 8 t : Vec Ideal S1x1024 .f32) (ix2 0 j)
    = m ((c : Thread nD τ).loc main_arg4) (ix1 j) := by
  rw [← host_bound m c]
  have e := place t
  blk_ext [iblk, e]
theorem read_weight (t : Fin cfg0.N) (s : Fin 4) (j : Fin 2048) : (iblk m c 9 t : Vec Ideal S4x2048 .f32) (ix2 s j)
    = m ((c : Thread nD τ).loc main_arg5) (ix2 s j) := by
  have e := place t
  blk_ext [iblk, V_main_arg5, e]
theorem read_bias (t : Fin cfg0.N) (j : Fin 2048) : (iblk m c 10 t : Vec Ideal S1x2048 .f32) (ix2 0 j)
    = m ((c : Thread nD τ).loc main_arg6) (ix1 j) := by
  rw [← host_bias m c]
  have e := place t
  blk_ext [iblk, e]

end Kernel

/-! ## The results, of the arguments -/

section Results
variable (p : (⟨2, ![128, 13312]⟩ : Shape).Idx → EReal) (s : (⟨3, ![128, 3, 2048]⟩ : Shape).Idx → EReal) (lb : (⟨1, ![1024]⟩ : Shape).Idx → EReal)
  (w : (⟨2, ![4, 2048]⟩ : Shape).Idx → EReal) (bias : (⟨1, ![2048]⟩ : Shape).Idx → EReal)

/-- The queries and keys turned to the decoded token's position, the keys scaled. -/
def heads (b : Fin 128) (j : Fin 1024) : EReal := turned (fun j => p (ix2 b ⟨j.val, by omega⟩)) cosNow sinNow j

/-- The gated recurrence's queries and forget gates. -/
def gates (b : Fin 128) (j : Fin 2048) : EReal :=
  if h : j.val < 1024 then silu (p (ix2 b ⟨3072 + j.val, by omega⟩))
  else forget (lb (ix1 ⟨j.val - 1024, by omega⟩)) (p (ix2 b ⟨3072 + j.val, by omega⟩))

/-- The convolution with its activation. -/
def channels (b : Fin 128) (j : Fin 2048) : EReal :=
  silu (convolved (fun k => s (ix3 b k j)) (p (ix2 b ⟨8192 + j.val, by omega⟩)) (fun k => w (ix2 k j)) (bias (ix1 j)))

/-- The inputs kept for the next token. -/
def kept (k : Fin 3) (b : Fin 128) (j : Fin 2048) : EReal := shifted (fun k => s (ix3 b k j)) (p (ix2 b ⟨8192 + j.val, by omega⟩)) k

end Results

namespace Kernel

open Idealize.ShloMosaic.TcCoe Idealize.SL.Sem
open Cert.Kernel9Ideal Cert.Kernel9Ideal.Gen Cert.Kernel9Ideal.Value

variable (m : (ℓ : Loc nD τ sig) → Buf (Elt Ideal) ℓ) (c : Dev nD)

/-- Every output window's block is its whole array. -/
theorem origin : ∀ t : Fin cfg0.N, win0_14.index t = 0 ∧ win0_15.index t = 0 ∧ win0_16.index t = 0 ∧ win0_17.index t = 0
    ∧ win0_20.index t = 0 := by decide +kernel

theorem whole14 (t : Fin cfg0.N) (y : S128x1024.Idx) : ((View.whole main_v31_0).slice (win0_14.rect t)).emb y = y := by
  funext k
  apply Fin.ext
  show win0_14.index t k * S128x1024.size k + 1 * (y k).val = (y k).val
  rw [(origin t).1, Pi.zero_apply, zero_mul, zero_add, one_mul]
theorem whole15 (t : Fin cfg0.N) (y : S128x2048.Idx) : ((View.whole main_v31_1).slice (win0_15.rect t)).emb y = y := by
  funext k
  apply Fin.ext
  show win0_15.index t k * S128x2048.size k + 1 * (y k).val = (y k).val
  rw [(origin t).2.1, Pi.zero_apply, zero_mul, zero_add, one_mul]
theorem whole16 (t : Fin cfg0.N) (y : S128x1024.Idx) : ((View.whole main_v31_2).slice (win0_16.rect t)).emb y = y := by
  funext k
  apply Fin.ext
  show win0_16.index t k * S128x1024.size k + 1 * (y k).val = (y k).val
  rw [(origin t).2.2.1, Pi.zero_apply, zero_mul, zero_add, one_mul]
theorem whole17 (t : Fin cfg0.N) (y : S128x1024.Idx) : ((View.whole main_v31_3).slice (win0_17.rect t)).emb y = y := by
  funext k
  apply Fin.ext
  show win0_17.index t k * S128x1024.size k + 1 * (y k).val = (y k).val
  rw [(origin t).2.2.2.1, Pi.zero_apply, zero_mul, zero_add, one_mul]
theorem whole20 (t : Fin cfg0.N) (y : S3x128x2048.Idx) : ((View.whole main_v31_6).slice (win0_20.rect t)).emb y = y := by
  funext k
  apply Fin.ext
  show win0_20.index t k * S3x128x2048.size k + 1 * (y k).val = (y k).val
  rw [(origin t).2.2.2.2, Pi.zero_apply, zero_mul, zero_add, one_mul]

/-- The convolution of the blocks is the arguments'. -/
theorem conv_args (t : Fin cfg0.N) (b : Fin 128) (j : Fin 2048) :
    silu (conv (iblk m c 0 t) (iblk m c 3 t) (iblk m c 9 t) (iblk m c 10 t) b j)
      = channels (m ((c : Thread nD τ).loc main_arg0)) (m ((c : Thread nD τ).loc main_arg3)) (m ((c : Thread nD τ).loc main_arg5))
          (m ((c : Thread nD τ).loc main_arg6)) b j := by
  unfold conv fresh channels
  simp only [read_proj, read_kept, read_weight, read_bias]

/-- The first result. -/
theorem final_heads : (dats m 0 c).arrAt 14 cfg0.N
    = fun i : S128x1024.Idx => heads (m ((c : Thread nD τ).loc main_arg0)) (i 0) (i 1) := by
  refine (dats m 0 c).arrAt_eq_of_covers 14 _ (by decide +kernel) fun t hf y => ?_
  have e := place t
  blk_simp [e]
  rw [after0_14, whole14 t y]
  refine (out_turned _ _ _ _ _ _ _ _ _ _ _ _ _ _ y).trans ?_
  idx_vars y
  unfold columns heads cosNow sinNow
  simp only [read_proj, read_cos, read_sin, read_cos_scaled, read_sin_scaled]

/-- The second result. -/
theorem final_gates : (dats m 0 c).arrAt 15 cfg0.N
    = fun i : S128x2048.Idx => gates (m ((c : Thread nD τ).loc main_arg0)) (m ((c : Thread nD τ).loc main_arg4)) (i 0) (i 1) := by
  refine (dats m 0 c).arrAt_eq_of_covers 15 _ (by decide +kernel) fun t hf y => ?_
  have e := place t
  blk_simp [e]
  rw [after0_15, whole15 t y]
  refine (out_gated _ _ _ _ _ _ _ _ _ _ _ _ _ _ y).trans ?_
  idx_vars y
  unfold gated gates
  simp only [read_proj, read_bound]

/-- The third result. -/
theorem final_pair : (dats m 0 c).arrAt 16 cfg0.N
    = fun i : S128x1024.Idx => channels (m ((c : Thread nD τ).loc main_arg0)) (m ((c : Thread nD τ).loc main_arg3)) (m ((c : Thread nD τ).loc main_arg5))
          (m ((c : Thread nD τ).loc main_arg6)) (i 0) (swapped (i 1)) := by
  refine (dats m 0 c).arrAt_eq_of_covers 16 _ (by decide +kernel) fun t hf y => ?_
  have e := place t
  blk_simp [e]
  rw [after0_16, whole16 t y]
  refine (out_pair _ _ _ _ _ _ _ _ _ _ _ _ _ _ y).trans (conv_args m c t _ _)

/-- The fourth result. -/
theorem final_inputs : (dats m 0 c).arrAt 17 cfg0.N
    = fun i : S128x1024.Idx => channels (m ((c : Thread nD τ).loc main_arg0)) (m ((c : Thread nD τ).loc main_arg3)) (m ((c : Thread nD τ).loc main_arg5))
          (m ((c : Thread nD τ).loc main_arg6)) (i 0) (first (i 1)) := by
  refine (dats m 0 c).arrAt_eq_of_covers 17 _ (by decide +kernel) fun t hf y => ?_
  have e := place t
  blk_simp [e]
  rw [after0_17, whole17 t y]
  idx_vars y
  exact (out_inputs _ _ _ _ _ _ _ _ _ _ _ _ _ _ y0 y1).trans (conv_args m c t _ _)

/-- The fifth result. -/
theorem final_kept : (dats m 0 c).arrAt 20 cfg0.N
    = fun i : S3x128x2048.Idx => kept (m ((c : Thread nD τ).loc main_arg0)) (m ((c : Thread nD τ).loc main_arg3)) (i 0) (i 1) (i 2) := by
  refine (dats m 0 c).arrAt_eq_of_covers 20 _ (by decide +kernel) fun t hf y => ?_
  have e := place t
  blk_simp [e]
  rw [after0_20, whole20 t y]
  refine (out_kept _ _ _ _ _ _ _ _ _ _ _ _ _ _ y).trans ?_
  idx_vars y
  unfold fresh kept
  simp only [read_proj, read_kept]

end Kernel

end Cert.Prep

end
-- ==== Proof.Prep.Equal.lean ====
/- The decoding step's preparation: the reference, and the claim (hand-written, untrusted). -/
module

public import proofs.«01_k».proof.Defs
public import proofs.«01_k».proof.Proof.Gen.Kernel9.Frame
public import proofs.«01_k».proof.Proof.Gen.Reference9Ideal.Run
public import proofs.«01_k».proof.Proof.Prep.Kernel

@[expose] public section

set_option maxRecDepth 16384

noncomputable section

namespace Cert.Prep

open Idealize.ShloMosaic Idealize.ShloMosaic.TcCoe Idealize.SL.Sem
open Cert.Ret Cert.Ret.Tables

/-- The printed kernel's run: arguments unchanged, every counter back at zero. -/
theorem run_kernel : Cert.quiescent_Kernel9 (hKernel9 := Cert.Kernel9.Gen.facts) := fun m ρ _ => Cert.Kernel9.Gen.frame m ρ

/-- The same of its idealization. -/
theorem run_kernelIdeal : Cert.quiescent_Kernel9Ideal (hKernel9Ideal := Cert.Kernel9Ideal.Gen.facts) :=
  fun m ρ _ => Cert.Kernel9Ideal.Gen.frame m ρ

/-- The reference's run: it declares no semaphore, so it need only keep the arguments. -/
theorem run_referenceIdeal : Cert.quiescent_Reference9Ideal (hReference9Ideal := Cert.Reference9Ideal.Gen.facts) := fun m ρ _ =>
  (θ_run Cert.Reference9Ideal.defs _ _).mono
    (fun r h => ⟨fun c => (h c).2.2.2.2.2, Idealize.ShloMosaic.sem_eq_zero_of_no_sems (by decide) r.2⟩)
    (Cert.Reference9Ideal.Value.run (F := Ideal) m ρ)

/-- The decoded token's angle, as the reference computes it. -/
theorem ref_angle (d : ℕ) (hd : d < 64) : FloatOps.sitofp (F := Ideal) FTy.f32 (IntOp.addi (16384#32) (0#32)) *
    Ideal.pow (Ideal.ofBits FTy.f32 0x461C4000#32) (Ideal.div (-FloatOps.sitofp (F := Ideal) FTy.f32 (BitVec.ofNat 32 d)) (Ideal.ofBits FTy.f32 0x42800000#32))
      = ((angle 16384 d : ℝ) : EReal) := by
  rw [base_coe, sixtyFour_coe]
  show ((((BitVec.ofNat 32 16384).toInt : ℝ)) : EReal) * Ideal.pow _ (Ideal.div (-((((BitVec.ofNat 32 d).toInt : ℝ)) : EReal)) _) = _
  rw [count_coe _ (by omega), count_coe _ (by omega), Ideal.div_coe (by norm_num), ← EReal.coe_neg, ← EReal.coe_mul,
    Ideal.pow_coe_coe, ← EReal.coe_mul, angle, show -(d : ℝ) * (1 / 64) = -((d : ℝ) / 64) by ring]

/-- A lane of a head's first half turned. -/
theorem turn_low (x y : EReal) (d : ℕ) (hd : d < 64) : x * Ideal.cos ((angle 16384 d : ℝ) : EReal) - y * Ideal.sin ((angle 16384 d : ℝ) : EReal)
    = x * ((cosines 16384 d : ℝ) : EReal) + y * ((sines 16384 d : ℝ) : EReal) := by
  rw [cosines, sines, if_pos hd, if_pos hd, Ideal.cos_coe, Ideal.sin_coe, EReal.coe_neg, mul_neg, sub_eq_add_neg]

/-- A lane of a head's second half turned. -/
theorem turn_high (x y : EReal) (d : ℕ) (hd : ¬d < 64) :
    y * Ideal.sin ((angle 16384 (d - 64) : ℝ) : EReal) + x * Ideal.cos ((angle 16384 (d - 64) : ℝ) : EReal)
      = x * ((cosines 16384 d : ℝ) : EReal) + y * ((sines 16384 d : ℝ) : EReal) := by
  rw [cosines, sines, if_neg hd, if_neg hd, Ideal.cos_coe, Ideal.sin_coe, add_comm]

/-- The keys' scale is not negative. -/
theorem keyScale_nonneg : 0 ≤ keyScale := by
  unfold keyScale
  refine EReal.toReal_nonneg ?_
  simp only [Ideal.ofBits, Ideal.ieee]
  simp
  rw [← EReal.coe_mul]
  exact EReal.coe_nonneg.mpr (by positivity)

/-- The keys' scale moved into the tables. -/
theorem turn_scaled (x y : EReal) (a b : ℝ) : (x * (a : EReal) + y * (b : EReal)) * (keyScale : EReal)
    = x * ((a * keyScale : ℝ) : EReal) + y * ((b * keyScale : ℝ) : EReal) := by
  rw [EReal.right_distrib_of_nonneg_of_ne_top (EReal.coe_nonneg.mpr keyScale_nonneg) (EReal.coe_ne_top _), EReal.coe_mul, EReal.coe_mul,
    mul_assoc, mul_assoc]

/-- The convolution's terms in the reference's order. -/
theorem convolved_eq (kept : Fin 3 → EReal) (u : EReal) (w : Fin 4 → EReal) (bias : EReal) :
    kept 0 * w 0 + kept 1 * w 1 + kept 2 * w 2 + u * w 3 + bias = convolved kept u w bias := by
  unfold convolved
  rw [mul_comm (kept 0), mul_comm (kept 1), mul_comm (kept 2), mul_comm u]
  abel

namespace Reference

open Cert.Reference9Ideal Cert.Reference9Ideal.Gen Cert.Reference9Ideal.Value

variable (m : (ℓ : Loc nD τ sig) → Buf (Elt Ideal) ℓ) (c : Dev nD)

set_option maxHeartbeats 4000000 in
/-- The reference's turned queries and keys. -/
theorem ref_heads (b : Fin 128) (j : Fin 1024) : (res_main_v126 m c : FVec Ideal S128x1024 .f32) (ix2 b j)
    = heads (m ((c : Thread nD τ).loc main_arg0)) b j := by
  unfold res_main_v126
  generalize m ((c : Thread nD τ).loc main_arg0) = p
  pointwise
  have whole : j.val / 128 * 128 + j.val % 128 = j.val := by omega
  unfold heads turned cosNow sinNow ofHead
  by_cases h : j.val < 512
  · have q : j.val / 128 < 4 := by omega
    rw [dif_pos h]
    simp only [if_pos q]
    by_cases hd : j.val % 128 < 64
    · have other : (j.val % 128 + 128 - 64) % 128 = 64 + j.val % 128 := by omega
      rw [dif_pos hd, ref_angle _ hd, turn_low _ _ _ hd]
      simp only [whole, other]
    · have other : (j.val % 128 + 128 - 64) % 128 = j.val % 128 - 64 := by omega
      have back : 64 + (j.val % 128 - 64) = j.val % 128 := by omega
      rw [dif_neg hd, ref_angle _ (by omega), turn_high _ _ _ hd]
      simp only [back, whole, other]
  · have q : ¬j.val / 128 < 4 := by omega
    have low : (j.val - 512) % 128 = j.val % 128 := by omega
    have up : ∀ k, 512 + ((j.val - 512) / 128 * 128 + k) = j.val / 128 * 128 + k := by intro k; omega
    rw [dif_neg h]
    simp only [if_neg q, low, up]
    by_cases hd : j.val % 128 < 64
    · have other : (j.val % 128 + 128 - 64) % 128 = 64 + j.val % 128 := by omega
      rw [dif_pos hd, ref_angle _ hd, turn_low _ _ _ hd, keyScale_coe, turn_scaled]
      simp only [whole, other]
    · have other : (j.val % 128 + 128 - 64) % 128 = j.val % 128 - 64 := by omega
      have back : 64 + (j.val % 128 - 64) = j.val % 128 := by omega
      rw [dif_neg hd, ref_angle _ (by omega), turn_high _ _ _ hd, keyScale_coe, turn_scaled]
      simp only [back, whole, other]

/-- The reference's inputs of the recurrence. -/
theorem ref_inputs (b : Fin 128) (j : Fin 1024) : (res_main_v121 m c : FVec Ideal S128x1024 .f32) (ix2 b j)
    = channels (m ((c : Thread nD τ).loc main_arg0)) (m ((c : Thread nD τ).loc main_arg3)) (m ((c : Thread nD τ).loc main_arg5))
          (m ((c : Thread nD τ).loc main_arg6)) b (Kernel.first j) := by
  unfold res_main_v121 channels silu
  pointwise
  rw [← convolved_eq]
  rfl

/-- The reference's two projections of the recurrence. -/
theorem ref_pair (b : Fin 128) (j : Fin 1024) : (res_main_v128 m c : FVec Ideal S128x1024 .f32) (ix2 b j)
    = channels (m ((c : Thread nD τ).loc main_arg0)) (m ((c : Thread nD τ).loc main_arg3)) (m ((c : Thread nD τ).loc main_arg5))
          (m ((c : Thread nD τ).loc main_arg6)) b (Kernel.swapped j) := by
  unfold res_main_v128 channels silu Kernel.swapped
  pointwise
  rw [← convolved_eq]
  by_cases h : j.val < 512
  · rw [dif_pos h, dif_pos h]
  · rw [dif_neg h, dif_neg h]

end Reference

set_option maxHeartbeats 4000000 in
/-- Kernel and reference prepare the same decoding step. -/
theorem equal : Cert.algebraic_Kernel9Ideal_Reference9Ideal (hKernel9Ideal := Cert.Kernel9Ideal.Gen.facts)
    (hReference9Ideal := Cert.Reference9Ideal.Gen.facts) := by
  intro m ρ m' ρ' _ hargs
  refine ⟨fun c => (Cert.Kernel9Ideal.Gen.dats m 0 c).arrAt 14 Cert.Kernel9Ideal.cfg0.N, fun c => (Cert.Kernel9Ideal.Gen.dats m 0 c).arrAt 15 Cert.Kernel9Ideal.cfg0.N,
    fun c => (Cert.Kernel9Ideal.Gen.dats m 0 c).arrAt 16 Cert.Kernel9Ideal.cfg0.N, fun c => (Cert.Kernel9Ideal.Gen.dats m 0 c).arrAt 17 Cert.Kernel9Ideal.cfg0.N,
    fun c => (Cert.Kernel9Ideal.Gen.dats m 0 c).arrAt 20 Cert.Kernel9Ideal.cfg0.N, ?_, ?_⟩
  · refine (θ_run Cert.Kernel9Ideal.defs _ _).mono (fun r h c => ?_) (Cert.Kernel9Ideal.Value.run_blocks m ρ)
    obtain ⟨h0, h1, h2, h3, _, _, h6, h⟩ := h c
    exact ⟨h0, h1, h2, h3, h6, h⟩
  refine (θ_run Cert.Reference9Ideal.defs _ _).mono (fun r h c => ?_) (Cert.Reference9Ideal.Value.run (F := Ideal) m' ρ')
  obtain ⟨h0, h1, h2, h3, h4, h⟩ := h c
  obtain ⟨a0, a1, a2, a3, a4, a5, a6, a7, a8⟩ := hargs c
  refine ⟨h0.trans (Eq.trans ?_ (Kernel.final_heads m c).symm), h1.trans (Eq.trans ?_ (Kernel.final_gates m c).symm),
    h2.trans (Eq.trans ?_ (Kernel.final_pair m c).symm), h3.trans (Eq.trans ?_ (Kernel.final_inputs m c).symm),
    h4.trans (Eq.trans ?_ (Kernel.final_kept m c).symm), h⟩
  · funext i
    idx_vars i
    refine (Reference.ref_heads m' c i0 i1).trans ?_
    rw [a0]
  · rw [a0, a4]
    funext i
    idx_vars i
    generalize m ((c : Thread Cert.Kernel9Ideal.nD Cert.Kernel9Ideal.τ).loc Cert.Kernel9Ideal.main_arg0) = p
    generalize m ((c : Thread Cert.Kernel9Ideal.nD Cert.Kernel9Ideal.τ).loc Cert.Kernel9Ideal.main_arg4) = lb
    simp only [id_eq]
    pointwise
    unfold gates silu forget
    by_cases h : i1.val < 1024
    · rw [dif_pos h, dif_pos h]
    · have at_gate : 4096 + (i1.val - 1024) = 3072 + i1.val := by omega
      rw [dif_neg h, dif_neg h]
      simp only [at_gate]
  · funext i
    idx_vars i
    refine (Reference.ref_pair m' c i0 i1).trans ?_
    rw [a0, a3, a5, a6]
  · funext i
    idx_vars i
    refine (Reference.ref_inputs m' c i0 i1).trans ?_
    rw [a0, a3, a5, a6]
  · rw [a0, a3]
    funext i
    idx_vars i
    generalize m ((c : Thread Cert.Kernel9Ideal.nD Cert.Kernel9Ideal.τ).loc Cert.Kernel9Ideal.main_arg0) = p
    generalize m ((c : Thread Cert.Kernel9Ideal.nD Cert.Kernel9Ideal.τ).loc Cert.Kernel9Ideal.main_arg3) = s
    pointwise
    fin_cases i0 <;> rfl

end Cert.Prep

end
-- ==== Proof.lean ====
/- The certificate's proof: the retention mixer from `Ret`, the input projection from `Proj`, the feed-forward network from
   `Ffn`, the merge of the branches from `Merge`, the three decoding steps from `RetDec`,
   `HgDec` and `SsdDec`, their preparation from `Prep`, the feed-forward network at the sample's rows from `FfnDec`. -/
module

public import proofs.«01_k».proof.Defs
public import proofs.«01_k».proof.Proof.Ret.Frames
public import proofs.«01_k».proof.Proof.Ret.Equal
public import proofs.«01_k».proof.Proof.Proj.Equal
public import proofs.«01_k».proof.Proof.Ffn.Equal
public import proofs.«01_k».proof.Proof.Merge.Equal
public import proofs.«01_k».proof.Proof.RetDec.Equal
public import proofs.«01_k».proof.Proof.HgDec.Equal
public import proofs.«01_k».proof.Proof.FfnDec.Equal
public import proofs.«01_k».proof.Proof.SsdDec.Equal
public import proofs.«01_k».proof.Proof.Prep.Equal
public import proofs.«01_k».proof.Proof.Gen.ReferenceIdeal.Step
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Cert.Ret.finite_facts,
    Cert.Ret.run_kernel, Cert.Ret.run_kernelIdeal, Cert.Ret.run_kernelIdeal_finite, Cert.Ret.run_referenceIdeal,
    Cert.Ret.run_referenceIdeal_finite,
    Cert.Proj.run_kernel, Cert.Proj.run_kernelIdeal, Cert.Proj.run_referenceIdeal,
    Cert.Ffn.run_kernel, Cert.Ffn.run_kernelIdeal, Cert.Ffn.run_referenceIdeal,
    Cert.Merge.run_kernel, Cert.Merge.run_kernelIdeal, Cert.Merge.run_referenceIdeal,
    Cert.RetDec.run_kernel, Cert.RetDec.run_kernelIdeal, Cert.RetDec.run_referenceIdeal,
    Cert.HgDec.run_kernel, Cert.HgDec.run_kernelIdeal, Cert.HgDec.run_referenceIdeal,
    Cert.FfnDec.run_kernel, Cert.FfnDec.run_kernelIdeal, Cert.FfnDec.run_referenceIdeal,
    Cert.SsdDec.run_kernel, Cert.SsdDec.run_kernelIdeal, Cert.SsdDec.run_referenceIdeal,
    Cert.Prep.run_kernel, Cert.Prep.run_kernelIdeal, Cert.Prep.run_referenceIdeal,
    Cert.Ret.named_decays, Cert.Ret.equal, trivial, Cert.Proj.equal, trivial, Cert.Ffn.equal, trivial, Cert.Merge.equal,
    trivial, Cert.RetDec.equal, trivial, Cert.HgDec.equal, trivial, Cert.FfnDec.equal,
    trivial, Cert.SsdDec.equal, trivial, Cert.Prep.equal⟩

end Cert.Proof

end
